-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v18_0)) (v1 : (c : Dev Cert.InIdeal.nD) → Buf (Elt Ideal) ((c.tc : Thread Cert.InIdeal.nD Cert.InIdeal.τ).loc Cert.InIdeal.main_v18_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v18_0) = v0 c
          ∧ r.2.mem ((c.tc : Thread Cert.InIdeal.nD Cert.InIdeal.τ).loc Cert.InIdeal.main_v18_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v30) = v0 c
          ∧ r.2.mem ((c.tc : Thread Cert.InRefIdeal.nD Cert.InRefIdeal.τ).loc Cert.InRefIdeal.main_v29) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v10) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v32) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v4)) (v1 : (c : Dev Cert.PrepIdeal.nD) → Buf (Elt Ideal) ((c.tc : Thread Cert.PrepIdeal.nD Cert.PrepIdeal.τ).loc Cert.PrepIdeal.main_v5)) (v2 : (c : Dev Cert.PrepIdeal.nD) → Buf (Elt Ideal) ((c.tc : Thread Cert.PrepIdeal.nD Cert.PrepIdeal.τ).loc Cert.PrepIdeal.main_v6)) (v3 : (c : Dev Cert.PrepIdeal.nD) → Buf (Elt Ideal) ((c.tc : Thread Cert.PrepIdeal.nD Cert.PrepIdeal.τ).loc Cert.PrepIdeal.main_v3_3)) (v4 : (c : Dev Cert.PrepIdeal.nD) → Buf (Elt Ideal) ((c.tc : Thread Cert.PrepIdeal.nD Cert.PrepIdeal.τ).loc Cert.PrepIdeal.main_v3_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4) = v0 c
          ∧ r.2.mem ((c.tc : Thread Cert.PrepIdeal.nD Cert.PrepIdeal.τ).loc Cert.PrepIdeal.main_v5) = v1 c
          ∧ r.2.mem ((c.tc : Thread Cert.PrepIdeal.nD Cert.PrepIdeal.τ).loc Cert.PrepIdeal.main_v6) = v2 c
          ∧ r.2.mem ((c.tc : Thread Cert.PrepIdeal.nD Cert.PrepIdeal.τ).loc Cert.PrepIdeal.main_v3_3) = v3 c
          ∧ r.2.mem ((c.tc : Thread Cert.PrepIdeal.nD Cert.PrepIdeal.τ).loc Cert.PrepIdeal.main_v3_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v45) = v0 c
          ∧ r.2.mem ((c.tc : Thread Cert.PrepRefIdeal.nD Cert.PrepRefIdeal.τ).loc Cert.PrepRefIdeal.main_v47) = v1 c
          ∧ r.2.mem ((c.tc : Thread Cert.PrepRefIdeal.nD Cert.PrepRefIdeal.τ).loc Cert.PrepRefIdeal.main_v49) = v2 c
          ∧ r.2.mem ((c.tc : Thread Cert.PrepRefIdeal.nD Cert.PrepRefIdeal.τ).loc Cert.PrepRefIdeal.main_v50) = v3 c
          ∧ r.2.mem ((c.tc : Thread Cert.PrepRefIdeal.nD Cert.PrepRefIdeal.τ).loc Cert.PrepRefIdeal.main_v51) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hKernel : Cert.Kernel.Facts) (hReference : Cert.Reference.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hAda : Cert.Ada.Facts) (hAdaIdeal : Cert.AdaIdeal.Facts) (hAdaRefIdeal : Cert.AdaRefIdeal.Facts) (hMix : Cert.Mix.Facts) (hMixIdeal : Cert.MixIdeal.Facts) (hMixRefIdeal : Cert.MixRefIdeal.Facts) (hPrep : Cert.Prep.Facts) (hPrepIdeal : Cert.PrepIdeal.Facts) (hPrepRefIdeal : Cert.PrepRefIdeal.Facts),
    quiescent_Kernel (hKernel := hKernel)
    ∧ quiescent_Reference (hReference := hReference)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Ada (hAda := hAda)
    ∧ quiescent_AdaIdeal (hAdaIdeal := hAdaIdeal)
    ∧ quiescent_AdaRefIdeal (hAdaRefIdeal := hAdaRefIdeal)
    ∧ quiescent_Mix (hMix := hMix)
    ∧ quiescent_MixIdeal (hMixIdeal := hMixIdeal)
    ∧ quiescent_MixRefIdeal (hMixRefIdeal := hMixRefIdeal)
    ∧ quiescent_Prep (hPrep := hPrep)
    ∧ quiescent_PrepIdeal (hPrepIdeal := hPrepIdeal)
    ∧ quiescent_PrepRefIdeal (hPrepRefIdeal := hPrepRefIdeal)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Ada_AdaIdeal
    ∧ algebraic_AdaIdeal_AdaRefIdeal (hAdaIdeal := hAdaIdeal) (hAdaRefIdeal := hAdaRefIdeal)
    ∧ preserves_Mix_MixIdeal
    ∧ algebraic_MixIdeal_MixRefIdeal (hMixIdeal := hMixIdeal) (hMixRefIdeal := hMixRefIdeal)
    ∧ preserves_Prep_PrepIdeal
    ∧ algebraic_PrepIdeal_PrepRefIdeal (hPrepIdeal := hPrepIdeal) (hPrepRefIdeal := hPrepRefIdeal)
-- ==== Kernel.lean ====
abbrev S2x16384x1024 : Shape := ⟨3, ![2, 16384, 1024]⟩
abbrev S2x16384x128 : Shape := ⟨3, ![2, 16384, 128]⟩
abbrev S2x16384 : Shape := ⟨2, ![2, 16384]⟩
abbrev S2x16384x1 : Shape := ⟨3, ![2, 16384, 1]⟩
abbrev S2x64x1x256 : Shape := ⟨4, ![2, 64, 1, 256]⟩
abbrev S2x1024x16x16x64 : Shape := ⟨5, ![2, 1024, 16, 16, 64]⟩
abbrev S2x16384x64 : Shape := ⟨3, ![2, 16384, 64]⟩
abbrev S2x64x256x64 : Shape := ⟨4, ![2, 64, 256, 64]⟩
abbrev S2x64x64x256 : Shape := ⟨4, ![2, 64, 64, 256]⟩
abbrev S2x16384x16384 : Shape := ⟨3, ![2, 16384, 16384]⟩
abbrev S1x8x16x16x64 : Shape := ⟨5, ![1, 8, 16, 16, 64]⟩
abbrev S1x64x64x256 : Shape := ⟨4, ![1, 64, 64, 256]⟩
abbrev S1x128x128 : Shape := ⟨3, ![1, 128, 128]⟩
abbrev S1x128x1 : Shape := ⟨3, ![1, 128, 1]⟩
abbrev S1x64x1x256 : Shape := ⟨4, ![1, 64, 1, 256]⟩
abbrev S1x16384x128 : Shape := ⟨3, ![1, 16384, 128]⟩
abbrev S64x128x256 : Shape := ⟨3, ![64, 128, 256]⟩
abbrev S16x128x128 : Shape := ⟨3, ![16, 128, 128]⟩
abbrev S128x256 : Shape := ⟨2, ![128, 256]⟩
abbrev S128x128 : Shape := ⟨2, ![128, 128]⟩
abbrev S128x1 : Shape := ⟨2, ![128, 1]⟩
abbrev S1x1x64x256 : Shape := ⟨4, ![1, 1, 64, 256]⟩
abbrev S64x256 : Shape := ⟨2, ![64, 256]⟩
abbrev S1x1x1x256 : Shape := ⟨4, ![1, 1, 1, 256]⟩
abbrev S1x256 : Shape := ⟨2, ![1, 256]⟩
abbrev S1x1x16x16x64 : Shape := ⟨5, ![1, 1, 16, 16, 64]⟩
abbrev S16x16x64 : Shape := ⟨3, ![16, 16, 64]⟩
abbrev S256x64 : Shape := ⟨2, ![256, 64]⟩
abbrev S256x256 : Shape := ⟨2, ![256, 256]⟩
abbrev S16x256 : Shape := ⟨2, ![16, 256]⟩
abbrev S1x16x128 : Shape := ⟨3, ![1, 16, 128]⟩
abbrev S16x128 : Shape := ⟨2, ![16, 128]⟩
abbrev S1x16x1 : Shape := ⟨3, ![1, 16, 1]⟩
abbrev S16x1 : Shape := ⟨2, ![16, 1]⟩
abbrev S1x16x256 : Shape := ⟨3, ![1, 16, 256]⟩
abbrev S1x128x256 : Shape := ⟨3, ![1, 128, 256]⟩
abbrev S128 : Shape := ⟨1, ![128]⟩
abbrev S1 : Shape := ⟨1, ![1]⟩
abbrev S1x1x1 : Shape := ⟨3, ![1, 1, 1]⟩
abbrev S256x128 : Shape := ⟨2, ![256, 128]⟩
abbrev S1x256x128 : Shape := ⟨3, ![1, 256, 128]⟩

abbrev nBuf : Space → Nat
  | .hbm => 12
  | .vmem => 15
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x128, .f32⟩
  | .hbm, ⟨2, _⟩ => ⟨S2x16384, .i32⟩
  | .hbm, ⟨3, _⟩ => ⟨S2x16384x1, .i32⟩
  | .hbm, ⟨4, _⟩ => ⟨S2x64x1x256, .i32⟩
  | .hbm, ⟨5, _⟩ => ⟨S2x1024x16x16x64, .bf16⟩
  | .hbm, ⟨6, _⟩ => ⟨S2x1024x16x16x64, .bf16⟩
  | .hbm, ⟨7, _⟩ => ⟨S2x16384x64, .f32⟩
  | .hbm, ⟨8, _⟩ => ⟨S2x16384x64, .bf16⟩
  | .hbm, ⟨9, _⟩ => ⟨S2x64x256x64, .bf16⟩
  | .hbm, ⟨10, _⟩ => ⟨S2x64x64x256, .bf16⟩
  | .hbm, ⟨11, _⟩ => ⟨S2x16384x16384, .bf16⟩
  | .local _ .vmem, ⟨0, _⟩ => ⟨S1x8x16x16x64, .bf16⟩
  | .local _ .vmem, ⟨1, _⟩ => ⟨S1x8x16x16x64, .bf16⟩
  | .local _ .vmem, ⟨2, _⟩ => ⟨S1x64x64x256, .bf16⟩
  | .local _ .vmem, ⟨3, _⟩ => ⟨S1x64x64x256, .bf16⟩
  | .local _ .vmem, ⟨4, _⟩ => ⟨S1x128x128, .f32⟩
  | .local _ .vmem, ⟨5, _⟩ => ⟨S1x128x128, .f32⟩
  | .local _ .vmem, ⟨6, _⟩ => ⟨S1x128x1, .i32⟩
  | .local _ .vmem, ⟨7, _⟩ => ⟨S1x128x1, .i32⟩
  | .local _ .vmem, ⟨8, _⟩ => ⟨S1x64x1x256, .i32⟩
  | .local _ .vmem, ⟨9, _⟩ => ⟨S1x64x1x256, .i32⟩
  | .local _ .vmem, ⟨10, _⟩ => ⟨S1x16384x128, .bf16⟩
  | .local _ .vmem, ⟨11, _⟩ => ⟨S1x16384x128, .bf16⟩
  | .local _ .vmem, ⟨12, _⟩ => ⟨S64x128x256, .i32⟩
  | .local _ .vmem, ⟨13, _⟩ => ⟨S16x128x128, .f32⟩
  | .local _ .vmem, ⟨14, _⟩ => ⟨S128x256, .i32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![2, 128], ![false, false]⟩

@[reducible] def k0_t1_loop (i : grid0.Coords) : Scf.Loop 32 :=
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_54 : BitVec 32 := 1#32
  ⟨c0_i32_52, v146, c1_i32_54⟩
def k0_off1 (i : grid0.Coords) (k0_t1 : Fin (k0_t1_loop i).trips) : Fin 4 → Nat :=
  let c0_90 : Index := 0#32
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v214 : Index := Scalar.indexCast v213
  let c0_91 : Index := 0#32
  let c0_92 : Index := 0#32
  ![0, v214.toNat, 0, 0]
def k0_off2 (i : grid0.Coords) (k0_t1 : Fin (k0_t1_loop i).trips) : Fin 4 → Nat :=
  let c0_93 : Index := 0#32
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v217 : Index := Scalar.indexCast v213
  let c0_94 : Index := 0#32
  let c0_95 : Index := 0#32
  ![0, v217.toNat, 0, 0]
def k0_off3 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v418 : Index := Scalar.indexCast v213
  let c0_172 : Index := 0#32
  let c0_173 : Index := 0#32
  ![v418.toNat, 0, 0]
def k0_off4 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v623 : Index := Scalar.indexCast v213
  let c16_255 : Index := 16#32
  let c0_256 : Index := 0#32
  ![v623.toNat, 16, 0]
def k0_off5 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v828 : Index := Scalar.indexCast v213
  let c32_338 : Index := 32#32
  let c0_339 : Index := 0#32
  ![v828.toNat, 32, 0]
def k0_off6 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v1033 : Index := Scalar.indexCast v213
  let c48_421 : Index := 48#32
  let c0_422 : Index := 0#32
  ![v1033.toNat, 48, 0]
def k0_off7 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v1238 : Index := Scalar.indexCast v213
  let c64_504 : Index := 64#32
  let c0_505 : Index := 0#32
  ![v1238.toNat, 64, 0]
def k0_off8 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v1443 : Index := Scalar.indexCast v213
  let c80_587 : Index := 80#32
  let c0_588 : Index := 0#32
  ![v1443.toNat, 80, 0]
def k0_off9 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v1648 : Index := Scalar.indexCast v213
  let c96_670 : Index := 96#32
  let c0_671 : Index := 0#32
  ![v1648.toNat, 96, 0]
def k0_off10 (i : grid0.Coords) (k0_t1 : Fin (k0_t1_loop i).trips) : Fin 3 → Nat :=
  let c2_i32_89 : BitVec 32 := 2#32
  let c0_i32_52 : BitVec 32 := 0#32
  let c1_i32_54 : BitVec 32 := 1#32
  let arg11 : BitVec 32 := Scf.iv c0_i32_52 c1_i32_54 k0_t1
  let v213 : BitVec 32 := Scalar.muli c2_i32_89 arg11
  let v1853 : Index := Scalar.indexCast v213
  let c112_753 : Index := 112#32
  let c0_754 : Index := 0#32
  ![v1853.toNat, 112, 0]
def k0_off11 (i : grid0.Coords) (k0_t1 : Fin (k0_t1_loop i).trips) : Fin 4 → Nat :=
  let c0_761 : Index := 0#32
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v1864 : Index := Scalar.indexCast v1863
  let c0_762 : Index := 0#32
  let c0_763 : Index := 0#32
  ![0, v1864.toNat, 0, 0]
def k0_off12 (i : grid0.Coords) (k0_t1 : Fin (k0_t1_loop i).trips) : Fin 4 → Nat :=
  let c0_764 : Index := 0#32
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v1867 : Index := Scalar.indexCast v1863
  let c0_765 : Index := 0#32
  let c0_766 : Index := 0#32
  ![0, v1867.toNat, 0, 0]
def k0_off13 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v2068 : Index := Scalar.indexCast v1863
  let c0_846 : Index := 0#32
  let c0_847 : Index := 0#32
  ![v2068.toNat, 0, 0]
def k0_off14 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v2273 : Index := Scalar.indexCast v1863
  let c16_930 : Index := 16#32
  let c0_931 : Index := 0#32
  ![v2273.toNat, 16, 0]
def k0_off15 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v2478 : Index := Scalar.indexCast v1863
  let c32_1014 : Index := 32#32
  let c0_1015 : Index := 0#32
  ![v2478.toNat, 32, 0]
def k0_off16 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v2683 : Index := Scalar.indexCast v1863
  let c48_1098 : Index := 48#32
  let c0_1099 : Index := 0#32
  ![v2683.toNat, 48, 0]
def k0_off17 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v2888 : Index := Scalar.indexCast v1863
  let c64_1182 : Index := 64#32
  let c0_1183 : Index := 0#32
  ![v2888.toNat, 64, 0]
def k0_off18 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v3093 : Index := Scalar.indexCast v1863
  let c80_1266 : Index := 80#32
  let c0_1267 : Index := 0#32
  ![v3093.toNat, 80, 0]
def k0_off19 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v3298 : Index := Scalar.indexCast v1863
  let c96_1350 : Index := 96#32
  let c0_1351 : Index := 0#32
  ![v3298.toNat, 96, 0]
def k0_off20 (i : grid0.Coords) (k0_t1 : Fin (k0_t1_loop i).trips) : Fin 3 → Nat :=
  let c2_i32_759 : BitVec 32 := 2#32
  let c0_i32_52 : BitVec 32 := 0#32
  let c1_i32_54 : BitVec 32 := 1#32
  let arg11 : BitVec 32 := Scf.iv c0_i32_52 c1_i32_54 k0_t1
  let v1862 : BitVec 32 := Scalar.muli c2_i32_759 arg11
  let c1_i32_760 : BitVec 32 := 1#32
  let v1863 : BitVec 32 := Scalar.addi v1862 c1_i32_760
  let v3503 : Index := Scalar.indexCast v1863
  let c112_1434 : Index := 112#32
  let c0_1435 : Index := 0#32
  ![v3503.toNat, 112, 0]
@[reducible] def k0_t2_loop (i : grid0.Coords) : Scf.Loop 32 :=
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let v143 : BitVec 32 := Scalar.addi c0_i32_52 v142
  let c1_i32_55 : BitVec 32 := 1#32
  ⟨v146, v143, c1_i32_55⟩
def k0_off21 (i : grid0.Coords) (k0_t2 : Fin (k0_t2_loop i).trips) : Fin 4 → Nat :=
  let c0_90 : Index := 0#32
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v214 : Index := Scalar.indexCast v213
  let c0_91 : Index := 0#32
  let c0_92 : Index := 0#32
  ![0, v214.toNat, 0, 0]
def k0_off22 (i : grid0.Coords) (k0_t2 : Fin (k0_t2_loop i).trips) : Fin 4 → Nat :=
  let c0_93 : Index := 0#32
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v217 : Index := Scalar.indexCast v213
  let c0_94 : Index := 0#32
  let c0_95 : Index := 0#32
  ![0, v217.toNat, 0, 0]
def k0_off23 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v418 : Index := Scalar.indexCast v213
  let c0_172 : Index := 0#32
  let c0_173 : Index := 0#32
  ![v418.toNat, 0, 0]
def k0_off24 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v623 : Index := Scalar.indexCast v213
  let c16_255 : Index := 16#32
  let c0_256 : Index := 0#32
  ![v623.toNat, 16, 0]
def k0_off25 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v828 : Index := Scalar.indexCast v213
  let c32_338 : Index := 32#32
  let c0_339 : Index := 0#32
  ![v828.toNat, 32, 0]
def k0_off26 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v1033 : Index := Scalar.indexCast v213
  let c48_421 : Index := 48#32
  let c0_422 : Index := 0#32
  ![v1033.toNat, 48, 0]
def k0_off27 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v1238 : Index := Scalar.indexCast v213
  let c64_504 : Index := 64#32
  let c0_505 : Index := 0#32
  ![v1238.toNat, 64, 0]
def k0_off28 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v1443 : Index := Scalar.indexCast v213
  let c80_587 : Index := 80#32
  let c0_588 : Index := 0#32
  ![v1443.toNat, 80, 0]
def k0_off29 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v1648 : Index := Scalar.indexCast v213
  let c96_670 : Index := 96#32
  let c0_671 : Index := 0#32
  ![v1648.toNat, 96, 0]
def k0_off30 (i : grid0.Coords) (k0_t2 : Fin (k0_t2_loop i).trips) : Fin 3 → Nat :=
  let c2_i32_89 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v213 : BitVec 32 := Scalar.muli c2_i32_89 arg11
  let v1853 : Index := Scalar.indexCast v213
  let c112_753 : Index := 112#32
  let c0_754 : Index := 0#32
  ![v1853.toNat, 112, 0]
def k0_off31 (i : grid0.Coords) (k0_t2 : Fin (k0_t2_loop i).trips) : Fin 4 → Nat :=
  let c0_761 : Index := 0#32
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v1864 : Index := Scalar.indexCast v1863
  let c0_762 : Index := 0#32
  let c0_763 : Index := 0#32
  ![0, v1864.toNat, 0, 0]
def k0_off32 (i : grid0.Coords) (k0_t2 : Fin (k0_t2_loop i).trips) : Fin 4 → Nat :=
  let c0_764 : Index := 0#32
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v1867 : Index := Scalar.indexCast v1863
  let c0_765 : Index := 0#32
  let c0_766 : Index := 0#32
  ![0, v1867.toNat, 0, 0]
def k0_off33 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v2068 : Index := Scalar.indexCast v1863
  let c0_846 : Index := 0#32
  let c0_847 : Index := 0#32
  ![v2068.toNat, 0, 0]
def k0_off34 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v2273 : Index := Scalar.indexCast v1863
  let c16_930 : Index := 16#32
  let c0_931 : Index := 0#32
  ![v2273.toNat, 16, 0]
def k0_off35 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v2478 : Index := Scalar.indexCast v1863
  let c32_1014 : Index := 32#32
  let c0_1015 : Index := 0#32
  ![v2478.toNat, 32, 0]
def k0_off36 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v2683 : Index := Scalar.indexCast v1863
  let c48_1098 : Index := 48#32
  let c0_1099 : Index := 0#32
  ![v2683.toNat, 48, 0]
def k0_off37 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v2888 : Index := Scalar.indexCast v1863
  let c64_1182 : Index := 64#32
  let c0_1183 : Index := 0#32
  ![v2888.toNat, 64, 0]
def k0_off38 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v3093 : Index := Scalar.indexCast v1863
  let c80_1266 : Index := 80#32
  let c0_1267 : Index := 0#32
  ![v3093.toNat, 80, 0]
def k0_off39 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v3298 : Index := Scalar.indexCast v1863
  let c96_1350 : Index := 96#32
  let c0_1351 : Index := 0#32
  ![v3298.toNat, 96, 0]
def k0_off40 (i : grid0.Coords) (k0_t2 : Fin (k0_t2_loop i).trips) : Fin 3 → Nat :=
  let c2_i32_759 : BitVec 32 := 2#32
  let c0_i32_52 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v142 : BitVec 32 := Scalar.subi v141 c0_i32_52
  let c1_i32_53 : BitVec 32 := 1#32
  let v144 : BitVec 32 := Scalar.divsi v142 c1_i32_53
  let v145 : BitVec 32 := Scalar.muli v144 c1_i32_53
  let v146 : BitVec 32 := Scalar.addi c0_i32_52 v145
  let c1_i32_55 : BitVec 32 := 1#32
  let arg11 : BitVec 32 := Scf.iv v146 c1_i32_55 k0_t2
  let v1862 : BitVec 32 := Scalar.muli c2_i32_759 arg11
  let c1_i32_760 : BitVec 32 := 1#32
  let v1863 : BitVec 32 := Scalar.addi v1862 c1_i32_760
  let v3503 : Index := Scalar.indexCast v1863
  let c112_1434 : Index := 112#32
  let c0_1435 : Index := 0#32
  ![v3503.toNat, 112, 0]
@[reducible] def k0_t3_loop (i : grid0.Coords) : Scf.Loop 32 :=
  let c2_i32_62 : BitVec 32 := 2#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v165 : BitVec 32 := Scalar.muli c2_i32_62 v141
  let c4_i32_63 : BitVec 32 := 4#32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v166 : BitVec 32 := Scalar.muli c4_i32_63 v164
  let v167 : BitVec 32 := Scalar.subi v166 v165
  let c1_i32_65 : BitVec 32 := 1#32
  let v169 : BitVec 32 := Scalar.divsi v167 c1_i32_65
  let v170 : BitVec 32 := Scalar.muli v169 c1_i32_65
  let v171 : BitVec 32 := Scalar.addi v165 v170
  let c1_i32_66 : BitVec 32 := 1#32
  ⟨v165, v171, c1_i32_66⟩
def k0_off41 (i : grid0.Coords) (k0_t3 : Fin (k0_t3_loop i).trips) : Fin 3 → Nat :=
  let c2_i32_62 : BitVec 32 := 2#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v165 : BitVec 32 := Scalar.muli c2_i32_62 v141
  let c1_i32_66 : BitVec 32 := 1#32
  let arg11 : BitVec 32 := Scf.iv v165 c1_i32_66 k0_t3
  let v214 : Index := Scalar.indexCast arg11
  let c0_90 : Index := 0#32
  let c0_91 : Index := 0#32
  ![v214.toNat, 0, 0]
@[reducible] def k0_t4_loop (i : grid0.Coords) : Scf.Loop 32 :=
  let c2_i32_62 : BitVec 32 := 2#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v165 : BitVec 32 := Scalar.muli c2_i32_62 v141
  let c4_i32_63 : BitVec 32 := 4#32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v166 : BitVec 32 := Scalar.muli c4_i32_63 v164
  let v167 : BitVec 32 := Scalar.subi v166 v165
  let c1_i32_65 : BitVec 32 := 1#32
  let v169 : BitVec 32 := Scalar.divsi v167 c1_i32_65
  let v170 : BitVec 32 := Scalar.muli v169 c1_i32_65
  let v171 : BitVec 32 := Scalar.addi v165 v170
  let v168 : BitVec 32 := Scalar.addi v165 v167
  let c1_i32_67 : BitVec 32 := 1#32
  ⟨v171, v168, c1_i32_67⟩
def k0_off42 (i : grid0.Coords) (k0_t4 : Fin (k0_t4_loop i).trips) : Fin 3 → Nat :=
  let c2_i32_62 : BitVec 32 := 2#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_44 : BitVec 32 := 1#32
  let v124 : BitVec 32 := Scalar.addi v21 c1_i32_44
  let c0_i32_45 : BitVec 32 := 0#32
  let v126 : BitVec 1 := Scalar.cmpi .sgt v124 c0_i32_45
  let v127 : BitVec 32 := Scalar.extui v126
  let c0_i32_46 : BitVec 32 := 0#32
  let v128 : BitVec 1 := Scalar.cmpi .slt v124 c0_i32_46
  let v129 : BitVec 32 := Scalar.extui v128
  let v130 : BitVec 32 := Scalar.subi v127 v129
  let c2_i32 : BitVec 32 := 2#32
  let c0_i32_47 : BitVec 32 := 0#32
  let v131 : BitVec 1 := Scalar.cmpi .sgt c2_i32 c0_i32_47
  let v132 : BitVec 32 := Scalar.extui v131
  let c0_i32_48 : BitVec 32 := 0#32
  let v133 : BitVec 1 := Scalar.cmpi .slt c2_i32 c0_i32_48
  let v134 : BitVec 32 := Scalar.extui v133
  let v135 : BitVec 32 := Scalar.subi v132 v134
  let v136 : BitVec 1 := Scalar.cmpi .ne v130 v135
  let v137 : BitVec 32 := Scalar.remsi v124 c2_i32
  let c0_i32_49 : BitVec 32 := 0#32
  let v138 : BitVec 1 := Scalar.cmpi .ne v137 c0_i32_49
  let v139 : BitVec 1 := Scalar.andi v136 v138
  let v125 : BitVec 32 := Scalar.divsi v124 c2_i32
  let c1_i32_50 : BitVec 32 := 1#32
  let v140 : BitVec 32 := Scalar.subi v125 c1_i32_50
  let v141 : BitVec 32 := Scalar.select v139 v140 v125
  let v165 : BitVec 32 := Scalar.muli c2_i32_62 v141
  let c4_i32_63 : BitVec 32 := 4#32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v166 : BitVec 32 := Scalar.muli c4_i32_63 v164
  let v167 : BitVec 32 := Scalar.subi v166 v165
  let c1_i32_65 : BitVec 32 := 1#32
  let v169 : BitVec 32 := Scalar.divsi v167 c1_i32_65
  let v170 : BitVec 32 := Scalar.muli v169 c1_i32_65
  let v171 : BitVec 32 := Scalar.addi v165 v170
  let c1_i32_67 : BitVec 32 := 1#32
  let arg11 : BitVec 32 := Scf.iv v171 c1_i32_67 k0_t4
  let v214 : Index := Scalar.indexCast arg11
  let c0_90 : Index := 0#32
  let c0_91 : Index := 0#32
  ![v214.toNat, 0, 0]
@[reducible] def k0_t5_loop (v190 : BitVec 32) : Scf.Loop 32 :=
  let c0_i32_75 : BitVec 32 := 0#32
  let v191 : BitVec 32 := Scalar.subi v190 c0_i32_75
  let c1_i32_76 : BitVec 32 := 1#32
  let v193 : BitVec 32 := Scalar.divsi v191 c1_i32_76
  let v194 : BitVec 32 := Scalar.muli v193 c1_i32_76
  let v195 : BitVec 32 := Scalar.addi c0_i32_75 v194
  let c1_i32_77 : BitVec 32 := 1#32
  ⟨c0_i32_75, v195, c1_i32_77⟩

@[reducible] def k0_t6_loop (i : grid0.Coords) : Scf.Loop 32 :=
  let c0_i32_92 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v221 : BitVec 32 := Scalar.subi v164 c0_i32_92
  let c1_i32_93 : BitVec 32 := 1#32
  let v223 : BitVec 32 := Scalar.divsi v221 c1_i32_93
  let v224 : BitVec 32 := Scalar.muli v223 c1_i32_93
  let v225 : BitVec 32 := Scalar.addi c0_i32_92 v224
  let c1_i32_94 : BitVec 32 := 1#32
  ⟨c0_i32_92, v225, c1_i32_94⟩
def k0_off43 (i : grid0.Coords) (k0_t6 : Fin (k0_t6_loop i).trips) (c0_i32_99 : BitVec 32) : Fin 3 → Nat :=
  let c4_i32_98 : BitVec 32 := 4#32
  let c0_i32_92 : BitVec 32 := 0#32
  let c1_i32_94 : BitVec 32 := 1#32
  let arg13 : BitVec 32 := Scf.iv c0_i32_92 c1_i32_94 k0_t6
  let v235 : BitVec 32 := Scalar.muli c4_i32_98 arg13
  let v236 : BitVec 32 := Scalar.addi v235 c0_i32_99
  let v237 : Index := Scalar.indexCast v236
  let c0_100 : Index := 0#32
  let c0_101 : Index := 0#32
  ![v237.toNat, 0, 0]
@[reducible] def k0_t7_loop (i : grid0.Coords) : Scf.Loop 32 :=
  let c0_i32_92 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v221 : BitVec 32 := Scalar.subi v164 c0_i32_92
  let c1_i32_93 : BitVec 32 := 1#32
  let v223 : BitVec 32 := Scalar.divsi v221 c1_i32_93
  let v224 : BitVec 32 := Scalar.muli v223 c1_i32_93
  let v225 : BitVec 32 := Scalar.addi c0_i32_92 v224
  let v222 : BitVec 32 := Scalar.addi c0_i32_92 v221
  let c1_i32_95 : BitVec 32 := 1#32
  ⟨v225, v222, c1_i32_95⟩
def k0_off44 (i : grid0.Coords) (k0_t7 : Fin (k0_t7_loop i).trips) (c0_i32_99 : BitVec 32) : Fin 3 → Nat :=
  let c4_i32_98 : BitVec 32 := 4#32
  let c0_i32_92 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v221 : BitVec 32 := Scalar.subi v164 c0_i32_92
  let c1_i32_93 : BitVec 32 := 1#32
  let v223 : BitVec 32 := Scalar.divsi v221 c1_i32_93
  let v224 : BitVec 32 := Scalar.muli v223 c1_i32_93
  let v225 : BitVec 32 := Scalar.addi c0_i32_92 v224
  let c1_i32_95 : BitVec 32 := 1#32
  let arg13 : BitVec 32 := Scf.iv v225 c1_i32_95 k0_t7
  let v235 : BitVec 32 := Scalar.muli c4_i32_98 arg13
  let v236 : BitVec 32 := Scalar.addi v235 c0_i32_99
  let v237 : Index := Scalar.indexCast v236
  let c0_100 : Index := 0#32
  let c0_101 : Index := 0#32
  ![v237.toNat, 0, 0]
@[reducible] def k0_t8_loop (v190 : BitVec 32) : Scf.Loop 32 :=
  let c0_i32_75 : BitVec 32 := 0#32
  let v191 : BitVec 32 := Scalar.subi v190 c0_i32_75
  let c1_i32_76 : BitVec 32 := 1#32
  let v193 : BitVec 32 := Scalar.divsi v191 c1_i32_76
  let v194 : BitVec 32 := Scalar.muli v193 c1_i32_76
  let v195 : BitVec 32 := Scalar.addi c0_i32_75 v194
  let v192 : BitVec 32 := Scalar.addi c0_i32_75 v191
  let c1_i32_78 : BitVec 32 := 1#32
  ⟨v195, v192, c1_i32_78⟩

def k0_chk1 (v190 : BitVec 32) : Prop :=
  ((k0_t5_loop v190).OK) ∧
  ((k0_t8_loop v190).OK)
theorem k0_t5_ok : ∀ (v190 : BitVec 32) (k0_hw1 : k0_chk1 v190), (k0_t5_loop v190).OK := fun v190 k0_hw1 => k0_hw1.1
theorem k0_t8_ok : ∀ (v190 : BitVec 32) (k0_hw1 : k0_chk1 v190), (k0_t8_loop v190).OK := fun v190 k0_hw1 => k0_hw1.2

@[reducible] def k0_t9_loop (i : grid0.Coords) : Scf.Loop 32 :=
  let c0_i32_92 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v221 : BitVec 32 := Scalar.subi v164 c0_i32_92
  let c1_i32_93 : BitVec 32 := 1#32
  let v223 : BitVec 32 := Scalar.divsi v221 c1_i32_93
  let v224 : BitVec 32 := Scalar.muli v223 c1_i32_93
  let v225 : BitVec 32 := Scalar.addi c0_i32_92 v224
  let c1_i32_94 : BitVec 32 := 1#32
  ⟨c0_i32_92, v225, c1_i32_94⟩
def k0_off45 (i : grid0.Coords) (k0_t9 : Fin (k0_t9_loop i).trips) (c0_i32_99 : BitVec 32) : Fin 3 → Nat :=
  let c4_i32_98 : BitVec 32 := 4#32
  let c0_i32_92 : BitVec 32 := 0#32
  let c1_i32_94 : BitVec 32 := 1#32
  let arg13 : BitVec 32 := Scf.iv c0_i32_92 c1_i32_94 k0_t9
  let v235 : BitVec 32 := Scalar.muli c4_i32_98 arg13
  let v236 : BitVec 32 := Scalar.addi v235 c0_i32_99
  let v237 : Index := Scalar.indexCast v236
  let c0_100 : Index := 0#32
  let c0_101 : Index := 0#32
  ![v237.toNat, 0, 0]
@[reducible] def k0_t10_loop (i : grid0.Coords) : Scf.Loop 32 :=
  let c0_i32_92 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v221 : BitVec 32 := Scalar.subi v164 c0_i32_92
  let c1_i32_93 : BitVec 32 := 1#32
  let v223 : BitVec 32 := Scalar.divsi v221 c1_i32_93
  let v224 : BitVec 32 := Scalar.muli v223 c1_i32_93
  let v225 : BitVec 32 := Scalar.addi c0_i32_92 v224
  let v222 : BitVec 32 := Scalar.addi c0_i32_92 v221
  let c1_i32_95 : BitVec 32 := 1#32
  ⟨v225, v222, c1_i32_95⟩
def k0_off46 (i : grid0.Coords) (k0_t10 : Fin (k0_t10_loop i).trips) (c0_i32_99 : BitVec 32) : Fin 3 → Nat :=
  let c4_i32_98 : BitVec 32 := 4#32
  let c0_i32_92 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c3_i32 : BitVec 32 := 3#32
  let v147 : BitVec 32 := Scalar.addi v21 c3_i32
  let c0_i32_56 : BitVec 32 := 0#32
  let v149 : BitVec 1 := Scalar.cmpi .sgt v147 c0_i32_56
  let v150 : BitVec 32 := Scalar.extui v149
  let c0_i32_57 : BitVec 32 := 0#32
  let v151 : BitVec 1 := Scalar.cmpi .slt v147 c0_i32_57
  let v152 : BitVec 32 := Scalar.extui v151
  let v153 : BitVec 32 := Scalar.subi v150 v152
  let c4_i32 : BitVec 32 := 4#32
  let c0_i32_58 : BitVec 32 := 0#32
  let v154 : BitVec 1 := Scalar.cmpi .sgt c4_i32 c0_i32_58
  let v155 : BitVec 32 := Scalar.extui v154
  let c0_i32_59 : BitVec 32 := 0#32
  let v156 : BitVec 1 := Scalar.cmpi .slt c4_i32 c0_i32_59
  let v157 : BitVec 32 := Scalar.extui v156
  let v158 : BitVec 32 := Scalar.subi v155 v157
  let v159 : BitVec 1 := Scalar.cmpi .ne v153 v158
  let v160 : BitVec 32 := Scalar.remsi v147 c4_i32
  let c0_i32_60 : BitVec 32 := 0#32
  let v161 : BitVec 1 := Scalar.cmpi .ne v160 c0_i32_60
  let v162 : BitVec 1 := Scalar.andi v159 v161
  let v148 : BitVec 32 := Scalar.divsi v147 c4_i32
  let c1_i32_61 : BitVec 32 := 1#32
  let v163 : BitVec 32 := Scalar.subi v148 c1_i32_61
  let v164 : BitVec 32 := Scalar.select v162 v163 v148
  let v221 : BitVec 32 := Scalar.subi v164 c0_i32_92
  let c1_i32_93 : BitVec 32 := 1#32
  let v223 : BitVec 32 := Scalar.divsi v221 c1_i32_93
  let v224 : BitVec 32 := Scalar.muli v223 c1_i32_93
  let v225 : BitVec 32 := Scalar.addi c0_i32_92 v224
  let c1_i32_95 : BitVec 32 := 1#32
  let arg13 : BitVec 32 := Scf.iv v225 c1_i32_95 k0_t10
  let v235 : BitVec 32 := Scalar.muli c4_i32_98 arg13
  let v236 : BitVec 32 := Scalar.addi v235 c0_i32_99
  let v237 : Index := Scalar.indexCast v236
  let c0_100 : Index := 0#32
  let c0_101 : Index := 0#32
  ![v237.toNat, 0, 0]
@[reducible] def k0_t11_loop (i : grid0.Coords) : Scf.Loop 32 :=
  let c0_i32_80 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let v203 : BitVec 32 := Scalar.subi v21 c0_i32_80
  let c1_i32_81 : BitVec 32 := 1#32
  let v205 : BitVec 32 := Scalar.divsi v203 c1_i32_81
  let v206 : BitVec 32 := Scalar.muli v205 c1_i32_81
  let v207 : BitVec 32 := Scalar.addi c0_i32_80 v206
  let c1_i32_82 : BitVec 32 := 1#32
  ⟨c0_i32_80, v207, c1_i32_82⟩
def k0_off47 (i : grid0.Coords) (k0_t11 : Fin (k0_t11_loop i).trips) : Fin 3 → Nat :=
  let c0_i32_80 : BitVec 32 := 0#32
  let c1_i32_82 : BitVec 32 := 1#32
  let arg11 : BitVec 32 := Scf.iv c0_i32_80 c1_i32_82 k0_t11
  let v213 : Index := Scalar.indexCast arg11
  let c0_89 : Index := 0#32
  let c0_90 : Index := 0#32
  ![v213.toNat, 0, 0]
def k0_mult1 (i : grid0.Coords) (k0_t11 : Fin (k0_t11_loop i).trips) : BitVec 32 :=
  let c0_i32_80 : BitVec 32 := 0#32
  let c1_i32_82 : BitVec 32 := 1#32
  let arg11 : BitVec 32 := Scf.iv c0_i32_80 c1_i32_82 k0_t11
  let c256_i32_93 : BitVec 32 := 256#32
  let v221 : BitVec 32 := Scalar.muli arg11 c256_i32_93
  v221
def k0_off48 (i : grid0.Coords) (k0_t11 : Fin (k0_t11_loop i).trips) : Fin 3 → Nat :=
  let c0_94 : Index := 0#32
  let c0_i32_80 : BitVec 32 := 0#32
  let c1_i32_82 : BitVec 32 := 1#32
  let arg11 : BitVec 32 := Scf.iv c0_i32_80 c1_i32_82 k0_t11
  let c256_i32_93 : BitVec 32 := 256#32
  let v221 : BitVec 32 := Scalar.muli arg11 c256_i32_93
  let v222 : BitVec 32 := v221
  let v224 : Index := Scalar.indexCast v222
  let c0_95 : Index := 0#32
  ![0, v224.toNat, 0]
@[reducible] def k0_t12_loop (i : grid0.Coords) : Scf.Loop 32 :=
  let c0_i32_80 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let v203 : BitVec 32 := Scalar.subi v21 c0_i32_80
  let c1_i32_81 : BitVec 32 := 1#32
  let v205 : BitVec 32 := Scalar.divsi v203 c1_i32_81
  let v206 : BitVec 32 := Scalar.muli v205 c1_i32_81
  let v207 : BitVec 32 := Scalar.addi c0_i32_80 v206
  let v204 : BitVec 32 := Scalar.addi c0_i32_80 v203
  let c1_i32_83 : BitVec 32 := 1#32
  ⟨v207, v204, c1_i32_83⟩
def k0_off49 (i : grid0.Coords) (k0_t12 : Fin (k0_t12_loop i).trips) : Fin 3 → Nat :=
  let c0_i32_80 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let v203 : BitVec 32 := Scalar.subi v21 c0_i32_80
  let c1_i32_81 : BitVec 32 := 1#32
  let v205 : BitVec 32 := Scalar.divsi v203 c1_i32_81
  let v206 : BitVec 32 := Scalar.muli v205 c1_i32_81
  let v207 : BitVec 32 := Scalar.addi c0_i32_80 v206
  let c1_i32_83 : BitVec 32 := 1#32
  let arg11 : BitVec 32 := Scf.iv v207 c1_i32_83 k0_t12
  let v213 : Index := Scalar.indexCast arg11
  let c0_89 : Index := 0#32
  let c0_90 : Index := 0#32
  ![v213.toNat, 0, 0]
def k0_mult2 (i : grid0.Coords) (k0_t12 : Fin (k0_t12_loop i).trips) : BitVec 32 :=
  let c0_i32_80 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let v203 : BitVec 32 := Scalar.subi v21 c0_i32_80
  let c1_i32_81 : BitVec 32 := 1#32
  let v205 : BitVec 32 := Scalar.divsi v203 c1_i32_81
  let v206 : BitVec 32 := Scalar.muli v205 c1_i32_81
  let v207 : BitVec 32 := Scalar.addi c0_i32_80 v206
  let c1_i32_83 : BitVec 32 := 1#32
  let arg11 : BitVec 32 := Scf.iv v207 c1_i32_83 k0_t12
  let c256_i32_93 : BitVec 32 := 256#32
  let v221 : BitVec 32 := Scalar.muli arg11 c256_i32_93
  v221
def k0_off50 (i : grid0.Coords) (k0_t12 : Fin (k0_t12_loop i).trips) : Fin 3 → Nat :=
  let c0_94 : Index := 0#32
  let c0_i32_80 : BitVec 32 := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let v203 : BitVec 32 := Scalar.subi v21 c0_i32_80
  let c1_i32_81 : BitVec 32 := 1#32
  let v205 : BitVec 32 := Scalar.divsi v203 c1_i32_81
  let v206 : BitVec 32 := Scalar.muli v205 c1_i32_81
  let v207 : BitVec 32 := Scalar.addi c0_i32_80 v206
  let c1_i32_83 : BitVec 32 := 1#32
  let arg11 : BitVec 32 := Scf.iv v207 c1_i32_83 k0_t12
  let c256_i32_93 : BitVec 32 := 256#32
  let v221 : BitVec 32 := Scalar.muli arg11 c256_i32_93
  let v222 : BitVec 32 := v221
  let v224 : Index := Scalar.indexCast v222
  let c0_95 : Index := 0#32
  ![0, v224.toNat, 0]
@[reducible] def k0_t13_loop (i : grid0.Coords) : Scf.Loop 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c64_i32_85 : BitVec 32 := 64#32
  let v208 : BitVec 32 := Scalar.subi c64_i32_85 v21
  let c1_i32_86 : BitVec 32 := 1#32
  let v210 : BitVec 32 := Scalar.divsi v208 c1_i32_86
  let v211 : BitVec 32 := Scalar.muli v210 c1_i32_86
  let v212 : BitVec 32 := Scalar.addi v21 v211
  let c1_i32_87 : BitVec 32 := 1#32
  ⟨v21, v212, c1_i32_87⟩
def k0_mult3 (i : grid0.Coords) (k0_t13 : Fin (k0_t13_loop i).trips) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_87 : BitVec 32 := 1#32
  let arg11 : BitVec 32 := Scf.iv v21 c1_i32_87 k0_t13
  let c256_i32_89 : BitVec 32 := 256#32
  let v213 : BitVec 32 := Scalar.muli arg11 c256_i32_89
  v213
def k0_off51 (i : grid0.Coords) (k0_t13 : Fin (k0_t13_loop i).trips) : Fin 3 → Nat :=
  let c0_91 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c1_i32_87 : BitVec 32 := 1#32
  let arg11 : BitVec 32 := Scf.iv v21 c1_i32_87 k0_t13
  let c256_i32_89 : BitVec 32 := 256#32
  let v213 : BitVec 32 := Scalar.muli arg11 c256_i32_89
  let v214 : BitVec 32 := v213
  let v216 : Index := Scalar.indexCast v214
  let c0_92 : Index := 0#32
  ![0, v216.toNat, 0]
@[reducible] def k0_t14_loop (i : grid0.Coords) : Scf.Loop 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c64_i32_85 : BitVec 32 := 64#32
  let v208 : BitVec 32 := Scalar.subi c64_i32_85 v21
  let c1_i32_86 : BitVec 32 := 1#32
  let v210 : BitVec 32 := Scalar.divsi v208 c1_i32_86
  let v211 : BitVec 32 := Scalar.muli v210 c1_i32_86
  let v212 : BitVec 32 := Scalar.addi v21 v211
  let v209 : BitVec 32 := Scalar.addi v21 v208
  let c1_i32_88 : BitVec 32 := 1#32
  ⟨v212, v209, c1_i32_88⟩
def k0_mult4 (i : grid0.Coords) (k0_t14 : Fin (k0_t14_loop i).trips) : BitVec 32 :=
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c64_i32_85 : BitVec 32 := 64#32
  let v208 : BitVec 32 := Scalar.subi c64_i32_85 v21
  let c1_i32_86 : BitVec 32 := 1#32
  let v210 : BitVec 32 := Scalar.divsi v208 c1_i32_86
  let v211 : BitVec 32 := Scalar.muli v210 c1_i32_86
  let v212 : BitVec 32 := Scalar.addi v21 v211
  let c1_i32_88 : BitVec 32 := 1#32
  let arg11 : BitVec 32 := Scf.iv v212 c1_i32_88 k0_t14
  let c256_i32_89 : BitVec 32 := 256#32
  let v213 : BitVec 32 := Scalar.muli arg11 c256_i32_89
  v213
def k0_off52 (i : grid0.Coords) (k0_t14 : Fin (k0_t14_loop i).trips) : Fin 3 → Nat :=
  let c0_91 : Index := 0#32
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c256_i32 : BitVec 32 := 256#32
  let v2 : BitVec 32 := Scalar.addi v1 c256_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c256_i32_1 : BitVec 32 := 256#32
  let c0_i32_3 : BitVec 32 := 0#32
  let v10 : BitVec 1 := Scalar.cmpi .sgt c256_i32_1 c0_i32_3
  let v11 : BitVec 32 := Scalar.extui v10
  let c0_i32_4 : BitVec 32 := 0#32
  let v12 : BitVec 1 := Scalar.cmpi .slt c256_i32_1 c0_i32_4
  let v13 : BitVec 32 := Scalar.extui v12
  let v14 : BitVec 32 := Scalar.subi v11 v13
  let v15 : BitVec 1 := Scalar.cmpi .ne v9 v14
  let v16 : BitVec 32 := Scalar.remsi v3 c256_i32_1
  let c0_i32_5 : BitVec 32 := 0#32
  let v17 : BitVec 1 := Scalar.cmpi .ne v16 c0_i32_5
  let v18 : BitVec 1 := Scalar.andi v15 v17
  let v4 : BitVec 32 := Scalar.divsi v3 c256_i32_1
  let c1_i32_6 : BitVec 32 := 1#32
  let v19 : BitVec 32 := Scalar.subi v4 c1_i32_6
  let v20 : BitVec 32 := Scalar.select v18 v19 v4
  let c64_i32 : BitVec 32 := 64#32
  let v21 : BitVec 32 := Scalar.minsi v20 c64_i32
  let c64_i32_85 : BitVec 32 := 64#32
  let v208 : BitVec 32 := Scalar.subi c64_i32_85 v21
  let c1_i32_86 : BitVec 32 := 1#32
  let v210 : BitVec 32 := Scalar.divsi v208 c1_i32_86
  let v211 : BitVec 32 := Scalar.muli v210 c1_i32_86
  let v212 : BitVec 32 := Scalar.addi v21 v211
  let c1_i32_88 : BitVec 32 := 1#32
  let arg11 : BitVec 32 := Scf.iv v212 c1_i32_88 k0_t14
  let c256_i32_89 : BitVec 32 := 256#32
  let v213 : BitVec 32 := Scalar.muli arg11 c256_i32_89
  let v214 : BitVec 32 := v213
  let v216 : Index := Scalar.indexCast v214
  let c0_92 : Index := 0#32
  ![0, v216.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x16x16x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference.lean ====
abbrev S2x16384x1024 : Shape := ⟨3, ![2, 16384, 1024]⟩
abbrev S2x16384x128 : Shape := ⟨3, ![2, 16384, 128]⟩
abbrev S2x16384 : Shape := ⟨2, ![2, 16384]⟩
abbrev S2x16384x64 : Shape := ⟨3, ![2, 16384, 64]⟩
abbrev S2x16384x16 : Shape := ⟨3, ![2, 16384, 16]⟩
abbrev S2x1024x16x16x64 : Shape := ⟨5, ![2, 1024, 16, 16, 64]⟩
abbrev S2x1024x256x64 : Shape := ⟨4, ![2, 1024, 256, 64]⟩
abbrev S2x64x256x64 : Shape := ⟨4, ![2, 64, 256, 64]⟩
abbrev S2x64x64x256 : Shape := ⟨4, ![2, 64, 64, 256]⟩
abbrev S2x1024x64x256x256 : Shape := ⟨5, ![2, 1024, 64, 256, 256]⟩
abbrev S1x1x256x64 : Shape := ⟨4, ![1, 1, 256, 64]⟩
abbrev S256x64 : Shape := ⟨2, ![256, 64]⟩
abbrev S1x1x64x256 : Shape := ⟨4, ![1, 1, 64, 256]⟩
abbrev S64x256 : Shape := ⟨2, ![64, 256]⟩
abbrev S256x256 : Shape := ⟨2, ![256, 256]⟩
abbrev S1x1x1x256x256 : Shape := ⟨5, ![1, 1, 1, 256, 256]⟩
abbrev S2x1024x64x16x16x256 : Shape := ⟨6, ![2, 1024, 64, 16, 16, 256]⟩
abbrev S2x16x1024x16x64x256 : Shape := ⟨6, ![2, 16, 1024, 16, 64, 256]⟩
abbrev S2x16x16384x16384 : Shape := ⟨4, ![2, 16, 16384, 16384]⟩
abbrev S_ : Shape := ⟨0, ![]⟩
abbrev S2x16x16384 : Shape := ⟨3, ![2, 16, 16384]⟩
abbrev S2x16x16384x1 : Shape := ⟨4, ![2, 16, 16384, 1]⟩
abbrev S2x8x16384x16384 : Shape := ⟨4, ![2, 8, 16384, 16384]⟩
abbrev S2x4x16384x16384 : Shape := ⟨4, ![2, 4, 16384, 16384]⟩
abbrev S2x2x16384x16384 : Shape := ⟨4, ![2, 2, 16384, 16384]⟩
abbrev S2x1x16384x16384 : Shape := ⟨4, ![2, 1, 16384, 16384]⟩
abbrev S2x16384x16384 : Shape := ⟨3, ![2, 16384, 16384]⟩
abbrev S2x1x16384 : Shape := ⟨3, ![2, 1, 16384]⟩
abbrev S2x16384x1 : Shape := ⟨3, ![2, 16384, 1]⟩
abbrev S2x16384x256 : Shape := ⟨3, ![2, 16384, 256]⟩

abbrev nBuf : Space → Nat
  | .hbm => 111
  | .vmem => 3
  | .smem => 0
  | _ => 0

abbrev bufTy : (tb : Table) → Fin (tcTables nBuf tb) → BufTy
  | .hbm, ⟨0, _⟩ => ⟨S2x16384x1024, .bf16⟩
  | .hbm, ⟨1, _⟩ => ⟨S2x16384x128, .f32⟩
  | .hbm, ⟨2, _⟩ => ⟨S2x16384, .i32⟩
  | .hbm, ⟨3, _⟩ => ⟨S2x16384x64, .f32⟩
  | .hbm, ⟨4, _⟩ => ⟨S2x16384x64, .bf16⟩
  | .hbm, ⟨5, _⟩ => ⟨S2x16384x16, .f32⟩
  | .hbm, ⟨6, _⟩ => ⟨S2x1024x16x16x64, .bf16⟩
  | .hbm, ⟨7, _⟩ => ⟨S2x1024x16x16x64, .bf16⟩
  | .hbm, ⟨8, _⟩ => ⟨S2x1024x256x64, .bf16⟩
  | .hbm, ⟨9, _⟩ => ⟨S2x64x256x64, .bf16⟩
  | .hbm, ⟨10, _⟩ => ⟨S2x64x64x256, .bf16⟩
  | .hbm, ⟨11, _⟩ => ⟨S2x1024x64x256x256, .f32⟩
  | .hbm, ⟨12, _⟩ => ⟨S2x1024x64x16x16x256, .f32⟩
  | .hbm, ⟨13, _⟩ => ⟨S2x16x1024x16x64x256, .f32⟩
  | .hbm, ⟨14, _⟩ => ⟨S2x16x16384x16384, .f32⟩
  | .hbm, ⟨15, _⟩ => ⟨S_, .f32⟩
  | .hbm, ⟨16, _⟩ => ⟨S2x16x16384x16384, .f32⟩
  | .hbm, ⟨17, _⟩ => ⟨S2x16x16384x16384, .f32⟩
  | .hbm, ⟨18, _⟩ => ⟨S2x16x16384, .f32⟩
  | .hbm, ⟨19, _⟩ => ⟨S2x16x16384x1, .f32⟩
  | .hbm, ⟨20, _⟩ => ⟨S2x16x16384x16384, .f32⟩
  | .hbm, ⟨21, _⟩ => ⟨S2x16x16384x16384, .f32⟩
  | .hbm, ⟨22, _⟩ => ⟨S2x8x16384x16384, .f32⟩
  | .hbm, ⟨23, _⟩ => ⟨S2x8x16384x16384, .f32⟩
  | .hbm, ⟨24, _⟩ => ⟨S2x8x16384x16384, .f32⟩
  | .hbm, ⟨25, _⟩ => ⟨S2x4x16384x16384, .f32⟩
  | .hbm, ⟨26, _⟩ => ⟨S2x4x16384x16384, .f32⟩
  | .hbm, ⟨27, _⟩ => ⟨S2x4x16384x16384, .f32⟩
  | .hbm, ⟨28, _⟩ => ⟨S2x2x16384x16384, .f32⟩
  | .hbm, ⟨29, _⟩ => ⟨S2x2x16384x16384, .f32⟩
  | .hbm, ⟨30, _⟩ => ⟨S2x2x16384x16384, .f32⟩
  | .hbm, ⟨31, _⟩ => ⟨S2x1x16384x16384, .f32⟩
  | .hbm, ⟨32, _⟩ => ⟨S2x1x16384x16384, .f32⟩
  | .hbm, ⟨33, _⟩ => ⟨S2x1x16384x16384, .f32⟩
  | .hbm, ⟨34, _⟩ => ⟨S2x16384x16384, .f32⟩
  | .hbm, ⟨35, _⟩ => ⟨S_, .f32⟩
  | .hbm, ⟨36, _⟩ => ⟨S2x16384x16384, .f32⟩
  | .hbm, ⟨37, _⟩ => ⟨S2x16384x16384, .f32⟩
  | .hbm, ⟨38, _⟩ => ⟨S_, .i32⟩
  | .hbm, ⟨39, _⟩ => ⟨S_, .i32⟩
  | .hbm, ⟨40, _⟩ => ⟨S2x16384, .i32⟩
  | .hbm, ⟨41, _⟩ => ⟨S2x16384, .i32⟩
  | .hbm, ⟨42, _⟩ => ⟨S2x16384, .i32⟩
  | .hbm, ⟨43, _⟩ => ⟨S_, .i32⟩
  | .hbm, ⟨44, _⟩ => ⟨S2x16384, .i32⟩
  | .hbm, ⟨45, _⟩ => ⟨S2x16384, .i1⟩
  | .hbm, ⟨46, _⟩ => ⟨S2x16384, .i32⟩
  | .hbm, ⟨47, _⟩ => ⟨S2x16384, .i32⟩
  | .hbm, ⟨48, _⟩ => ⟨S_, .i32⟩
  | .hbm, ⟨49, _⟩ => ⟨S2x16384, .i32⟩
  | .hbm, ⟨50, _⟩ => ⟨S2x16384, .i1⟩
  | .hbm, ⟨51, _⟩ => ⟨S2x16384, .i1⟩
  | .hbm, ⟨52, _⟩ => ⟨S_, .i32⟩
  | .hbm, ⟨53, _⟩ => ⟨S2x16384, .i32⟩
  | .hbm, ⟨54, _⟩ => ⟨S2x16384, .i32⟩
  | .hbm, ⟨55, _⟩ => ⟨S2x16384, .i32⟩
  | .hbm, ⟨56, _⟩ => ⟨S2x1x16384, .i32⟩
  | .hbm, ⟨57, _⟩ => ⟨S2x16384x1, .i32⟩
  | .hbm, ⟨58, _⟩ => ⟨S2x16384x16384, .i32⟩
  | .hbm, ⟨59, _⟩ => ⟨S2x16384x16384, .i32⟩
  | .hbm, ⟨60, _⟩ => ⟨S2x16384x16384, .i1⟩
  | .hbm, ⟨61, _⟩ => ⟨S_, .f32⟩
  | .hbm, ⟨62, _⟩ => ⟨S_, .f32⟩
  | .hbm, ⟨63, _⟩ => ⟨S2x16384x16384, .f32⟩
  | .hbm, ⟨64, _⟩ => ⟨S2x16384x16384, .f32⟩
  | .hbm, ⟨65, _⟩ => ⟨S2x16384x256, .f32⟩
  | .hbm, ⟨66, _⟩ => ⟨S2x16384x256, .i32⟩
  | .hbm, ⟨67, _⟩ => ⟨S2x16384x16384, .i32⟩
  | .hbm, ⟨68, _⟩ => ⟨S_, .i32⟩
  | .hbm, ⟨69, _⟩ => ⟨S2x16384x16384, .i32⟩
  | .hbm, ⟨70, _⟩ => ⟨S2x16384x16384, .i1⟩
  | .hbm, ⟨71, _⟩ => ⟨S_, .i32⟩
  | .hbm, ⟨72, _⟩ => ⟨S2x16384x16384, .i32⟩
  | .hbm, ⟨73, _⟩ => ⟨S2x16384x16384, .i32⟩
  | .hbm, ⟨74, _⟩ => ⟨S_, .i32⟩
  | .hbm, ⟨75, _⟩ => ⟨S2x16384x16384, .i32⟩
  | .hbm, ⟨76, _⟩ => ⟨S2x16384x16384, .i32⟩
  | .hbm, ⟨77, _⟩ => ⟨S2x16384x16384, .i32⟩
  | .hbm, ⟨78, _⟩ => ⟨S2x16384x1, .f32⟩
  | .hbm, ⟨79, _⟩ => ⟨S2x16384x1, .i32⟩
  | .hbm, ⟨80, _⟩ => ⟨S_, .i32⟩
  | .hbm, ⟨81, _⟩ => ⟨S2x16384x1, .i32⟩
  | .hbm, ⟨82, _⟩ => ⟨S2x16384x1, .i1⟩
  | .hbm, ⟨83, _⟩ => ⟨S_, .i32⟩
  | .hbm, ⟨84, _⟩ => ⟨S2x16384x1, .i32⟩
  | .hbm, ⟨85, _⟩ => ⟨S2x16384x1, .i32⟩
  | .hbm, ⟨86, _⟩ => ⟨S_, .i32⟩
  | .hbm, ⟨87, _⟩ => ⟨S2x16384x1, .i32⟩
  | .hbm, ⟨88, _⟩ => ⟨S2x16384x1, .i32⟩
  | .hbm, ⟨89, _⟩ => ⟨S2x16384x1, .i32⟩
  | .hbm, ⟨90, _⟩ => ⟨S2x16384x16384, .i32⟩
  | .hbm, ⟨91, _⟩ => ⟨S2x16384x16384, .i1⟩
  | .hbm, ⟨92, _⟩ => ⟨S_, .f32⟩
  | .hbm, ⟨93, _⟩ => ⟨S_, .i32⟩
  | .hbm, ⟨94, _⟩ => ⟨S_, .i32⟩
  | .hbm, ⟨95, _⟩ => ⟨S_, .i1⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S2x16384x16384, .i32⟩
  | .hbm, ⟨102, _⟩ => ⟨S2x16384x16384, .i1⟩
  | .hbm, ⟨103, _⟩ => ⟨S2x16384x16384, .i1⟩
  | .hbm, ⟨104, _⟩ => ⟨S_, .f32⟩
  | .hbm, ⟨105, _⟩ => ⟨S_, .f32⟩
  | .hbm, ⟨106, _⟩ => ⟨S2x16384x16384, .f32⟩
  | .hbm, ⟨107, _⟩ => ⟨S2x16384x16384, .f32⟩
  | .hbm, ⟨108, _⟩ => ⟨S2x16384x16384, .f32⟩
  | .hbm, ⟨109, _⟩ => ⟨S2x16384x16384, .bf16⟩
  | .hbm, ⟨110, _⟩ => ⟨S2x16384x16384, .bf16⟩
  | .local _ .vmem, ⟨0, _⟩ => ⟨S2x1024x256x64, .bf16⟩
  | .local _ .vmem, ⟨1, _⟩ => ⟨S2x64x64x256, .bf16⟩
  | .local _ .vmem, ⟨2, _⟩ => ⟨S2x1024x64x256x256, .f32⟩
  | _, _ => ⟨S2x16384x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_call1_v0 : Ref sig .tc := ⟨.hbm, 62, rfl⟩
abbrev main_call1_v1 : Ref sig .tc := ⟨.hbm, 63, rfl⟩
abbrev main_v39 : Ref sig .tc := ⟨.hbm, 64, rfl⟩
abbrev main_values : Ref sig .tc := ⟨.hbm, 65, rfl⟩
abbrev main_indices : Ref sig .tc := ⟨.hbm, 66, rfl⟩
abbrev main_v40 : Ref sig .tc := ⟨.hbm, 67, rfl⟩
abbrev main_c_2 : Ref sig .tc := ⟨.hbm, 68, rfl⟩
abbrev main_v41 : Ref sig .tc := ⟨.hbm, 69, rfl⟩
abbrev main_v42 : Ref sig .tc := ⟨.hbm, 70, rfl⟩
abbrev main_c_3 : Ref sig .tc := ⟨.hbm, 71, rfl⟩
abbrev main_v43 : Ref sig .tc := ⟨.hbm, 72, rfl⟩
abbrev main_v44 : Ref sig .tc := ⟨.hbm, 73, rfl⟩
abbrev main_c_4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_5 : Ref sig .tc := ⟨.hbm, 80, rfl⟩
abbrev main_v50 : Ref sig .tc := ⟨.hbm, 81, rfl⟩
abbrev main_v51 : Ref sig .tc := ⟨.hbm, 82, rfl⟩
abbrev main_c_6 : Ref sig .tc := ⟨.hbm, 83, rfl⟩
abbrev main_v52 : Ref sig .tc := ⟨.hbm, 84, rfl⟩
abbrev main_v53 : Ref sig .tc := ⟨.hbm, 85, rfl⟩
abbrev main_c_7 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_c_9 : Ref sig .tc := ⟨.hbm, 94, rfl⟩
abbrev main_v60 : Ref sig .tc := ⟨.hbm, 95, rfl⟩
abbrev main_c_10 : Ref sig .tc := ⟨.hbm, 96, rfl⟩
abbrev main_v61 : Ref sig .tc := ⟨.hbm, 97, rfl⟩
abbrev main_c_11 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_12 : Ref sig .tc := ⟨.hbm, 104, rfl⟩
abbrev main_cst_13 : Ref sig .tc := ⟨.hbm, 105, rfl⟩
abbrev main_call5_v0 : Ref sig .tc := ⟨.hbm, 106, rfl⟩
abbrev main_call5_v1 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c131072_i32 : BitVec 32 := 131072#32
  let v2 : BitVec 32 := Scalar.addi c0_i32 c131072_i32
  let c1_i32 : BitVec 32 := 1#32
  ⟨c0_i32, v2, c1_i32⟩
def k0_off1 (k0_t1 : Fin k0_t1_loop.trips) : Fin 4 → Nat :=
  let c0_i32 : BitVec 32 := 0#32
  let c1_i32 : BitVec 32 := 1#32
  let arg3 : BitVec 32 := Scf.iv c0_i32 c1_i32 k0_t1
  let c0_i32_5 : BitVec 32 := 0#32
  let v4 : BitVec 1 := Scalar.cmpi .sgt arg3 c0_i32_5
  let v5 : BitVec 32 := Scalar.extui v4
  let c0_i32_6 : BitVec 32 := 0#32
  let v6 : BitVec 1 := Scalar.cmpi .slt arg3 c0_i32_6
  let v7 : BitVec 32 := Scalar.extui v6
  let v8 : BitVec 32 := Scalar.subi v5 v7
  let c65536_i32 : BitVec 32 := 65536#32
  let c0_i32_7 : BitVec 32 := 0#32
  let v9 : BitVec 1 := Scalar.cmpi .sgt c65536_i32 c0_i32_7
  let v10 : BitVec 32 := Scalar.extui v9
  let c0_i32_8 : BitVec 32 := 0#32
  let v11 : BitVec 1 := Scalar.cmpi .slt c65536_i32 c0_i32_8
  let v12 : BitVec 32 := Scalar.extui v11
  let v13 : BitVec 32 := Scalar.subi v10 v12
  let v14 : BitVec 1 := Scalar.cmpi .ne v8 v13
  let v15 : BitVec 32 := Scalar.remsi arg3 c65536_i32
  let c0_i32_9 : BitVec 32 := 0#32
  let v16 : BitVec 1 := Scalar.cmpi .ne v15 c0_i32_9
  let v17 : BitVec 1 := Scalar.andi v14 v16
  let v3 : BitVec 32 := Scalar.divsi arg3 c65536_i32
  let c1_i32_10 : BitVec 32 := 1#32
  let v18 : BitVec 32 := Scalar.subi v3 c1_i32_10
  let v19 : BitVec 32 := Scalar.select v17 v18 v3
  let v57 : Index := Scalar.indexCast v19
  let c0_i32_11 : BitVec 32 := 0#32
  let v21 : BitVec 1 := Scalar.cmpi .sgt arg3 c0_i32_11
  let v22 : BitVec 32 := Scalar.extui v21
  let c0_i32_12 : BitVec 32 := 0#32
  let v23 : BitVec 1 := Scalar.cmpi .slt arg3 c0_i32_12
  let v24 : BitVec 32 := Scalar.extui v23
  let v25 : BitVec 32 := Scalar.subi v22 v24
  let c64_i32 : BitVec 32 := 64#32
  let c0_i32_13 : BitVec 32 := 0#32
  let v26 : BitVec 1 := Scalar.cmpi .sgt c64_i32 c0_i32_13
  let v27 : BitVec 32 := Scalar.extui v26
  let c0_i32_14 : BitVec 32 := 0#32
  let v28 : BitVec 1 := Scalar.cmpi .slt c64_i32 c0_i32_14
  let v29 : BitVec 32 := Scalar.extui v28
  let v30 : BitVec 32 := Scalar.subi v27 v29
  let v31 : BitVec 1 := Scalar.cmpi .ne v25 v30
  let v32 : BitVec 32 := Scalar.remsi arg3 c64_i32
  let c0_i32_15 : BitVec 32 := 0#32
  let v33 : BitVec 1 := Scalar.cmpi .ne v32 c0_i32_15
  let v34 : BitVec 1 := Scalar.andi v31 v33
  let v20 : BitVec 32 := Scalar.divsi arg3 c64_i32
  let c1_i32_16 : BitVec 32 := 1#32
  let v35 : BitVec 32 := Scalar.subi v20 c1_i32_16
  let v36 : BitVec 32 := Scalar.select v34 v35 v20
  let c1024_i32 : BitVec 32 := 1024#32
  let c0_i32_17 : BitVec 32 := 0#32
  let v37 : BitVec 1 := Scalar.cmpi .eq c1024_i32 c0_i32_17
  let c1_i32_18 : BitVec 32 := 1#32
  let v38 : BitVec 32 := Scalar.select v37 c1_i32_18 c1024_i32
  let v39 : BitVec 32 := Scalar.remsi v36 v38
  let c0_i32_20 : BitVec 32 := 0#32
  let v41 : BitVec 1 := Scalar.cmpi .slt v39 c0_i32_20
  let c0_i32_21 : BitVec 32 := 0#32
  let v42 : BitVec 1 := Scalar.cmpi .slt v38 c0_i32_21
  let v43 : BitVec 1 := Scalar.xori v41 v42
  let c0_i32_19 : BitVec 32 := 0#32
  let v40 : BitVec 1 := Scalar.cmpi .ne v39 c0_i32_19
  let v44 : BitVec 1 := Scalar.andi v43 v40
  let v45 : BitVec 32 := Scalar.addi v39 v38
  let v46 : BitVec 32 := Scalar.select v44 v45 v39
  let v58 : Index := Scalar.indexCast v46
  let c0_28 : Index := 0#32
  let c0_29 : Index := 0#32
  ![v57.toNat, v58.toNat, 0, 0]
def k0_off2 (k0_t1 : Fin k0_t1_loop.trips) : Fin 4 → Nat :=
  let c0_i32 : BitVec 32 := 0#32
  let c1_i32 : BitVec 32 := 1#32
  let arg3 : BitVec 32 := Scf.iv c0_i32 c1_i32 k0_t1
  let c0_i32_5 : BitVec 32 := 0#32
  let v4 : BitVec 1 := Scalar.cmpi .sgt arg3 c0_i32_5
  let v5 : BitVec 32 := Scalar.extui v4
  let c0_i32_6 : BitVec 32 := 0#32
  let v6 : BitVec 1 := Scalar.cmpi .slt arg3 c0_i32_6
  let v7 : BitVec 32 := Scalar.extui v6
  let v8 : BitVec 32 := Scalar.subi v5 v7
  let c65536_i32 : BitVec 32 := 65536#32
  let c0_i32_7 : BitVec 32 := 0#32
  let v9 : BitVec 1 := Scalar.cmpi .sgt c65536_i32 c0_i32_7
  let v10 : BitVec 32 := Scalar.extui v9
  let c0_i32_8 : BitVec 32 := 0#32
  let v11 : BitVec 1 := Scalar.cmpi .slt c65536_i32 c0_i32_8
  let v12 : BitVec 32 := Scalar.extui v11
  let v13 : BitVec 32 := Scalar.subi v10 v12
  let v14 : BitVec 1 := Scalar.cmpi .ne v8 v13
  let v15 : BitVec 32 := Scalar.remsi arg3 c65536_i32
  let c0_i32_9 : BitVec 32 := 0#32
  let v16 : BitVec 1 := Scalar.cmpi .ne v15 c0_i32_9
  let v17 : BitVec 1 := Scalar.andi v14 v16
  let v3 : BitVec 32 := Scalar.divsi arg3 c65536_i32
  let c1_i32_10 : BitVec 32 := 1#32
  let v18 : BitVec 32 := Scalar.subi v3 c1_i32_10
  let v19 : BitVec 32 := Scalar.select v17 v18 v3
  let v61 : Index := Scalar.indexCast v19
  let c64_i32_22 : BitVec 32 := 64#32
  let c0_i32_23 : BitVec 32 := 0#32
  let v47 : BitVec 1 := Scalar.cmpi .eq c64_i32_22 c0_i32_23
  let c1_i32_24 : BitVec 32 := 1#32
  let v48 : BitVec 32 := Scalar.select v47 c1_i32_24 c64_i32_22
  let v49 : BitVec 32 := Scalar.remsi arg3 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v62 : Index := Scalar.indexCast v56
  let c0_30 : Index := 0#32
  let c0_31 : Index := 0#32
  ![v61.toNat, v62.toNat, 0, 0]
def k0_off3 (k0_t1 : Fin k0_t1_loop.trips) : Fin 5 → Nat :=
  let c0_i32 : BitVec 32 := 0#32
  let c1_i32 : BitVec 32 := 1#32
  let arg3 : BitVec 32 := Scf.iv c0_i32 c1_i32 k0_t1
  let c0_i32_5 : BitVec 32 := 0#32
  let v4 : BitVec 1 := Scalar.cmpi .sgt arg3 c0_i32_5
  let v5 : BitVec 32 := Scalar.extui v4
  let c0_i32_6 : BitVec 32 := 0#32
  let v6 : BitVec 1 := Scalar.cmpi .slt arg3 c0_i32_6
  let v7 : BitVec 32 := Scalar.extui v6
  let v8 : BitVec 32 := Scalar.subi v5 v7
  let c65536_i32 : BitVec 32 := 65536#32
  let c0_i32_7 : BitVec 32 := 0#32
  let v9 : BitVec 1 := Scalar.cmpi .sgt c65536_i32 c0_i32_7
  let v10 : BitVec 32 := Scalar.extui v9
  let c0_i32_8 : BitVec 32 := 0#32
  let v11 : BitVec 1 := Scalar.cmpi .slt c65536_i32 c0_i32_8
  let v12 : BitVec 32 := Scalar.extui v11
  let v13 : BitVec 32 := Scalar.subi v10 v12
  let v14 : BitVec 1 := Scalar.cmpi .ne v8 v13
  let v15 : BitVec 32 := Scalar.remsi arg3 c65536_i32
  let c0_i32_9 : BitVec 32 := 0#32
  let v16 : BitVec 1 := Scalar.cmpi .ne v15 c0_i32_9
  let v17 : BitVec 1 := Scalar.andi v14 v16
  let v3 : BitVec 32 := Scalar.divsi arg3 c65536_i32
  let c1_i32_10 : BitVec 32 := 1#32
  let v18 : BitVec 32 := Scalar.subi v3 c1_i32_10
  let v19 : BitVec 32 := Scalar.select v17 v18 v3
  let v66 : Index := Scalar.indexCast v19
  let c0_i32_11 : BitVec 32 := 0#32
  let v21 : BitVec 1 := Scalar.cmpi .sgt arg3 c0_i32_11
  let v22 : BitVec 32 := Scalar.extui v21
  let c0_i32_12 : BitVec 32 := 0#32
  let v23 : BitVec 1 := Scalar.cmpi .slt arg3 c0_i32_12
  let v24 : BitVec 32 := Scalar.extui v23
  let v25 : BitVec 32 := Scalar.subi v22 v24
  let c64_i32 : BitVec 32 := 64#32
  let c0_i32_13 : BitVec 32 := 0#32
  let v26 : BitVec 1 := Scalar.cmpi .sgt c64_i32 c0_i32_13
  let v27 : BitVec 32 := Scalar.extui v26
  let c0_i32_14 : BitVec 32 := 0#32
  let v28 : BitVec 1 := Scalar.cmpi .slt c64_i32 c0_i32_14
  let v29 : BitVec 32 := Scalar.extui v28
  let v30 : BitVec 32 := Scalar.subi v27 v29
  let v31 : BitVec 1 := Scalar.cmpi .ne v25 v30
  let v32 : BitVec 32 := Scalar.remsi arg3 c64_i32
  let c0_i32_15 : BitVec 32 := 0#32
  let v33 : BitVec 1 := Scalar.cmpi .ne v32 c0_i32_15
  let v34 : BitVec 1 := Scalar.andi v31 v33
  let v20 : BitVec 32 := Scalar.divsi arg3 c64_i32
  let c1_i32_16 : BitVec 32 := 1#32
  let v35 : BitVec 32 := Scalar.subi v20 c1_i32_16
  let v36 : BitVec 32 := Scalar.select v34 v35 v20
  let c1024_i32 : BitVec 32 := 1024#32
  let c0_i32_17 : BitVec 32 := 0#32
  let v37 : BitVec 1 := Scalar.cmpi .eq c1024_i32 c0_i32_17
  let c1_i32_18 : BitVec 32 := 1#32
  let v38 : BitVec 32 := Scalar.select v37 c1_i32_18 c1024_i32
  let v39 : BitVec 32 := Scalar.remsi v36 v38
  let c0_i32_20 : BitVec 32 := 0#32
  let v41 : BitVec 1 := Scalar.cmpi .slt v39 c0_i32_20
  let c0_i32_21 : BitVec 32 := 0#32
  let v42 : BitVec 1 := Scalar.cmpi .slt v38 c0_i32_21
  let v43 : BitVec 1 := Scalar.xori v41 v42
  let c0_i32_19 : BitVec 32 := 0#32
  let v40 : BitVec 1 := Scalar.cmpi .ne v39 c0_i32_19
  let v44 : BitVec 1 := Scalar.andi v43 v40
  let v45 : BitVec 32 := Scalar.addi v39 v38
  let v46 : BitVec 32 := Scalar.select v44 v45 v39
  let v67 : Index := Scalar.indexCast v46
  let c64_i32_22 : BitVec 32 := 64#32
  let c0_i32_23 : BitVec 32 := 0#32
  let v47 : BitVec 1 := Scalar.cmpi .eq c64_i32_22 c0_i32_23
  let c1_i32_24 : BitVec 32 := 1#32
  let v48 : BitVec 32 := Scalar.select v47 c1_i32_24 c64_i32_22
  let v49 : BitVec 32 := Scalar.remsi arg3 v48
  let c0_i32_26 : BitVec 32 := 0#32
  let v51 : BitVec 1 := Scalar.cmpi .slt v49 c0_i32_26
  let c0_i32_27 : BitVec 32 := 0#32
  let v52 : BitVec 1 := Scalar.cmpi .slt v48 c0_i32_27
  let v53 : BitVec 1 := Scalar.xori v51 v52
  let c0_i32_25 : BitVec 32 := 0#32
  let v50 : BitVec 1 := Scalar.cmpi .ne v49 c0_i32_25
  let v54 : BitVec 1 := Scalar.andi v53 v50
  let v55 : BitVec 32 := Scalar.addi v49 v48
  let v56 : BitVec 32 := Scalar.select v54 v55 v49
  let v68 : Index := Scalar.indexCast v56
  let c0_33 : Index := 0#32
  let c0_34 : Index := 0#32
  ![v66.toNat, v67.toNat, v68.toNat, 0, 0]
abbrev stage0_0 : Fin 1 → Memref sig .tc .vmem S2x1024x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64x64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x64x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Ffn.lean ====
abbrev S2x16384x2048 : Shape := ⟨3, ![2, 16384, 2048]⟩
abbrev S2048 : Shape := ⟨1, ![2048]⟩
abbrev S2x2048 : Shape := ⟨2, ![2, 2048]⟩
abbrev S2048x5632 : Shape := ⟨2, ![2048, 5632]⟩
abbrev S5632x2048 : Shape := ⟨2, ![5632, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S2048x512 : Shape := ⟨2, ![2048, 512]⟩
abbrev S512x2048 : Shape := ⟨2, ![512, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S512x512 : Shape := ⟨2, ![512, 512]⟩

abbrev nBuf : Space → Nat
  | .hbm => 16
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2048x5632, .bf16⟩
  | .hbm, ⟨13, _⟩ => ⟨S2048x5632, .bf16⟩
  | .hbm, ⟨14, _⟩ => ⟨S5632x2048, .bf16⟩
  | .hbm, ⟨15, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x512x2048, .f32⟩
  | .local _ .vmem, ⟨16, _⟩ => ⟨S1x512x2048, .f32⟩
  | .local _ .vmem, ⟨17, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 32, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c4_i32 : BitVec 32 := 4#32
  let v32 : BitVec 32 := Scalar.addi c0_i32_20 c4_i32
  let c1_i32 : BitVec 32 := 1#32
  ⟨c0_i32_20, v32, c1_i32⟩
def k0_mult1 (k0_t1 : Fin k0_t1_loop.trips) : BitVec 32 :=
  let c0_i32_20 : BitVec 32 := 0#32
  let c1_i32 : BitVec 32 := 1#32
  let arg13 : BitVec 32 := Scf.iv c0_i32_20 c1_i32 k0_t1
  let c128_i32 : BitVec 32 := 128#32
  let v37 : BitVec 32 := Scalar.muli arg13 c128_i32
  v37
def k0_off1 (k0_t1 : Fin k0_t1_loop.trips) : Fin 3 → Nat :=
  let c0_26 : Index := 0#32
  let c0_i32_20 : BitVec 32 := 0#32
  let c1_i32 : BitVec 32 := 1#32
  let arg13 : BitVec 32 := Scf.iv c0_i32_20 c1_i32 k0_t1
  let c128_i32 : BitVec 32 := 128#32
  let v37 : BitVec 32 := Scalar.muli arg13 c128_i32
  let v38 : BitVec 32 := v37
  let v39 : Index := Scalar.indexCast v38
  let c0_27 : Index := 0#32
  ![0, v39.toNat, 0]
def k0_off2 (k0_t1 : Fin k0_t1_loop.trips) : Fin 2 → Nat :=
  let c0_i32_20 : BitVec 32 := 0#32
  let c1_i32 : BitVec 32 := 1#32
  let arg13 : BitVec 32 := Scf.iv c0_i32_20 c1_i32 k0_t1
  let c128_i32 : BitVec 32 := 128#32
  let v37 : BitVec 32 := Scalar.muli arg13 c128_i32
  let v38 : BitVec 32 := v37
  let v67 : Index := Scalar.indexCast v38
  let c0_40 : Index := 0#32
  ![v67.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnRefIdeal.lean ====
abbrev S2x16384x2048 : Shape := ⟨3, ![2, 16384, 2048]⟩
abbrev S2048 : Shape := ⟨1, ![2048]⟩
abbrev S2x2048 : Shape := ⟨2, ![2, 2048]⟩
abbrev S2048x5632 : Shape := ⟨2, ![2048, 5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x5632 : Shape := ⟨3, ![2, 16384, 5632]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2x16384x2048, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x2048, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x16384x2048, .f32⟩
  | .hbm, ⟨29, _⟩ => ⟨S2x16384x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x1x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x16384x5632, .f32⟩
  | .hbm, ⟨38, _⟩ => ⟨S2x16384x5632, .f32⟩
  | .hbm, ⟨39, _⟩ => ⟨S2x16384x5632, .f32⟩
  | .hbm, ⟨40, _⟩ => ⟨S_, .f32⟩
  | .hbm, ⟨41, _⟩ => ⟨S2x16384x5632, .f32⟩
  | .hbm, ⟨42, _⟩ => ⟨S2x16384x5632, .f32⟩
  | .hbm, ⟨43, _⟩ => ⟨S_, .f32⟩
  | .hbm, ⟨44, _⟩ => ⟨S2x16384x5632, .f32⟩
  | .hbm, ⟨45, _⟩ => ⟨S2x16384x5632, .f32⟩
  | .hbm, ⟨46, _⟩ => ⟨S2x16384x5632, .f32⟩
  | .hbm, ⟨47, _⟩ => ⟨S2x16384x5632, .f32⟩
  | .hbm, ⟨48, _⟩ => ⟨S2x16384x5632, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== In.lean ====
abbrev S2x16384x2048 : Shape := ⟨3, ![2, 16384, 2048]⟩
abbrev S2048 : Shape := ⟨1, ![2048]⟩
abbrev S2x2048 : Shape := ⟨2, ![2, 2048]⟩
abbrev S2048x14448 : Shape := ⟨2, ![2048, 14448]⟩
abbrev S2048x2048 : Shape := ⟨2, ![2048, 2048]⟩
abbrev S2048x4096 : Shape := ⟨2, ![2048, 4096]⟩
abbrev S2048x32 : Shape := ⟨2, ![2048, 32]⟩
abbrev S2048x512 : Shape := ⟨2, ![2048, 512]⟩
abbrev S2048x1024 : Shape := ⟨2, ![2048, 1024]⟩
abbrev S2048x64 : Shape := ⟨2, ![2048, 64]⟩
abbrev S2048x16 : Shape := ⟨2, ![2048, 16]⟩
abbrev S2048x14336 : Shape := ⟨2, ![2048, 14336]⟩
abbrev S_ : Shape := ⟨0, ![]⟩
abbrev S2048x128 : Shape := ⟨2, ![2048, 128]⟩
abbrev S1x2048 : Shape := ⟨2, ![1, 2048]⟩
abbrev S2x1x2048 : Shape := ⟨3, ![2, 1, 2048]⟩
abbrev S2x16384x14336 : Shape := ⟨3, ![2, 16384, 14336]⟩
abbrev S2x16384x128 : Shape := ⟨3, ![2, 16384, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1024x128 : Shape := ⟨3, ![1, 1024, 128]⟩
abbrev S1024x2048 : Shape := ⟨2, ![1024, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S1024x128 : Shape := ⟨2, ![1024, 128]⟩
abbrev S1024x1024 : Shape := ⟨2, ![1024, 1024]⟩

abbrev nBuf : Space → Nat
  | .hbm => 26
  | .vmem => 15
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x14448, .f32⟩
  | .hbm, ⟨5, _⟩ => ⟨S2048x2048, .f32⟩
  | .hbm, ⟨6, _⟩ => ⟨S2048x4096, .f32⟩
  | .hbm, ⟨7, _⟩ => ⟨S2048x32, .f32⟩
  | .hbm, ⟨8, _⟩ => ⟨S2048x2048, .f32⟩
  | .hbm, ⟨9, _⟩ => ⟨S2048x512, .f32⟩
  | .hbm, ⟨10, _⟩ => ⟨S2048x512, .f32⟩
  | .hbm, ⟨11, _⟩ => ⟨S2048x1024, .f32⟩
  | .hbm, ⟨12, _⟩ => ⟨S2048x64, .f32⟩
  | .hbm, ⟨13, _⟩ => ⟨S2048x16, .f32⟩
  | .hbm, ⟨14, _⟩ => ⟨S2048x4096, .f32⟩
  | .hbm, ⟨15, _⟩ => ⟨S2048x14336, .f32⟩
  | .hbm, ⟨16, _⟩ => ⟨S2048x14336, .bf16⟩
  | .hbm, ⟨17, _⟩ => ⟨S_, .f32⟩
  | .hbm, ⟨18, _⟩ => ⟨S2048x16, .f32⟩
  | .hbm, ⟨19, _⟩ => ⟨S2048x128, .f32⟩
  | .hbm, ⟨20, _⟩ => ⟨S2048x128, .bf16⟩
  | .hbm, ⟨21, _⟩ => ⟨S1x2048, .f32⟩
  | .hbm, ⟨22, _⟩ => ⟨S2x1x2048, .f32⟩
  | .hbm, ⟨23, _⟩ => ⟨S2x1x2048, .f32⟩
  | .hbm, ⟨24, _⟩ => ⟨S2x16384x14336, .bf16⟩
  | .hbm, ⟨25, _⟩ => ⟨S2x16384x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x128, .f32⟩
  | .local _ .vmem, ⟨13, _⟩ => ⟨S1x1024x128, .f32⟩
  | .local _ .vmem, ⟨14, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 14], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32 : BitVec 32 := 8#32
  let v11 : BitVec 32 := Scalar.addi c0_i32_7 c8_i32
  let c1_i32 : BitVec 32 := 1#32
  ⟨c0_i32_7, v11, c1_i32⟩
def k0_mult1 (k0_t1 : Fin k0_t1_loop.trips) : BitVec 32 :=
  let c0_i32_7 : BitVec 32 := 0#32
  let c1_i32 : BitVec 32 := 1#32
  let arg12 : BitVec 32 := Scf.iv c0_i32_7 c1_i32 k0_t1
  let c128_i32 : BitVec 32 := 128#32
  let v19 : BitVec 32 := Scalar.muli arg12 c128_i32
  v19
def k0_off1 (k0_t1 : Fin k0_t1_loop.trips) : Fin 3 → Nat :=
  let c0_17 : Index := 0#32
  let c0_i32_7 : BitVec 32 := 0#32
  let c1_i32 : BitVec 32 := 1#32
  let arg12 : BitVec 32 := Scf.iv c0_i32_7 c1_i32 k0_t1
  let c128_i32 : BitVec 32 := 128#32
  let v19 : BitVec 32 := Scalar.muli arg12 c128_i32
  let v20 : BitVec 32 := v19
  let v21 : Index := Scalar.indexCast v20
  let c0_18 : Index := 0#32
  ![0, v21.toNat, 0]
def k0_off2 (k0_t1 : Fin k0_t1_loop.trips) : Fin 2 → Nat :=
  let c0_i32_7 : BitVec 32 := 0#32
  let c1_i32 : BitVec 32 := 1#32
  let arg12 : BitVec 32 := Scf.iv c0_i32_7 c1_i32 k0_t1
  let c128_i32 : BitVec 32 := 128#32
  let v19 : BitVec 32 := Scalar.muli arg12 c128_i32
  let v20 : BitVec 32 := v19
  let v49 : Index := Scalar.indexCast v20
  let c0_31 : Index := 0#32
  ![v49.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== InRefIdeal.lean ====
abbrev S2x16384x2048 : Shape := ⟨3, ![2, 16384, 2048]⟩
abbrev S2048 : Shape := ⟨1, ![2048]⟩
abbrev S2x2048 : Shape := ⟨2, ![2, 2048]⟩
abbrev S2048x14448 : Shape := ⟨2, ![2048, 14448]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x14448 : Shape := ⟨3, ![2, 16384, 14448]⟩
abbrev S2x16384x6144 : Shape := ⟨3, ![2, 16384, 6144]⟩
abbrev S2x16384x4096 : Shape := ⟨3, ![2, 16384, 4096]⟩
abbrev S2x16384x14336 : Shape := ⟨3, ![2, 16384, 14336]⟩
abbrev S2x16384x80 : Shape := ⟨3, ![2, 16384, 80]⟩
abbrev S2x16384x32 : Shape := ⟨3, ![2, 16384, 32]⟩
abbrev S2x16384x16 : Shape := ⟨3, ![2, 16384, 16]⟩
abbrev S2x16384x128 : Shape := ⟨3, ![2, 16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x14448, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x16384x2048, .f32⟩
  | .hbm, ⟨26, _⟩ => ⟨S2x16384x2048, .f32⟩
  | .hbm, ⟨27, _⟩ => ⟨S2x1x2048, .f32⟩
  | .hbm, ⟨28, _⟩ => ⟨S2x16384x2048, .f32⟩
  | .hbm, ⟨29, _⟩ => ⟨S2x16384x2048, .f32⟩
  | .hbm, ⟨30, _⟩ => ⟨S2x16384x14448, .f32⟩
  | .hbm, ⟨31, _⟩ => ⟨S2x16384x6144, .f32⟩
  | .hbm, ⟨32, _⟩ => ⟨S2x16384x4096, .f32⟩
  | .hbm, ⟨33, _⟩ => ⟨S2x16384x4096, .f32⟩
  | .hbm, ⟨34, _⟩ => ⟨S2x16384x14336, .f32⟩
  | .hbm, ⟨35, _⟩ => ⟨S2x16384x80, .f32⟩
  | .hbm, ⟨36, _⟩ => ⟨S2x16384x32, .f32⟩
  | .hbm, ⟨37, _⟩ => ⟨S_, .f32⟩
  | .hbm, ⟨38, _⟩ => ⟨S2x16384x16, .f32⟩
  | .hbm, ⟨39, _⟩ => ⟨S2x16384x128, .f32⟩
  | .hbm, ⟨40, _⟩ => ⟨S2x16384x14336, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Merge.lean ====
abbrev S2x16384x2048 : Shape := ⟨3, ![2, 16384, 2048]⟩
abbrev S2x16384x14336 : Shape := ⟨3, ![2, 16384, 14336]⟩
abbrev S2048x2048 : Shape := ⟨2, ![2048, 2048]⟩
abbrev S1x1024x2048 : Shape := ⟨3, ![1, 1024, 2048]⟩
abbrev S1x1024x512 : Shape := ⟨3, ![1, 1024, 512]⟩
abbrev S2048x512 : Shape := ⟨2, ![2048, 512]⟩
abbrev S1024x2048 : Shape := ⟨2, ![1024, 2048]⟩
abbrev S1024x512 : Shape := ⟨2, ![1024, 512]⟩

abbrev nBuf : Space → Nat
  | .hbm => 8
  | .vmem => 14
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .bf16⟩
  | .hbm, ⟨2, _⟩ => ⟨S2x16384x14336, .bf16⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2x16384x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1x1024x512, .bf16⟩
  | .local _ .vmem, ⟨13, _⟩ => ⟨S1x1024x512, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  ![arg0.toNat, arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== MergeRefIdeal.lean ====
abbrev S2x16384x2048 : Shape := ⟨3, ![2, 16384, 2048]⟩
abbrev S2x16384x14336 : Shape := ⟨3, ![2, 16384, 14336]⟩
abbrev S2048x2048 : Shape := ⟨2, ![2048, 2048]⟩
abbrev S2x16384x4096 : Shape := ⟨3, ![2, 16384, 4096]⟩
abbrev S_ : Shape := ⟨0, ![]⟩
abbrev S2x16384x2x2048 : Shape := ⟨4, ![2, 16384, 2, 2048]⟩
abbrev S2x16384x1x2048 : Shape := ⟨4, ![2, 16384, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .bf16⟩
  | .hbm, ⟨2, _⟩ => ⟨S2x16384x14336, .bf16⟩
  | .hbm, ⟨3, _⟩ => ⟨S2048x2048, .f32⟩
  | .hbm, ⟨4, _⟩ => ⟨S2048x2048, .f32⟩
  | .hbm, ⟨5, _⟩ => ⟨S2x16384x2048, .f32⟩
  | .hbm, ⟨6, _⟩ => ⟨S2x16384x2048, .f32⟩
  | .hbm, ⟨7, _⟩ => ⟨S2x16384x4096, .bf16⟩
  | .hbm, ⟨8, _⟩ => ⟨S2x16384x4096, .f32⟩
  | .hbm, ⟨9, _⟩ => ⟨S2x16384x4096, .f32⟩
  | .hbm, ⟨10, _⟩ => ⟨S2x16384x4096, .f32⟩
  | .hbm, ⟨11, _⟩ => ⟨S_, .f32⟩
  | .hbm, ⟨12, _⟩ => ⟨S2x16384x4096, .f32⟩
  | .hbm, ⟨13, _⟩ => ⟨S2x16384x4096, .f32⟩
  | .hbm, ⟨14, _⟩ => ⟨S_, .f32⟩
  | .hbm, ⟨15, _⟩ => ⟨S2x16384x4096, .f32⟩
  | .hbm, ⟨16, _⟩ => ⟨S2x16384x4096, .f32⟩
  | .hbm, ⟨17, _⟩ => ⟨S2x16384x2x2048, .f32⟩
  | .hbm, ⟨18, _⟩ => ⟨S2x16384x1x2048, .f32⟩
  | .hbm, ⟨19, _⟩ => ⟨S2x16384x2048, .f32⟩
  | .hbm, ⟨20, _⟩ => ⟨S2x16384x2048, .f32⟩
  | .hbm, ⟨21, _⟩ => ⟨S2x16384x2048, .f32⟩
  | .hbm, ⟨22, _⟩ => ⟨S2x16384x1x2048, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S2x16384x2048, .f32⟩
  | .hbm, ⟨27, _⟩ => ⟨S2x16384x2048, .bf16⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Out.lean ====
abbrev S2x16384x2048 : Shape := ⟨3, ![2, 16384, 2048]⟩
abbrev S2x2048 : Shape := ⟨2, ![2, 2048]⟩
abbrev S2048x2048 : Shape := ⟨2, ![2048, 2048]⟩
abbrev S2x1x2048 : Shape := ⟨3, ![2, 1, 2048]⟩
abbrev S1x1024x2048 : Shape := ⟨3, ![1, 1024, 2048]⟩
abbrev S1x1024x512 : Shape := ⟨3, ![1, 1024, 512]⟩
abbrev S1x1x512 : Shape := ⟨3, ![1, 1, 512]⟩
abbrev S2048x512 : Shape := ⟨2, ![2048, 512]⟩
abbrev S1024x512 : Shape := ⟨2, ![1024, 512]⟩
abbrev S1x512 : Shape := ⟨2, ![1, 512]⟩
abbrev S1024x2048 : Shape := ⟨2, ![1024, 2048]⟩

abbrev nBuf : Space → Nat
  | .hbm => 7
  | .vmem => 10
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .f32⟩
  | .hbm, ⟨2, _⟩ => ⟨S2x2048, .f32⟩
  | .hbm, ⟨3, _⟩ => ⟨S2048x2048, .f32⟩
  | .hbm, ⟨4, _⟩ => ⟨S2x1x2048, .f32⟩
  | .hbm, ⟨5, _⟩ => ⟨S2048x2048, .bf16⟩
  | .hbm, ⟨6, _⟩ => ⟨S2x16384x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x512, .f32⟩
  | .local _ .vmem, ⟨3, _⟩ => ⟨S1x1024x512, .f32⟩
  | .local _ .vmem, ⟨4, _⟩ => ⟨S1x1x512, .f32⟩
  | .local _ .vmem, ⟨5, _⟩ => ⟨S1x1x512, .f32⟩
  | .local _ .vmem, ⟨6, _⟩ => ⟨S2048x512, .bf16⟩
  | .local _ .vmem, ⟨7, _⟩ => ⟨S2048x512, .bf16⟩
  | .local _ .vmem, ⟨8, _⟩ => ⟨S1x1024x512, .f32⟩
  | .local _ .vmem, ⟨9, _⟩ => ⟨S1x1024x512, .f32⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutRefIdeal.lean ====
abbrev S2x16384x2048 : Shape := ⟨3, ![2, 16384, 2048]⟩
abbrev S2x2048 : Shape := ⟨2, ![2, 2048]⟩
abbrev S2048x2048 : Shape := ⟨2, ![2048, 2048]⟩
abbrev S2x1x2048 : Shape := ⟨3, ![2, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2x16384x2048, .f32⟩
  | .hbm, ⟨2, _⟩ => ⟨S2x2048, .f32⟩
  | .hbm, ⟨3, _⟩ => ⟨S2048x2048, .f32⟩
  | .hbm, ⟨4, _⟩ => ⟨S2x1x2048, .f32⟩
  | .hbm, ⟨5, _⟩ => ⟨S2x16384x2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Ada.lean ====
abbrev S2x2048 : Shape := ⟨2, ![2, 2048]⟩
abbrev S2048x18432 : Shape := ⟨2, ![2048, 18432]⟩
abbrev S18432 : Shape := ⟨1, ![18432]⟩
abbrev S2048x2 : Shape := ⟨2, ![2048, 2]⟩
abbrev S1x18432 : Shape := ⟨2, ![1, 18432]⟩
abbrev S2x18432 : Shape := ⟨2, ![2, 18432]⟩
abbrev S2048x1024 : Shape := ⟨2, ![2048, 1024]⟩
abbrev S1x1024 : Shape := ⟨2, ![1, 1024]⟩
abbrev S2x1024 : Shape := ⟨2, ![2, 1024]⟩
abbrev S2048x1 : Shape := ⟨2, ![2048, 1]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048x18432, .f32⟩
  | .hbm, ⟨2, _⟩ => ⟨S18432, .f32⟩
  | .hbm, ⟨3, _⟩ => ⟨S2048x2, .f32⟩
  | .hbm, ⟨4, _⟩ => ⟨S1x18432, .f32⟩
  | .hbm, ⟨5, _⟩ => ⟨S2x18432, .f32⟩
  | .local _ .vmem, ⟨0, _⟩ => ⟨S2048x2, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2x2048 : Shape := ⟨2, ![2, 2048]⟩
abbrev S2048x18432 : Shape := ⟨2, ![2048, 18432]⟩
abbrev S18432 : Shape := ⟨1, ![18432]⟩
abbrev S_ : Shape := ⟨0, ![]⟩
abbrev S2x18432 : Shape := ⟨2, ![2, 18432]⟩
abbrev S1x18432 : Shape := ⟨2, ![1, 18432]⟩

abbrev nBuf : Space → Nat
  | .hbm => 16
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048x18432, .f32⟩
  | .hbm, ⟨2, _⟩ => ⟨S18432, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x18432, .f32⟩
  | .hbm, ⟨13, _⟩ => ⟨S1x18432, .f32⟩
  | .hbm, ⟨14, _⟩ => ⟨S2x18432, .f32⟩
  | .hbm, ⟨15, _⟩ => ⟨S2x18432, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Mix.lean ====
abbrev S2x2048 : Shape := ⟨2, ![2, 2048]⟩
abbrev S2048x18432 : Shape := ⟨2, ![2048, 18432]⟩
abbrev S18432 : Shape := ⟨1, ![18432]⟩
abbrev S2x16384x2048 : Shape := ⟨3, ![2, 16384, 2048]⟩
abbrev S2x16384x14336 : Shape := ⟨3, ![2, 16384, 14336]⟩
abbrev S2048x2048 : Shape := ⟨2, ![2048, 2048]⟩
abbrev S2048x2 : Shape := ⟨2, ![2048, 2]⟩
abbrev S1x18432 : Shape := ⟨2, ![1, 18432]⟩
abbrev S2x18432 : Shape := ⟨2, ![2, 18432]⟩
abbrev S2048x1024 : Shape := ⟨2, ![2048, 1024]⟩
abbrev S1x1024 : Shape := ⟨2, ![1, 1024]⟩
abbrev S2x1024 : Shape := ⟨2, ![2, 1024]⟩
abbrev S2048x1 : Shape := ⟨2, ![2048, 1]⟩
abbrev S1024 : Shape := ⟨1, ![1024]⟩
abbrev S2x9x1x2048 : Shape := ⟨4, ![2, 9, 1, 2048]⟩
abbrev S1x1024x2048 : Shape := ⟨3, ![1, 1024, 2048]⟩
abbrev S1x1024x512 : Shape := ⟨3, ![1, 1024, 512]⟩
abbrev S2048x512 : Shape := ⟨2, ![2048, 512]⟩
abbrev S1024x2048 : Shape := ⟨2, ![1024, 2048]⟩
abbrev S1024x512 : Shape := ⟨2, ![1024, 512]⟩
abbrev S2x1x1x2048 : Shape := ⟨4, ![2, 1, 1, 2048]⟩
abbrev S2x1x2048 : Shape := ⟨3, ![2, 1, 2048]⟩
abbrev S1x1x512 : Shape := ⟨3, ![1, 1, 512]⟩
abbrev S1x512 : Shape := ⟨2, ![1, 512]⟩

abbrev nBuf : Space → Nat
  | .hbm => 21
  | .vmem => 31
  | .smem => 0
  | _ => 0

abbrev bufTy : (tb : Table) → Fin (tcTables nBuf tb) → BufTy
  | .hbm, ⟨0, _⟩ => ⟨S2x2048, .f32⟩
  | .hbm, ⟨1, _⟩ => ⟨S2048x18432, .f32⟩
  | .hbm, ⟨2, _⟩ => ⟨S18432, .f32⟩
  | .hbm, ⟨3, _⟩ => ⟨S2x16384x2048, .bf16⟩
  | .hbm, ⟨4, _⟩ => ⟨S2x16384x2048, .bf16⟩
  | .hbm, ⟨5, _⟩ => ⟨S2x16384x14336, .bf16⟩
  | .hbm, ⟨6, _⟩ => ⟨S2x16384x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2, .f32⟩
  | .hbm, ⟨11, _⟩ => ⟨S1x18432, .f32⟩
  | .hbm, ⟨12, _⟩ => ⟨S2x18432, .f32⟩
  | .hbm, ⟨13, _⟩ => ⟨S2x9x1x2048, .f32⟩
  | .hbm, ⟨14, _⟩ => ⟨S2048x2048, .bf16⟩
  | .hbm, ⟨15, _⟩ => ⟨S2048x2048, .bf16⟩
  | .hbm, ⟨16, _⟩ => ⟨S2x16384x2048, .bf16⟩
  | .hbm, ⟨17, _⟩ => ⟨S2x1x1x2048, .f32⟩
  | .hbm, ⟨18, _⟩ => ⟨S2x1x2048, .f32⟩
  | .hbm, ⟨19, _⟩ => ⟨S2048x2048, .bf16⟩
  | .hbm, ⟨20, _⟩ => ⟨S2x16384x2048, .f32⟩
  | .local _ .vmem, ⟨0, _⟩ => ⟨S2048x2, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x2048, .bf16⟩
  | .local _ .vmem, ⟨22, _⟩ => ⟨S1x1024x2048, .bf16⟩
  | .local _ .vmem, ⟨23, _⟩ => ⟨S1x1024x512, .f32⟩
  | .local _ .vmem, ⟨24, _⟩ => ⟨S1x1024x512, .f32⟩
  | .local _ .vmem, ⟨25, _⟩ => ⟨S1x1x512, .f32⟩
  | .local _ .vmem, ⟨26, _⟩ => ⟨S1x1x512, .f32⟩
  | .local _ .vmem, ⟨27, _⟩ => ⟨S2048x512, .bf16⟩
  | .local _ .vmem, ⟨28, _⟩ => ⟨S2048x512, .bf16⟩
  | .local _ .vmem, ⟨29, _⟩ => ⟨S1x1024x512, .f32⟩
  | .local _ .vmem, ⟨30, _⟩ => ⟨S1x1024x512, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 16, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg2
  let c0_i32 : BitVec 32 := 0#32
  ![arg0.toNat, arg1.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg2
  let c0_i32 : BitVec 32 := 0#32
  ![arg0.toNat, arg1.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, false, true]

abbrev stage1_6 : Fin 2 → Memref sig .tc .vmem S1x1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev grid2 : Pipeline.Grid := ⟨3, ![2, 16, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, false, true]

abbrev stage2_4 : Fin 2 → Memref sig .tc .vmem S1x1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]
-- ==== MixRefIdeal.lean ====
abbrev S2x2048 : Shape := ⟨2, ![2, 2048]⟩
abbrev S2048x18432 : Shape := ⟨2, ![2048, 18432]⟩
abbrev S18432 : Shape := ⟨1, ![18432]⟩
abbrev S2x16384x2048 : Shape := ⟨3, ![2, 16384, 2048]⟩
abbrev S2x16384x14336 : Shape := ⟨3, ![2, 16384, 14336]⟩
abbrev S2048x2048 : Shape := ⟨2, ![2048, 2048]⟩
abbrev S_ : Shape := ⟨0, ![]⟩
abbrev S2x18432 : Shape := ⟨2, ![2, 18432]⟩
abbrev S1x18432 : Shape := ⟨2, ![1, 18432]⟩
abbrev S2x9x2048 : Shape := ⟨3, ![2, 9, 2048]⟩
abbrev S2x1x2048 : Shape := ⟨3, ![2, 1, 2048]⟩
abbrev S2x16384x4096 : Shape := ⟨3, ![2, 16384, 4096]⟩
abbrev S2x16384x2x2048 : Shape := ⟨4, ![2, 16384, 2, 2048]⟩
abbrev S2x16384x1x2048 : Shape := ⟨4, ![2, 16384, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048x18432, .f32⟩
  | .hbm, ⟨2, _⟩ => ⟨S18432, .f32⟩
  | .hbm, ⟨3, _⟩ => ⟨S2x16384x2048, .bf16⟩
  | .hbm, ⟨4, _⟩ => ⟨S2x16384x2048, .bf16⟩
  | .hbm, ⟨5, _⟩ => ⟨S2x16384x14336, .bf16⟩
  | .hbm, ⟨6, _⟩ => ⟨S2x16384x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2x2048, .f32⟩
  | .hbm, ⟨11, _⟩ => ⟨S2x2048, .f32⟩
  | .hbm, ⟨12, _⟩ => ⟨S_, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S2x18432, .f32⟩
  | .hbm, ⟨20, _⟩ => ⟨S1x18432, .f32⟩
  | .hbm, ⟨21, _⟩ => ⟨S2x18432, .f32⟩
  | .hbm, ⟨22, _⟩ => ⟨S2x18432, .f32⟩
  | .hbm, ⟨23, _⟩ => ⟨S2x9x2048, .f32⟩
  | .hbm, ⟨24, _⟩ => ⟨S2x1x2048, .f32⟩
  | .hbm, ⟨25, _⟩ => ⟨S2x2048, .f32⟩
  | .hbm, ⟨26, _⟩ => ⟨S2x16384x4096, .bf16⟩
  | .hbm, ⟨27, _⟩ => ⟨S2x16384x4096, .f32⟩
  | .hbm, ⟨28, _⟩ => ⟨S2x16384x4096, .f32⟩
  | .hbm, ⟨29, _⟩ => ⟨S2x16384x4096, .f32⟩
  | .hbm, ⟨30, _⟩ => ⟨S_, .f32⟩
  | .hbm, ⟨31, _⟩ => ⟨S2x16384x4096, .f32⟩
  | .hbm, ⟨32, _⟩ => ⟨S2x16384x4096, .f32⟩
  | .hbm, ⟨33, _⟩ => ⟨S_, .f32⟩
  | .hbm, ⟨34, _⟩ => ⟨S2x16384x4096, .f32⟩
  | .hbm, ⟨35, _⟩ => ⟨S2x16384x4096, .f32⟩
  | .hbm, ⟨36, _⟩ => ⟨S2x16384x2x2048, .f32⟩
  | .hbm, ⟨37, _⟩ => ⟨S2x16384x1x2048, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S2x16384x1x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S2x1x2048, .f32⟩
  | .hbm, ⟨49, _⟩ => ⟨S2x16384x2048, .f32⟩
  | .hbm, ⟨50, _⟩ => ⟨S2x16384x2048, .f32⟩
  | .hbm, ⟨51, _⟩ => ⟨S2x16384x2048, .f32⟩
  | .hbm, ⟨52, _⟩ => ⟨S2x16384x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Prep.lean ====
abbrev S2x16384x14336 : Shape := ⟨3, ![2, 16384, 14336]⟩
abbrev S2x16384x128 : Shape := ⟨3, ![2, 16384, 128]⟩
abbrev S2x16384 : Shape := ⟨2, ![2, 16384]⟩
abbrev S128 : Shape := ⟨1, ![128]⟩
abbrev S16x128x1 : Shape := ⟨3, ![16, 128, 1]⟩
abbrev S2x16384x1 : Shape := ⟨3, ![2, 16384, 1]⟩
abbrev S1x128 : Shape := ⟨2, ![1, 128]⟩
abbrev S2x8x256x32768 : Shape := ⟨4, ![2, 8, 256, 32768]⟩
abbrev S2x4x16384x256 : Shape := ⟨4, ![2, 4, 16384, 256]⟩
abbrev S2x4x144x16384 : Shape := ⟨4, ![2, 4, 144, 16384]⟩
abbrev S2x1024x16x16x64 : Shape := ⟨5, ![2, 1024, 16, 16, 64]⟩
abbrev S2x64x64x256 : Shape := ⟨4, ![2, 64, 64, 256]⟩
abbrev S1x256x2048 : Shape := ⟨3, ![1, 256, 2048]⟩
abbrev S1x256x512 : Shape := ⟨3, ![1, 256, 512]⟩
abbrev S1x256x1024 : Shape := ⟨3, ![1, 256, 1024]⟩
abbrev S1x256x128 : Shape := ⟨3, ![1, 256, 128]⟩
abbrev S1x256x1 : Shape := ⟨3, ![1, 256, 1]⟩
abbrev S1x8x256x512 : Shape := ⟨4, ![1, 8, 256, 512]⟩
abbrev S1x4x256x256 : Shape := ⟨4, ![1, 4, 256, 256]⟩
abbrev S1x4x144x256 : Shape := ⟨4, ![1, 4, 144, 256]⟩
abbrev S1x16x16x16x64 : Shape := ⟨5, ![1, 16, 16, 16, 64]⟩
abbrev S1x1x64x256 : Shape := ⟨4, ![1, 1, 64, 256]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S128x256 : Shape := ⟨2, ![128, 256]⟩
abbrev S1x1x128x256 : Shape := ⟨4, ![1, 1, 128, 256]⟩
abbrev S1x128x1 : Shape := ⟨3, ![1, 128, 1]⟩
abbrev S128x1 : Shape := ⟨2, ![128, 1]⟩
abbrev S256x512 : Shape := ⟨2, ![256, 512]⟩
abbrev S1x1x256x128 : Shape := ⟨4, ![1, 1, 256, 128]⟩
abbrev S16x256 : Shape := ⟨2, ![16, 256]⟩
abbrev S1x1x16x256 : Shape := ⟨4, ![1, 1, 16, 256]⟩
abbrev S256x1024 : Shape := ⟨2, ![256, 1024]⟩
abbrev S256x64 : Shape := ⟨2, ![256, 64]⟩
abbrev S16x16x64 : Shape := ⟨3, ![16, 16, 64]⟩
abbrev S1x16x1x16x64 : Shape := ⟨5, ![1, 16, 1, 16, 64]⟩
abbrev S64x256 : Shape := ⟨2, ![64, 256]⟩
abbrev S2x8x128x32768 : Shape := ⟨4, ![2, 8, 128, 32768]⟩
abbrev S2x4x16384x128 : Shape := ⟨4, ![2, 4, 16384, 128]⟩
abbrev S2x4x128x16384 : Shape := ⟨4, ![2, 4, 128, 16384]⟩

abbrev nBuf : Space → Nat
  | .hbm => 17
  | .vmem => 25
  | .smem => 0
  | _ => 0

abbrev bufTy : (tb : Table) → Fin (tcTables nBuf tb) → BufTy
  | .hbm, ⟨0, _⟩ => ⟨S2x16384x14336, .bf16⟩
  | .hbm, ⟨1, _⟩ => ⟨S2x16384x128, .f32⟩
  | .hbm, ⟨2, _⟩ => ⟨S2x16384, .i32⟩
  | .hbm, ⟨3, _⟩ => ⟨S128, .f32⟩
  | .hbm, ⟨4, _⟩ => ⟨S128, .f32⟩
  | .hbm, ⟨5, _⟩ => ⟨S16x128x1, .f32⟩
  | .hbm, ⟨6, _⟩ => ⟨S2x16384x1, .i32⟩
  | .hbm, ⟨7, _⟩ => ⟨S1x128, .f32⟩
  | .hbm, ⟨8, _⟩ => ⟨S1x128, .f32⟩
  | .hbm, ⟨9, _⟩ => ⟨S2x8x256x32768, .bf16⟩
  | .hbm, ⟨10, _⟩ => ⟨S2x4x16384x256, .bf16⟩
  | .hbm, ⟨11, _⟩ => ⟨S2x4x144x16384, .bf16⟩
  | .hbm, ⟨12, _⟩ => ⟨S2x1024x16x16x64, .bf16⟩
  | .hbm, ⟨13, _⟩ => ⟨S2x64x64x256, .bf16⟩
  | .hbm, ⟨14, _⟩ => ⟨S2x8x128x32768, .bf16⟩
  | .hbm, ⟨15, _⟩ => ⟨S2x4x16384x128, .bf16⟩
  | .hbm, ⟨16, _⟩ => ⟨S2x4x128x16384, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x128, .f32⟩
  | .local _ .vmem, ⟨9, _⟩ => ⟨S1x256x128, .f32⟩
  | .local _ .vmem, ⟨10, _⟩ => ⟨S1x256x1, .i32⟩
  | .local _ .vmem, ⟨11, _⟩ => ⟨S1x256x1, .i32⟩
  | .local _ .vmem, ⟨12, _⟩ => ⟨S1x128, .f32⟩
  | .local _ .vmem, ⟨13, _⟩ => ⟨S1x128, .f32⟩
  | .local _ .vmem, ⟨14, _⟩ => ⟨S16x128x1, .f32⟩
  | .local _ .vmem, ⟨15, _⟩ => ⟨S1x8x256x512, .bf16⟩
  | .local _ .vmem, ⟨16, _⟩ => ⟨S1x8x256x512, .bf16⟩
  | .local _ .vmem, ⟨17, _⟩ => ⟨S1x4x256x256, .bf16⟩
  | .local _ .vmem, ⟨18, _⟩ => ⟨S1x4x256x256, .bf16⟩
  | .local _ .vmem, ⟨19, _⟩ => ⟨S1x4x144x256, .bf16⟩
  | .local _ .vmem, ⟨20, _⟩ => ⟨S1x4x144x256, .bf16⟩
  | .local _ .vmem, ⟨21, _⟩ => ⟨S1x16x16x16x64, .bf16⟩
  | .local _ .vmem, ⟨22, _⟩ => ⟨S1x16x16x16x64, .bf16⟩
  | .local _ .vmem, ⟨23, _⟩ => ⟨S1x1x64x256, .bf16⟩
  | .local _ .vmem, ⟨24, _⟩ => ⟨S1x1x64x256, .bf16⟩
  | _, _ => ⟨S2x16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_2 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x144x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x16x16x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepRefIdeal.lean ====
abbrev S2x16384x14336 : Shape := ⟨3, ![2, 16384, 14336]⟩
abbrev S2x16384x128 : Shape := ⟨3, ![2, 16384, 128]⟩
abbrev S2x16384 : Shape := ⟨2, ![2, 16384]⟩
abbrev S128 : Shape := ⟨1, ![128]⟩
abbrev S2x16384x2048 : Shape := ⟨3, ![2, 16384, 2048]⟩
abbrev S2x16384x16x128 : Shape := ⟨4, ![2, 16384, 16, 128]⟩
abbrev S_ : Shape := ⟨0, ![]⟩
abbrev S2x16384x16 : Shape := ⟨3, ![2, 16384, 16]⟩
abbrev S2x16384x16x1 : Shape := ⟨4, ![2, 16384, 16, 1]⟩
abbrev S1x1x1x128 : Shape := ⟨4, ![1, 1, 1, 128]⟩
abbrev S2x16384x512 : Shape := ⟨3, ![2, 16384, 512]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S2x16384x1024 : Shape := ⟨3, ![2, 16384, 1024]⟩
abbrev S2x16384x64 : Shape := ⟨3, ![2, 16384, 64]⟩
abbrev S2x16x128x16384 : Shape := ⟨4, ![2, 16, 128, 16384]⟩
abbrev S16x2x128x64x256 : Shape := ⟨5, ![16, 2, 128, 64, 256]⟩
abbrev S16x128x64x2x256 : Shape := ⟨5, ![16, 128, 64, 2, 256]⟩
abbrev S2x8x128x32768 : Shape := ⟨4, ![2, 8, 128, 32768]⟩
abbrev S2x1024x16x16x64 : Shape := ⟨5, ![2, 1024, 16, 16, 64]⟩
abbrev S2x64x256x64 : Shape := ⟨4, ![2, 64, 256, 64]⟩
abbrev S2x64x64x256 : Shape := ⟨4, ![2, 64, 64, 256]⟩
abbrev S2x4x16384x128 : Shape := ⟨4, ![2, 4, 16384, 128]⟩
abbrev S2x4x128x16384 : Shape := ⟨4, ![2, 4, 128, 16384]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x14336, .bf16⟩
  | .hbm, ⟨1, _⟩ => ⟨S2x16384x128, .f32⟩
  | .hbm, ⟨2, _⟩ => ⟨S2x16384, .i32⟩
  | .hbm, ⟨3, _⟩ => ⟨S128, .f32⟩
  | .hbm, ⟨4, _⟩ => ⟨S128, .f32⟩
  | .hbm, ⟨5, _⟩ => ⟨S2x16384x14336, .f32⟩
  | .hbm, ⟨6, _⟩ => ⟨S2x16384x2048, .f32⟩
  | .hbm, ⟨7, _⟩ => ⟨S2x16384x16x128, .f32⟩
  | .hbm, ⟨8, _⟩ => ⟨S2x16384x16x128, .f32⟩
  | .hbm, ⟨9, _⟩ => ⟨S_, .f32⟩
  | .hbm, ⟨10, _⟩ => ⟨S2x16384x16, .f32⟩
  | .hbm, ⟨11, _⟩ => ⟨S2x16384x16x1, .f32⟩
  | .hbm, ⟨12, _⟩ => ⟨S_, .f32⟩
  | .hbm, ⟨13, _⟩ => ⟨S2x16384x16x1, .f32⟩
  | .hbm, ⟨14, _⟩ => ⟨S2x16384x16x1, .f32⟩
  | .hbm, ⟨15, _⟩ => ⟨S_, .f32⟩
  | .hbm, ⟨16, _⟩ => ⟨S2x16384x16x1, .f32⟩
  | .hbm, ⟨17, _⟩ => ⟨S2x16384x16x1, .f32⟩
  | .hbm, ⟨18, _⟩ => ⟨S2x16384x16x1, .f32⟩
  | .hbm, ⟨19, _⟩ => ⟨S2x16384x16x128, .f32⟩
  | .hbm, ⟨20, _⟩ => ⟨S2x16384x16x128, .f32⟩
  | .hbm, ⟨21, _⟩ => ⟨S1x1x1x128, .f32⟩
  | .hbm, ⟨22, _⟩ => ⟨S2x16384x16x128, .f32⟩
  | .hbm, ⟨23, _⟩ => ⟨S2x16384x16x128, .f32⟩
  | .hbm, ⟨24, _⟩ => ⟨S_, .f32⟩
  | .hbm, ⟨25, _⟩ => ⟨S2x16384x16x128, .f32⟩
  | .hbm, ⟨26, _⟩ => ⟨S2x16384x16x128, .f32⟩
  | .hbm, ⟨27, _⟩ => ⟨S2x16384x512, .f32⟩
  | .hbm, ⟨28, _⟩ => ⟨S2x16384x4x128, .f32⟩
  | .hbm, ⟨29, _⟩ => ⟨S2x16384x4x128, .f32⟩
  | .hbm, ⟨30, _⟩ => ⟨S_, .f32⟩
  | .hbm, ⟨31, _⟩ => ⟨S2x16384x4, .f32⟩
  | .hbm, ⟨32, _⟩ => ⟨S2x16384x4x1, .f32⟩
  | .hbm, ⟨33, _⟩ => ⟨S_, .f32⟩
  | .hbm, ⟨34, _⟩ => ⟨S2x16384x4x1, .f32⟩
  | .hbm, ⟨35, _⟩ => ⟨S2x16384x4x1, .f32⟩
  | .hbm, ⟨36, _⟩ => ⟨S_, .f32⟩
  | .hbm, ⟨37, _⟩ => ⟨S2x16384x4x1, .f32⟩
  | .hbm, ⟨38, _⟩ => ⟨S2x16384x4x1, .f32⟩
  | .hbm, ⟨39, _⟩ => ⟨S2x16384x4x1, .f32⟩
  | .hbm, ⟨40, _⟩ => ⟨S2x16384x4x128, .f32⟩
  | .hbm, ⟨41, _⟩ => ⟨S2x16384x4x128, .f32⟩
  | .hbm, ⟨42, _⟩ => ⟨S1x1x1x128, .f32⟩
  | .hbm, ⟨43, _⟩ => ⟨S2x16384x4x128, .f32⟩
  | .hbm, ⟨44, _⟩ => ⟨S2x16384x4x128, .f32⟩
  | .hbm, ⟨45, _⟩ => ⟨S2x16384x512, .f32⟩
  | .hbm, ⟨46, _⟩ => ⟨S2x16384x4x128, .f32⟩
  | .hbm, ⟨47, _⟩ => ⟨S2x16384x1024, .f32⟩
  | .hbm, ⟨48, _⟩ => ⟨S2x16384x64, .f32⟩
  | .hbm, ⟨49, _⟩ => ⟨S2x16x128x16384, .f32⟩
  | .hbm, ⟨50, _⟩ => ⟨S16x2x128x64x256, .f32⟩
  | .hbm, ⟨51, _⟩ => ⟨S16x128x64x2x256, .f32⟩
  | .hbm, ⟨52, _⟩ => ⟨S2x8x128x32768, .f32⟩
  | .hbm, ⟨53, _⟩ => ⟨S2x1024x16x16x64, .f32⟩
  | .hbm, ⟨54, _⟩ => ⟨S2x1024x16x16x64, .f32⟩
  | .hbm, ⟨55, _⟩ => ⟨S2x64x256x64, .f32⟩
  | .hbm, ⟨56, _⟩ => ⟨S2x64x64x256, .f32⟩
  | .hbm, ⟨57, _⟩ => ⟨S2x8x128x32768, .bf16⟩
  | .hbm, ⟨58, _⟩ => ⟨S2x4x16384x128, .f32⟩
  | .hbm, ⟨59, _⟩ => ⟨S2x4x16384x128, .bf16⟩
  | .hbm, ⟨60, _⟩ => ⟨S2x4x128x16384, .f32⟩
  | .hbm, ⟨61, _⟩ => ⟨S2x4x128x16384, .bf16⟩
  | .hbm, ⟨62, _⟩ => ⟨S2x1024x16x16x64, .bf16⟩
  | .hbm, ⟨63, _⟩ => ⟨S2x64x64x256, .bf16⟩
  | _, _ => ⟨S2x16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩

abbrev nD : Nat := 1
abbrev τ : Topo := Topo.v7x

variable {F : FTy → Type} [FloatOps F]
-- ==== Proof.BitLoops.lean ====
/-
The two loops of the indexer that go over the bits of the threshold.

Each trip counts the stored keys that reach a candidate and keeps the candidate or the threshold before it. The
counting loops inside have generated invariants; here one trip's result is a function of the threshold carried in,
and the threshold before trip `k` is the recursion on it.
-/
module

public import proofs.«01_k».proof.Proof.Gen.Kernel.Loops

@[expose] public section

set_option maxRecDepth 8192
set_option maxHeartbeats 4000000

noncomputable section

namespace Cert.Proof.Kernel

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄K" => MT nD τ sig Unit (Elt F) ℕ (UR sig nD τ) ℕ

/-- No loop variants are tracked. -/
abbrev 𝒱₀ : Variants := Variants.none

variable (c : Dev nD) (i : grid0.Coords)
    (arg2 : Memref sig .tc .vmem S1x8x16x16x64 .bf16) (harg2 : arg2.IsWhole)
    (arg3 : Memref sig .tc .vmem S1x64x64x256 .bf16) (harg3 : arg3.IsWhole)
    (arg4 : Memref sig .tc .vmem S1x128x128 .f32) (harg4 : arg4.IsWhole)
    (arg5 : Memref sig .tc .vmem S1x128x1 .i32) (harg5 : arg5.IsWhole)
    (arg6 : Memref sig .tc .vmem S1x64x1x256 .i32) (harg6 : arg6.IsWhole)
    (arg7 : Memref sig .tc .vmem S1x16384x128 .bf16) (harg7 : arg7.IsWhole)
    (arg8 : Memref sig .tc .vmem S64x128x256 .i32) (harg8 : arg8.IsWhole)
    (arg9 : Memref sig .tc .vmem S16x128x128 .f32) (harg9 : arg9.IsWhole)
    (arg10 : Memref sig .tc .vmem S128x256 .i32) (harg10 : arg10.IsWhole)
    (v164 : BitVec 32) (v177 v178 : IVec S128x1 32) (v190 : BitVec 32) (hw : k0_chk1 v190)
    (X_arg8 : BufTy.Contents (Elt F) arg8.view.ty)

/-- One trip of the bit loop: the stored keys are read and left, and the new threshold is a function of the old. -/
@[irreducible] def trip_t5 (k : Fin (k0_t5_loop v190).trips) :
    { R : IVec S128x1 32 → IVec S128x1 32 // ∀ (E : Set ℕ) (acc : IVec S128x1 32),
      (arg8.view.loc (c : Thread nD τ) ↦[arg8.view.set]{fullShare} X_arg8 : sProp 𝕄K)
      ⊢ wp frame (wpE (defs₀ (F := F)) 𝒱₀ (c : Thread nD τ) none) E
          (k0_t5_body (F := F) i arg2 harg2 arg3 harg3 arg4 harg4 arg5 harg5 arg6 harg6 arg7 harg7 arg8 harg8 arg9 harg9 arg10 harg10 v164 v177 v178 v190 hw k acc)
          (fun yld => iprop(⌜yld = R acc⌝ ∗ (arg8.view.loc (c : Thread nD τ) ↦[arg8.view.set]{fullShare} X_arg8))) } := by
  refine ⟨?_, fun E acc => ?run⟩
  case run =>
    unfold k0_t5_body
    iintro H
    sl_exec
    sl_step
    sl_close

/-- The threshold before trip `k` of the bit loop. -/
def thrAt_t5 (init : IVec S128x1 32) : ℕ → IVec S128x1 32
  | 0 => init
  | k + 1 =>
    if h : k < (k0_t5_loop v190).trips then
      (trip_t5 (F := F) c i arg2 harg2 arg3 harg3 arg4 harg4 arg5 harg5 arg6 harg6 arg7 harg7 arg8 harg8 arg9 harg9 arg10 harg10 v164 v177 v178 v190 hw X_arg8 ⟨k, h⟩).1 (thrAt_t5 init k)
    else thrAt_t5 init k

theorem thrAt_t5_succ (init : IVec S128x1 32) (k : Fin (k0_t5_loop v190).trips) :
    thrAt_t5 (F := F) c i arg2 harg2 arg3 harg3 arg4 harg4 arg5 harg5 arg6 harg6 arg7 harg7 arg8 harg8 arg9 harg9 arg10 harg10 v164 v177 v178 v190 hw X_arg8 init (k.val + 1)
      = (trip_t5 (F := F) c i arg2 harg2 arg3 harg3 arg4 harg4 arg5 harg5 arg6 harg6 arg7 harg7 arg8 harg8 arg9 harg9 arg10 harg10 v164 v177 v178 v190 hw X_arg8 k).1 (thrAt_t5 (F := F) c i arg2 harg2 arg3 harg3 arg4 harg4 arg5 harg5 arg6 harg6 arg7 harg7 arg8 harg8 arg9 harg9 arg10 harg10 v164 v177 v178 v190 hw X_arg8 init k.val) := by
  rw [thrAt_t5]; exact dif_pos k.isLt

set_option warn.classDefReducibility false in
/-- The bit loop by its invariant: the stored keys as they were, and the threshold at `thrAt_t5`. -/
def loopInv_t5 (init : IVec S128x1 32) :
    LoopInvTy_k0_t5 (F := F) Unit ℕ (UR sig nD τ) ℕ 𝒱₀ c none Set.univ i arg2 harg2 arg3 harg3 arg4 harg4 arg5 harg5 arg6 harg6 arg7 harg7 arg8 harg8 arg9 harg9 arg10 harg10 v164 v177 v178 v190 hw init where
  inv k acc := iprop((arg8.view.loc (c : Thread nD τ) ↦[arg8.view.set]{fullShare} X_arg8)
    ∗ ⌜acc = thrAt_t5 (F := F) c i arg2 harg2 arg3 harg3 arg4 harg4 arg5 harg5 arg6 harg6 arg7 harg7 arg8 harg8 arg9 harg9 arg10 harg10 v164 v177 v178 v190 hw X_arg8 init k⌝)
  step k acc := by
    iintro ⟨H, %h⟩
    subst h
    iapply (wp_wand_r Idealize.ShloMosaic.frame (wpE (defs₀ (F := F)) 𝒱₀ (c : Thread nD τ) none) Set.univ)
    isplitl [H]
    · iapply ((trip_t5 (F := F) c i arg2 harg2 arg3 harg3 arg4 harg4 arg5 harg5 arg6 harg6 arg7 harg7 arg8 harg8 arg9 harg9 arg10 harg10 v164 v177 v178 v190 hw X_arg8 k).2 Set.univ _)
      iexact H
    · iintro %yld ⟨%hy, H⟩
      isplitl [H]; · iexact H
      simp only [thrAt_t5_succ]
      ipureintro; rw [hy]

/-- One trip of the bit loop's remainder: the stored keys are read and left, and the new threshold is a function of the old. -/
@[irreducible] def trip_t8 (k : Fin (k0_t8_loop v190).trips) :
    { R : IVec S128x1 32 → IVec S128x1 32 // ∀ (E : Set ℕ) (acc : IVec S128x1 32),
      (arg8.view.loc (c : Thread nD τ) ↦[arg8.view.set]{fullShare} X_arg8 : sProp 𝕄K)
      ⊢ wp frame (wpE (defs₀ (F := F)) 𝒱₀ (c : Thread nD τ) none) E
          (k0_t8_body (F := F) i arg2 harg2 arg3 harg3 arg4 harg4 arg5 harg5 arg6 harg6 arg7 harg7 arg8 harg8 arg9 harg9 arg10 harg10 v164 v177 v178 v190 hw k acc)
          (fun yld => iprop(⌜yld = R acc⌝ ∗ (arg8.view.loc (c : Thread nD τ) ↦[arg8.view.set]{fullShare} X_arg8))) } := by
  refine ⟨?_, fun E acc => ?run⟩
  case run =>
    unfold k0_t8_body
    iintro H
    sl_exec
    sl_step
    sl_close

/-- The threshold before trip `k` of the bit loop's remainder. -/
def thrAt_t8 (init : IVec S128x1 32) : ℕ → IVec S128x1 32
  | 0 => init
  | k + 1 =>
    if h : k < (k0_t8_loop v190).trips then
      (trip_t8 (F := F) c i arg2 harg2 arg3 harg3 arg4 harg4 arg5 harg5 arg6 harg6 arg7 harg7 arg8 harg8 arg9 harg9 arg10 harg10 v164 v177 v178 v190 hw X_arg8 ⟨k, h⟩).1 (thrAt_t8 init k)
    else thrAt_t8 init k

theorem thrAt_t8_succ (init : IVec S128x1 32) (k : Fin (k0_t8_loop v190).trips) :
    thrAt_t8 (F := F) c i arg2 harg2 arg3 harg3 arg4 harg4 arg5 harg5 arg6 harg6 arg7 harg7 arg8 harg8 arg9 harg9 arg10 harg10 v164 v177 v178 v190 hw X_arg8 init (k.val + 1)
      = (trip_t8 (F := F) c i arg2 harg2 arg3 harg3 arg4 harg4 arg5 harg5 arg6 harg6 arg7 harg7 arg8 harg8 arg9 harg9 arg10 harg10 v164 v177 v178 v190 hw X_arg8 k).1 (thrAt_t8 (F := F) c i arg2 harg2 arg3 harg3 arg4 harg4 arg5 harg5 arg6 harg6 arg7 harg7 arg8 harg8 arg9 harg9 arg10 harg10 v164 v177 v178 v190 hw X_arg8 init k.val) := by
  rw [thrAt_t8]; exact dif_pos k.isLt

set_option warn.classDefReducibility false in
/-- The bit loop's remainder by its invariant: the stored keys as they were, and the threshold at `thrAt_t8`. -/
def loopInv_t8 (init : IVec S128x1 32) :
    LoopInvTy_k0_t8 (F := F) Unit ℕ (UR sig nD τ) ℕ 𝒱₀ c none Set.univ i arg2 harg2 arg3 harg3 arg4 harg4 arg5 harg5 arg6 harg6 arg7 harg7 arg8 harg8 arg9 harg9 arg10 harg10 v164 v177 v178 v190 hw init where
  inv k acc := iprop((arg8.view.loc (c : Thread nD τ) ↦[arg8.view.set]{fullShare} X_arg8)
    ∗ ⌜acc = thrAt_t8 (F := F) c i arg2 harg2 arg3 harg3 arg4 harg4 arg5 harg5 arg6 harg6 arg7 harg7 arg8 harg8 arg9 harg9 arg10 harg10 v164 v177 v178 v190 hw X_arg8 init k⌝)
  step k acc := by
    iintro ⟨H, %h⟩
    subst h
    iapply (wp_wand_r Idealize.ShloMosaic.frame (wpE (defs₀ (F := F)) 𝒱₀ (c : Thread nD τ) none) Set.univ)
    isplitl [H]
    · iapply ((trip_t8 (F := F) c i arg2 harg2 arg3 harg3 arg4 harg4 arg5 harg5 arg6 harg6 arg7 harg7 arg8 harg8 arg9 harg9 arg10 harg10 v164 v177 v178 v190 hw X_arg8 k).2 Set.univ _)
      iexact H
    · iintro %yld ⟨%hy, H⟩
      isplitl [H]; · iexact H
      simp only [thrAt_t8_succ]
      ipureintro; rw [hy]

end Cert.Proof.Kernel

end
-- ==== Proof.Bits.lean ====
/-
How many bits the search goes over: between none and thirty-two.
-/
module

public import proofs.«01_k».proof.Proof.Gen.Kernel.Loops
public import Idealize.ShloMosaic.Lib.SortNet.Extract
public import Idealize.ShloMosaic.PureOps.Reduce

@[expose] public section

set_option maxRecDepth 16384

noncomputable section

namespace Cert.Proof.Kernel

open Cert.Kernel
open Cert.Kernel.Gen
open Idealize.ShloMosaic

/-- A word from a natural up to thirty-two reads signed as that natural. -/
theorem toInt_small (n : ℕ) (h : n ≤ 32) : (BitVec.ofNat 32 n).toInt = n := by
  have : ∀ n : Fin 33, (BitVec.ofNat 32 n.val).toInt = (n.val : Int) := by decide
  exact this ⟨n, by omega⟩

/-- Thirty-two less the leading zeros is between 0 and 32. -/
theorem width_range (x : BitVec 32) : ∃ n : ℕ, n ≤ 32 ∧ IntOp.subi 32#32 (IntOp.ctlz x) = BitVec.ofNat 32 n := by
  unfold IntOp.ctlz
  split
  · exact ⟨0, by omega, by decide⟩
  · rename_i h
    have hx : x.toNat ≠ 0 := fun e => h (BitVec.eq_of_toNat_eq (by simpa using e))
    have hl : Nat.log2 x.toNat < 32 := (Nat.log2_lt hx).2 (by have := x.isLt; omega)
    refine ⟨Nat.log2 x.toNat + 1, by omega, ?_⟩
    have : ∀ m : Fin 32, IntOp.subi 32#32 (BitVec.ofNat 32 (32 - 1 - m.val)) = BitVec.ofNat 32 (m.val + 1) := by decide
    exact this ⟨_, hl⟩

/-- One row's number of bits: all thirty-two where the span wrapped, else the span's width. -/
def rowBits (v177 v178 : IVec S128x1 32) : IVec S128x1 32 :=
  select (k0_pay2244 v177 v178) (broadcast S128x1 32#32) (subi (broadcast S128x1 32#32) (ctlz v177))

theorem rowBits_range (v177 v178 : IVec S128x1 32) (j : S128x1.Idx) :
    ∃ n : ℕ, n ≤ 32 ∧ rowBits v177 v178 j = BitVec.ofNat 32 n := by
  show ∃ n : ℕ, n ≤ 32 ∧ Scalar.select (k0_pay2244 v177 v178 j) 32#32 (IntOp.subi 32#32 (IntOp.ctlz (v177 j))) = BitVec.ofNat 32 n
  unfold Scalar.select
  split
  · exact ⟨32, le_rfl, rfl⟩
  · exact width_range _

/-- The block's number of bits. -/
def blockBits (v177 v178 : IVec S128x1 32) : BitVec 32 :=
  extractAt ![0, 0, 0] (k0_pay2246 v177 v178) inpos_S1x1x1_p0_0_0

theorem blockBits_spec (v177 v178 : IVec S128x1 32) :
    (∃ n : ℕ, n ≤ 32 ∧ blockBits v177 v178 = BitVec.ofNat 32 n)
      ∧ ∀ j, (rowBits v177 v178 j).toInt ≤ (blockBits v177 v178).toInt := by
  have hfold : ∃ k : S1.Idx, blockBits v177 v178 = (Finset.univ.filter fun i => reduces_S1x128x1_S1.drop i = k).fold IntOp.maxsi
      2147483648#32 (shapeCast S1x128x1 (rowBits v177 v178) shapeCasts_S128x1_S1x128x1) :=
    ⟨_, multiReductionI_eq_fold .maxsi _ _ _ rfl _⟩
  obtain ⟨k, hk⟩ := hfold
  have hall : ∀ i : S1x128x1.Idx, reduces_S1x128x1_S1.drop i = k := fun i => by
    funext a
    have : ∀ a : Fin S1.rank, S1.size a = 1 := by decide
    exact Fin.ext (by have h1 := (reduces_S1x128x1_S1.drop i a).isLt; have h2 := (k a).isLt; have := this a; omega)
  obtain ⟨_, h2, h3⟩ := SortNet.fold_maxsi_spec (shapeCast S1x128x1 (rowBits v177 v178) shapeCasts_S128x1_S1x128x1)
    (Finset.univ.filter fun i => reduces_S1x128x1_S1.drop i = k) 2147483648#32
  rw [← hk] at h2 h3
  have hrow : ∀ j : S128x1.Idx, (rowBits v177 v178 j).toInt ≤ (blockBits v177 v178).toInt := fun j => by
    have h := h2 ((Shape.reshapeEquiv shapeCasts_S128x1_S1x128x1).symm j) (Finset.mem_filter.2 ⟨Finset.mem_univ _, hall _⟩)
    rwa [show shapeCast S1x128x1 (rowBits v177 v178) shapeCasts_S128x1_S1x128x1
      ((Shape.reshapeEquiv shapeCasts_S128x1_S1x128x1).symm j) = rowBits v177 v178 j from
      congrArg _ (Equiv.apply_symm_apply _ _)] at h
  refine ⟨?_, hrow⟩
  rcases h3 with h3 | ⟨i, -, h3⟩
  · exfalso
    have h0 := hrow (fun a => ⟨0, by revert a; decide⟩)
    obtain ⟨n, hn, e⟩ := rowBits_range v177 v178 (fun a => ⟨0, by revert a; decide⟩)
    rw [e, h3, toInt_small n hn] at h0
    have : (2147483648#32 : BitVec 32).toInt = -2147483648 := by decide
    omega
  · rw [h3]; exact rowBits_range v177 v178 _

/-- The bit loops' bounds make sense at any such number of bits. -/
theorem chk1_of_bits (v177 v178 : IVec S128x1 32) : k0_chk1 (blockBits v177 v178) := by
  obtain ⟨⟨n, hn, e⟩, -⟩ := blockBits_spec v177 v178
  rw [e]
  have : ∀ n : Fin 33, k0_chk1 (BitVec.ofNat 32 n.val) := by
    unfold k0_chk1; decide +kernel
  exact this ⟨n, by omega⟩

end Cert.Proof.Kernel

end
-- ==== Proof.Trips.lean ====
/-
The trip counts of the indexer's loops over chunks, at every grid point: `chunks i` chunks of 256 keys hold a key a
row of the block may read, and each loop runs over them alone, two at a time, four at a time, or over the rest.
-/
module

public import proofs.«01_k».proof.Proof.Gen.Kernel.Loops

@[expose] public section

set_option maxRecDepth 65536

noncomputable section

namespace Cert.Proof.Kernel

open Cert.Kernel Cert.Kernel.Gen Idealize.ShloMosaic

/-- The number of chunks of 256 keys the block of rows at `i` may read. -/
abbrev chunks (i : grid0.Coords) : ℕ := min (((i 1).val + 1) * 128 + 255) 16639 / 256

/-- What is known of the loops at one grid point. -/
structure Counts (i : grid0.Coords) : Prop where
  t1 : (k0_t1_loop i).trips = (chunks i + 1) / 2
  t2 : (k0_t2_loop i).trips = 0
  t3 : (k0_t3_loop i).trips = 4 * ((chunks i + 3) / 4) - 2 * ((chunks i + 1) / 2)
  t3lb : (k0_t3_loop i).lb = BitVec.ofNat 32 (2 * ((chunks i + 1) / 2))
  t4 : (k0_t4_loop i).trips = 0
  t6 : (k0_t6_loop i).trips = (chunks i + 3) / 4
  t7 : (k0_t7_loop i).trips = 0
  t9 : (k0_t9_loop i).trips = (chunks i + 3) / 4
  t10 : (k0_t10_loop i).trips = 0
  t11 : (k0_t11_loop i).trips = chunks i
  t12 : (k0_t12_loop i).trips = 0
  t13 : (k0_t13_loop i).trips = 64 - chunks i
  t13lb : (k0_t13_loop i).lb = BitVec.ofNat 32 (chunks i)
  t14 : (k0_t14_loop i).trips = 0

instance (i : grid0.Coords) : Decidable (Counts i) :=
  decidable_of_iff (_ ∧ _ ∧ _ ∧ _ ∧ _ ∧ _ ∧ _ ∧ _ ∧ _ ∧ _ ∧ _ ∧ _ ∧ _ ∧ _)
    ⟨fun ⟨a, b, c, d, e, f, g, h, k, l, m, n, o, p⟩ => ⟨a, b, c, d, e, f, g, h, k, l, m, n, o, p⟩,
     fun ⟨a, b, c, d, e, f, g, h, k, l, m, n, o, p⟩ => ⟨a, b, c, d, e, f, g, h, k, l, m, n, o, p⟩⟩

theorem counts : ∀ i : grid0.Coords, Counts i := by decide +kernel

end Cert.Proof.Kernel

end
-- ==== Proof.BodyRun.lean ====
/-
One run of the indexer's body, at any grid point, on whole buffers, in two stretches: the loops that write the keys,
and the threshold, the mask and its fill.  What the mask's buffer holds afterwards is told by `Wrote`.
-/
module

public import proofs.«01_k».proof.Proof.BitLoops
public import proofs.«01_k».proof.Proof.Bits
public import proofs.«01_k».proof.Proof.Trips
public import Idealize.ShloMosaic.Lib.Pipeline.FrameBody
public import Idealize.ShloMosaic.Lib.Tactic
public import Idealize.ShloMosaic.Lib.VecWindow

@[expose] public section

set_option maxRecDepth 65536

noncomputable section

namespace Cert.Proof.Kernel

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄K" => MT nD τ sig Unit (Elt F) ℕ (UR sig nD τ) ℕ

variable (c : Dev nD) (i : grid0.Coords)
    (arg2 : Memref sig .tc .vmem S1x8x16x16x64 .bf16) (harg2 : arg2.IsWhole)
    (arg3 : Memref sig .tc .vmem S1x64x64x256 .bf16) (harg3 : arg3.IsWhole)
    (arg4 : Memref sig .tc .vmem S1x128x128 .f32) (harg4 : arg4.IsWhole)
    (arg5 : Memref sig .tc .vmem S1x128x1 .i32) (harg5 : arg5.IsWhole)
    (arg6 : Memref sig .tc .vmem S1x64x1x256 .i32) (harg6 : arg6.IsWhole)
    (arg7 : Memref sig .tc .vmem S1x16384x128 .bf16) (harg7 : arg7.IsWhole)
    (arg8 : Memref sig .tc .vmem S64x128x256 .i32) (harg8 : arg8.IsWhole)
    (arg9 : Memref sig .tc .vmem S16x128x128 .f32) (harg9 : arg9.IsWhole)
    (arg10 : Memref sig .tc .vmem S128x256 .i32) (harg10 : arg10.IsWhole)

/-- What the loops over the keys leave: the keys written, the running per-column maximum, and from it each row's first
    threshold and the distance to the largest of its column maxima. -/
def KeysDone (v21 v141 c0 v142 c1 : BitVec 32) (f2 : BufTy.Contents (Elt F) arg2.view.ty) (f3 : BufTy.Contents (Elt F) arg3.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty)
    (v174 v177 v178 : IVec S128x1 32) (g8 : BufTy.Contents (Elt F) arg8.view.ty) (g10 : BufTy.Contents (Elt F) arg10.view.ty) : Prop :=
  g8 = arg8.view.writes (Elt F) f8
      (pb_k0_t3 (F := F) 𝒱₀ c none i arg2 harg2 arg3 harg3 arg4 harg4 arg5 harg5 arg6 harg6 arg7 harg7 arg8 harg8 arg9 harg9 arg10 harg10 v21 v141 c0 v142 c1 (k0_t3_loop i).trips
        ++ (pb_k0_t1 (F := F) 𝒱₀ c none i arg2 harg2 arg3 harg3 arg4 harg4 arg5 harg5 arg6 harg6 arg7 harg7 arg8 harg8 arg9 harg9 arg10 harg10 v21 v141 c0 v142 c1 f2 f3 f5 f6 f9 f8 f10 (k0_t1_loop i).trips).1)
  ∧ g10 = arg10.view.writes (Elt F) f10 (pb_k0_t1 (F := F) 𝒱₀ c none i arg2 harg2 arg3 harg3 arg4 harg4 arg5 harg5 arg6 harg6 arg7 harg7 arg8 harg8 arg9 harg9 arg10 harg10 v21 v141 c0 v142 c1 f2 f3 f5 f6 f9 f8 f10 (k0_t1_loop i).trips).2
  ∧ v174 = k0_pay2241 (F := F) (arg10.view.read (Elt F) g10)
  ∧ v177 = k0_pay2242 (F := F) (arg10.view.read (Elt F) g10)
  ∧ v178 = k0_pay2243

/-- Bit loop `5`, run by its invariant. -/
theorem runBits5 (v164 : BitVec 32) (v177 v178 : IVec S128x1 32) (w : BitVec 32) (hw : k0_chk1 w) (f8 : BufTy.Contents (Elt F) arg8.view.ty)
    (init : IVec S128x1 32) (K : IVec S128x1 32 → sProp 𝕄K) :
    iprop((arg8.view.loc (c : Thread nD τ) ↦[arg8.view.set]{fullShare} f8) ∗ ((arg8.view.loc (c : Thread nD τ) ↦[arg8.view.set]{fullShare} f8) -∗ K (thrAt_t5 (F := F) c i arg2 harg2 arg3 harg3 arg4 harg4 arg5 harg5 arg6 harg6 arg7 harg7 arg8 harg8 arg9 harg9 arg10 harg10 v164 v177 v178 w hw f8 init (k0_t5_loop w).trips)))
      ⊢ wp frame (wpE (defs₀ (F := F)) 𝒱₀ (c : Thread nD τ) none) Set.univ
          (Scf.Loop.for (k0_t5_loop w) (k0_t5_ok w hw) init (k0_t5_body (F := F) i arg2 harg2 arg3 harg3 arg4 harg4 arg5 harg5 arg6 harg6 arg7 harg7 arg8 harg8 arg9 harg9 arg10 harg10 v164 v177 v178 w hw)) K := by
  iintro ⟨H, Hk⟩
  iapply (Scf.wp_for Idealize.ShloMosaic.frame (wpE (defs₀ (F := F)) 𝒱₀ (c : Thread nD τ) none) Set.univ
    (k0_t5_loop w).lb (k0_t5_loop w).ub (k0_t5_loop w).st (k0_t5_ok w hw) init (k0_t5_body (F := F) i arg2 harg2 arg3 harg3 arg4 harg4 arg5 harg5 arg6 harg6 arg7 harg7 arg8 harg8 arg9 harg9 arg10 harg10 v164 v177 v178 w hw)
    (fun k acc => iprop((arg8.view.loc (c : Thread nD τ) ↦[arg8.view.set]{fullShare} f8) ∗ ⌜acc = thrAt_t5 (F := F) c i arg2 harg2 arg3 harg3 arg4 harg4 arg5 harg5 arg6 harg6 arg7 harg7 arg8 harg8 arg9 harg9 arg10 harg10 v164 v177 v178 w hw f8 init k⌝))
    (loopInv_t5 (F := F) c i arg2 harg2 arg3 harg3 arg4 harg4 arg5 harg5 arg6 harg6 arg7 harg7 arg8 harg8 arg9 harg9 arg10 harg10 v164 v177 v178 w hw f8 init).step)
  isplitl [H]
  · isplitl [H]; · iexact H
    ipureintro; rfl
  · iintro %acc ⟨H, %h⟩
    rw [h]
    iapply Hk
    iexact H

/-- Bit loop `8`, run by its invariant. -/
theorem runBits8 (v164 : BitVec 32) (v177 v178 : IVec S128x1 32) (w : BitVec 32) (hw : k0_chk1 w) (f8 : BufTy.Contents (Elt F) arg8.view.ty)
    (init : IVec S128x1 32) (K : IVec S128x1 32 → sProp 𝕄K) :
    iprop((arg8.view.loc (c : Thread nD τ) ↦[arg8.view.set]{fullShare} f8) ∗ ((arg8.view.loc (c : Thread nD τ) ↦[arg8.view.set]{fullShare} f8) -∗ K (thrAt_t8 (F := F) c i arg2 harg2 arg3 harg3 arg4 harg4 arg5 harg5 arg6 harg6 arg7 harg7 arg8 harg8 arg9 harg9 arg10 harg10 v164 v177 v178 w hw f8 init (k0_t8_loop w).trips)))
      ⊢ wp frame (wpE (defs₀ (F := F)) 𝒱₀ (c : Thread nD τ) none) Set.univ
          (Scf.Loop.for (k0_t8_loop w) (k0_t8_ok w hw) init (k0_t8_body (F := F) i arg2 harg2 arg3 harg3 arg4 harg4 arg5 harg5 arg6 harg6 arg7 harg7 arg8 harg8 arg9 harg9 arg10 harg10 v164 v177 v178 w hw)) K := by
  iintro ⟨H, Hk⟩
  iapply (Scf.wp_for Idealize.ShloMosaic.frame (wpE (defs₀ (F := F)) 𝒱₀ (c : Thread nD τ) none) Set.univ
    (k0_t8_loop w).lb (k0_t8_loop w).ub (k0_t8_loop w).st (k0_t8_ok w hw) init (k0_t8_body (F := F) i arg2 harg2 arg3 harg3 arg4 harg4 arg5 harg5 arg6 harg6 arg7 harg7 arg8 harg8 arg9 harg9 arg10 harg10 v164 v177 v178 w hw)
    (fun k acc => iprop((arg8.view.loc (c : Thread nD τ) ↦[arg8.view.set]{fullShare} f8) ∗ ⌜acc = thrAt_t8 (F := F) c i arg2 harg2 arg3 harg3 arg4 harg4 arg5 harg5 arg6 harg6 arg7 harg7 arg8 harg8 arg9 harg9 arg10 harg10 v164 v177 v178 w hw f8 init k⌝))
    (loopInv_t8 (F := F) c i arg2 harg2 arg3 harg3 arg4 harg4 arg5 harg5 arg6 harg6 arg7 harg7 arg8 harg8 arg9 harg9 arg10 harg10 v164 v177 v178 w hw f8 init).step)
  isplitl [H]
  · isplitl [H]; · iexact H
    ipureintro; rfl
  · iintro %acc ⟨H, %h⟩
    rw [h]
    iapply Hk
    iexact H

set_option maxHeartbeats 600000 in
/-- The loops over the keys, from any contents. -/
theorem runKeys (v21 v141 c0 v142 c1 : BitVec 32) (f2 : BufTy.Contents (Elt F) arg2.view.ty) (f3 : BufTy.Contents (Elt F) arg3.view.ty) (f5 : BufTy.Contents (Elt F) arg5.view.ty) (f6 : BufTy.Contents (Elt F) arg6.view.ty) (f8 : BufTy.Contents (Elt F) arg8.view.ty) (f9 : BufTy.Contents (Elt F) arg9.view.ty) (f10 : BufTy.Contents (Elt F) arg10.view.ty)
    (K : (Σ' (v164 : BitVec 32) (v174 : IVec S128x1 32) (v177 : IVec S128x1 32), IVec S128x1 32) → sProp 𝕄K) :
    iprop((arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
      ∗ (∀ v164 v174 v177 v178 g8 g10, iprop(⌜KeysDone c i arg2 harg2 arg3 harg3 arg4 harg4 arg5 harg5 arg6 harg6 arg7 harg7 arg8 harg8 arg9 harg9 arg10 harg10 v21 v141 c0 v142 c1 f2 f3 f5 f6 f8 f9 f10 v174 v177 v178 g8 g10⌝
          ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6) ∗ (arg9.view.loc (c : Thread nD τ) ↦[arg9.view.set]{fullShare} f9) ∗ (arg8.view.loc (c : Thread nD τ) ↦[arg8.view.set]{fullShare} g8) ∗ (arg10.view.loc (c : Thread nD τ) ↦[arg10.view.set]{fullShare} g10)) -∗ K ⟨v164, v174, v177, v178⟩))
      ⊢ wp frame (wpE (defs₀ (F := F)) 𝒱₀ (c : Thread nD τ) none) Set.univ (k0_part167 i arg2 harg2 arg3 harg3 arg4 harg4 arg5 harg5 arg6 harg6 arg7 harg7 arg8 harg8 arg9 harg9 arg10 harg10 v21 v141 c0 v142 c1) K := by
  iintro ⟨H2, H3, H5, H6, H8, H9, H10, Hk⟩
  sl_exec
  sl_step
  simp only [(counts i).t2, (counts i).t4, pb_k0_t2, pb_k0_t4, List.nil_append]
  iapply Hk
  isplitr
  · ipureintro
    refine ⟨rfl, rfl, ?_, ?_, ?_⟩
    · unfold runKeys.sl.v172
      rw [show Scf.trips (k0_t2_loop i).lb (k0_t2_loop i).ub (k0_t2_loop i).st = 0 from (counts i).t2, View.readAt_full]
      rfl
    · unfold runKeys.sl.v172
      rw [show Scf.trips (k0_t2_loop i).lb (k0_t2_loop i).ub (k0_t2_loop i).st = 0 from (counts i).t2, View.readAt_full]
      rfl
    · rfl
  isplitl [H2]; · iexact H2
  isplitl [H3]; · iexact H3
  isplitl [H5]; · iexact H5
  isplitl [H6]; · iexact H6
  isplitl [H9]; · iexact H9
  isplitl [H8]; · iexact H8
  iexact H10

/-- The threshold after both bit loops. -/
def threshold (v164 : BitVec 32) (v174 v177 v178 : IVec S128x1 32) (w : BitVec 32) (hw : k0_chk1 w) (f8 : BufTy.Contents (Elt F) arg8.view.ty) : IVec S128x1 32 :=
  thrAt_t8 (F := F) c i arg2 harg2 arg3 harg3 arg4 harg4 arg5 harg5 arg6 harg6 arg7 harg7 arg8 harg8 arg9 harg9 arg10 harg10 v164 v177 v178 w hw f8
    (thrAt_t5 (F := F) c i arg2 harg2 arg3 harg3 arg4 harg4 arg5 harg5 arg6 harg6 arg7 harg7 arg8 harg8 arg9 harg9 arg10 harg10 v164 v177 v178 w hw f8 (k0_pay2245 v174 v177 v178) (k0_t5_loop w).trips) (k0_t8_loop w).trips

set_option maxHeartbeats 600000 in
/-- The bit loops and the mask. -/
theorem runMask (v164 : BitVec 32) (v174 v177 v178 : IVec S128x1 32) (w : BitVec 32) (hw : k0_chk1 w) (f7 : BufTy.Contents (Elt F) arg7.view.ty) (f8 : BufTy.Contents (Elt F) arg8.view.ty)
    {α : Type} (r : α) (K : α → sProp 𝕄K) :
    iprop((arg7.view.loc (c : Thread nD τ) ↦[arg7.view.set]{fullShare} f7) ∗ (arg8.view.loc (c : Thread nD τ) ↦[arg8.view.set]{fullShare} f8)
        ∗ (iprop((arg7.view.loc (c : Thread nD τ) ↦[arg7.view.set]{fullShare} (arg7.view.writes (Elt F) f7
              (pb_k0_t11 (F := F) 𝒱₀ c none i arg2 harg2 arg3 harg3 arg4 harg4 arg5 harg5 arg6 harg6 arg7 harg7 arg8 harg8 arg9 harg9 arg10 harg10 (threshold (F := F) c i arg2 harg2 arg3 harg3 arg4 harg4 arg5 harg5 arg6 harg6 arg7 harg7 arg8 harg8 arg9 harg9 arg10 harg10 v164 v174 v177 v178 w hw f8) f8 (k0_t11_loop i).trips)))
            ∗ (arg8.view.loc (c : Thread nD τ) ↦[arg8.view.set]{fullShare} f8)) -∗ K r))
      ⊢ wp frame (wpE (defs₀ (F := F)) 𝒱₀ (c : Thread nD τ) none) Set.univ
          (do
            let v196 ← Scf.Loop.for (k0_t5_loop w) (k0_t5_ok w hw) (k0_pay2245 v174 v177 v178) (k0_t5_body (F := F) i arg2 harg2 arg3 harg3 arg4 harg4 arg5 harg5 arg6 harg6 arg7 harg7 arg8 harg8 arg9 harg9 arg10 harg10 v164 v177 v178 w hw)
            let v197 ← Scf.Loop.for (k0_t8_loop w) (k0_t8_ok w hw) v196 (k0_t8_body (F := F) i arg2 harg2 arg3 harg3 arg4 harg4 arg5 harg5 arg6 harg6 arg7 harg7 arg8 harg8 arg9 harg9 arg10 harg10 v164 v177 v178 w hw)
            Scf.Loop.for (k0_t11_loop i) (k0_t11_ok i) ⟨⟩ (k0_t11_body (F := F) i arg2 harg2 arg3 harg3 arg4 harg4 arg5 harg5 arg6 harg6 arg7 harg7 arg8 harg8 arg9 harg9 arg10 harg10 v197)
            Scf.Loop.for (k0_t12_loop i) (k0_t12_ok i) ⟨⟩ (k0_t12_body (F := F) i arg2 harg2 arg3 harg3 arg4 harg4 arg5 harg5 arg6 harg6 arg7 harg7 arg8 harg8 arg9 harg9 arg10 harg10 v197)
            Pure.pure r) K := by
  iintro ⟨H7, H8, Hk⟩
  rw [wp_bind]
  iapply runBits5
  isplitl [H8]; · iexact H8
  iintro H8
  rw [wp_bind]
  iapply runBits8
  isplitl [H8]; · iexact H8
  iintro H8
  rw [show thrAt_t8 (F := F) c i arg2 harg2 arg3 harg3 arg4 harg4 arg5 harg5 arg6 harg6 arg7 harg7 arg8 harg8 arg9 harg9 arg10 harg10 v164 v177 v178 w hw f8
    (thrAt_t5 (F := F) c i arg2 harg2 arg3 harg3 arg4 harg4 arg5 harg5 arg6 harg6 arg7 harg7 arg8 harg8 arg9 harg9 arg10 harg10 v164 v177 v178 w hw f8 (k0_pay2245 v174 v177 v178) (k0_t5_loop w).trips) (k0_t8_loop w).trips
      = threshold (F := F) c i arg2 harg2 arg3 harg3 arg4 harg4 arg5 harg5 arg6 harg6 arg7 harg7 arg8 harg8 arg9 harg9 arg10 harg10 v164 v174 v177 v178 w hw f8 from rfl]
  generalize threshold (F := F) c i arg2 harg2 arg3 harg3 arg4 harg4 arg5 harg5 arg6 harg6 arg7 harg7 arg8 harg8 arg9 harg9 arg10 harg10 v164 v174 v177 v178 w hw f8 = thr
  sl_exec
  sl_step
  simp only [(counts i).t12, pb_k0_t12, List.nil_append]
  iapply Hk
  isplitl [H7]; · iexact H7
  iexact H8

/-- The weights laid out one head a row-block, each spread along the lanes. -/
def weightPieces (v22 : Vec F S1x128x128 .f32) : List (View.Piece (Elt F) S16x128x128 .f32) :=
  [⟨Rect.unit ![15, 0, 0] S1x128x128.size inb_S16x128x128_S1x128x128_15_0_0, k0_pay2233 (k0_pay2217 v22)⟩,
    ⟨Rect.unit ![14, 0, 0] S1x128x128.size inb_S16x128x128_S1x128x128_14_0_0, k0_pay2232 (k0_pay2217 v22)⟩,
    ⟨Rect.unit ![13, 0, 0] S1x128x128.size inb_S16x128x128_S1x128x128_13_0_0, k0_pay2231 (k0_pay2217 v22)⟩,
    ⟨Rect.unit ![12, 0, 0] S1x128x128.size inb_S16x128x128_S1x128x128_12_0_0, k0_pay2230 (k0_pay2217 v22)⟩,
    ⟨Rect.unit ![11, 0, 0] S1x128x128.size inb_S16x128x128_S1x128x128_11_0_0, k0_pay2229 (k0_pay2217 v22)⟩,
    ⟨Rect.unit ![10, 0, 0] S1x128x128.size inb_S16x128x128_S1x128x128_10_0_0, k0_pay2228 (k0_pay2217 v22)⟩,
    ⟨Rect.unit ![9, 0, 0] S1x128x128.size inb_S16x128x128_S1x128x128_9_0_0, k0_pay2227 (k0_pay2217 v22)⟩,
    ⟨Rect.unit ![8, 0, 0] S1x128x128.size inb_S16x128x128_S1x128x128_8_0_0, k0_pay2226 (k0_pay2217 v22)⟩,
    ⟨Rect.unit ![7, 0, 0] S1x128x128.size inb_S16x128x128_S1x128x128_7_0_0, k0_pay2225 (k0_pay2217 v22)⟩,
    ⟨Rect.unit ![6, 0, 0] S1x128x128.size inb_S16x128x128_S1x128x128_6_0_0, k0_pay2224 (k0_pay2217 v22)⟩,
    ⟨Rect.unit ![5, 0, 0] S1x128x128.size inb_S16x128x128_S1x128x128_5_0_0, k0_pay2223 (k0_pay2217 v22)⟩,
    ⟨Rect.unit ![4, 0, 0] S1x128x128.size inb_S16x128x128_S1x128x128_4_0_0, k0_pay2222 (k0_pay2217 v22)⟩,
    ⟨Rect.unit ![3, 0, 0] S1x128x128.size inb_S16x128x128_S1x128x128_3_0_0, k0_pay2221 (k0_pay2217 v22)⟩,
    ⟨Rect.unit ![2, 0, 0] S1x128x128.size inb_S16x128x128_S1x128x128_2_0_0, k0_pay2220 (k0_pay2217 v22)⟩,
    ⟨Rect.unit ![1, 0, 0] S1x128x128.size inb_S16x128x128_S1x128x128_1_0_0, k0_pay2219 v22⟩,
    ⟨Rect.unit ![0, 0, 0] S1x128x128.size inb_S16x128x128_S1x128x128_0_0_0, k0_pay2218 v22⟩]

/-- What the body leaves in the mask's buffer, from what the buffers held before. -/
def Wrote (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (g7 : BufTy.Contents (Elt F) arg7.view.ty) : Prop :=
  ∃ (v21 v141 c0 v142 c1 v164 : BitVec 32) (v174 v177 v178 : IVec S128x1 32) (w : BitVec 32) (hw : k0_chk1 w)
    (g8 : BufTy.Contents (Elt F) arg8.view.ty) (g9 : BufTy.Contents (Elt F) arg9.view.ty) (g10 : BufTy.Contents (Elt F) arg10.view.ty),
    g9 = arg9.view.writes (Elt F) f9 (weightPieces (arg4.view.readAt (Elt F) (Rect.unit ![0, 0, 0] S1x128x128.size inb_S1x128x128_S1x128x128_0_0_0).toLoadRect f4))
    ∧ KeysDone (F := F) c i arg2 harg2 arg3 harg3 arg4 harg4 arg5 harg5 arg6 harg6 arg7 harg7 arg8 harg8 arg9 harg9 arg10 harg10 v21 v141 c0 v142 c1 f2 f3 f5 f6 f8 g9
      (arg10.view.writes (Elt F) f10 [⟨Rect.unit ![0, 0] S128x256.size inb_S128x256_S128x256_0_0, k0_pay2234⟩])
      v174 v177 v178 g8 g10
    ∧ w = blockBits v177 v178
    ∧ g7 = arg7.view.writes (Elt F) f7
        (pb_k0_t13 (F := F) 𝒱₀ c none i arg2 harg2 arg3 harg3 arg4 harg4 arg5 harg5 arg6 harg6 arg7 harg7 arg8 harg8 arg9 harg9 arg10 harg10 (k0_t13_loop i).trips
          ++ pb_k0_t11 (F := F) 𝒱₀ c none i arg2 harg2 arg3 harg3 arg4 harg4 arg5 harg5 arg6 harg6 arg7 harg7 arg8 harg8 arg9 harg9 arg10 harg10 (threshold (F := F) c i arg2 harg2 arg3 harg3 arg4 harg4 arg5 harg5 arg6 harg6 arg7 harg7 arg8 harg8 arg9 harg9 arg10 harg10 v164 v174 v177 v178 w hw g8) g8 (k0_t11_loop i).trips)

set_option maxHeartbeats 1000000 in
/-- The body's run. -/
theorem runBody (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (K : PUnit → sProp 𝕄K) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
      ∗ (∀ g7 g8 g9 g10, iprop(⌜Wrote (F := F) c i arg2 harg2 arg3 harg3 arg4 harg4 arg5 harg5 arg6 harg6 arg7 harg7 arg8 harg8 arg9 harg9 arg10 harg10 f2 f3 f4 f5 f6 f7 f8 f9 f10 g7⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)) -∗ K ⟨⟩))
      ⊢ wp frame (wpE (defs₀ (F := F)) 𝒱₀ (c : Thread nD τ) none) Set.univ (cc0_indexer i arg2 harg2 arg3 harg3 arg4 harg4 arg5 harg5 arg6 harg6 arg7 harg7 arg8 harg8 arg9 harg9 arg10 harg10) K := by
  rw [cc0_indexer_eq_skeleton]; unfold cc0_indexer_skel
  rw [k0_part168_eq_skeleton]; unfold k0_part168_skel
  iintro ⟨H2, H3, H4, H5, H6, H7, H8, H9, H10, Hk⟩
  generalize hp : k0_part167 (F := F) i arg2 harg2 arg3 harg3 arg4 harg4 arg5 harg5 arg6 harg6 arg7 harg7 arg8 harg8 arg9 harg9 arg10 harg10 = p
  sl_exec
  subst hp
  rw [wp_bind, wp_bind]
  iapply runKeys
  isplitl [H2]; · iexact H2
  isplitl [H3]; · iexact H3
  isplitl [H5]; · iexact H5
  isplitl [H6]; · iexact H6
  isplitl [H8]; · iexact H8
  isplitl [H9]; · iexact H9
  isplitl [H10]; · iexact H10
  iintro %v164 %v174 %v177 %v178 %g8 %g10 ⟨%hk, H2, H3, H5, H6, H9, H8, H10⟩
  rw [← wp_bind]
  sl_exec (disch := exact chk1_of_bits _ _)
  rw [wp_bind]
  iapply runMask
  isplitl [H7]; · iexact H7
  isplitl [H8]; · iexact H8
  iintro ⟨H7, H8⟩
  sl_exec
  sl_step
  simp only [(counts i).t14, pb_k0_t14, List.nil_append]
  iapply Hk
  isplitr
  · ipureintro
    refine ⟨_, _, _, _, _, v164, _, _, _, _, chk1_of_bits _ _, _, _, _, rfl, hk, rfl, rfl⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.Kernel

end
-- ==== Proof.KernelFrame.lean ====
/-
The indexer's kernel over its grid: at every point the body runs and leaves its inputs, so the launch ends with the
argument arrays as they were and every semaphore at zero.  Nothing is said here of the mask itself.
-/
module

public import proofs.«01_k».proof.Proof.BodyRun
public import proofs.«01_k».proof.Proof.Gen.Kernel.Frame

@[expose] public section

set_option maxRecDepth 16384

noncomputable section

namespace Cert.Proof.Kernel

open Cert.Kernel
open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [BitOps F]

local notation "𝕄K" => MT nD τ sig Unit (Elt F) ℕ (UR sig nD τ) ℕ

variable (m : (ℓ : Loc nD τ sig) → Buf (Elt F) ℓ) (ρ : Dev nD → PrngReg)

/-- The mask's window is the one nothing is said of. -/
def maskOnly : Fin 6 → Bool := fun w => w.val == 5

/-- What the run keeps at each point: the inputs' blocks in place, the mask's buffer at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem dats_A (c : Dev nD) (w : Fin cfg0.W) : (dats m 0 c).A w = V m c (Pipeline.arrRef spec0 w) := by dsimp only [dats]

theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = iblk m c 2 t := by dsimp only [dats]
theorem left_3 (c : Dev nD) (t : Fin cfg0.N) : (dats m 0 c).after 3 t = iblk m c 3 t := by dsimp only [dats]
theorem left_4 (c : Dev nD) (t : Fin cfg0.N) : (dats m 0 c).after 4 t = iblk m c 4 t := by dsimp only [dats]
theorem found_0 (c : Dev nD) (t : Fin cfg0.N) (d) : (dats m 0 c).before 0 t d = iblk m c 0 t :=
  before0_0_of m (dats m 0 c) (dats_A m c 0) (left_0 m c) t d
theorem found_1 (c : Dev nD) (t : Fin cfg0.N) (d) : (dats m 0 c).before 1 t d = iblk m c 1 t :=
  before0_1_of m (dats m 0 c) (dats_A m c 1) (left_1 m c) t d
theorem found_2 (c : Dev nD) (t : Fin cfg0.N) (d) : (dats m 0 c).before 2 t d = iblk m c 2 t :=
  before0_2_of m (dats m 0 c) (dats_A m c 2) (left_2 m c) t d
theorem found_3 (c : Dev nD) (t : Fin cfg0.N) (d) : (dats m 0 c).before 3 t d = iblk m c 3 t :=
  before0_3_of m (dats m 0 c) (dats_A m c 3) (left_3 m c) t d
theorem found_4 (c : Dev nD) (t : Fin cfg0.N) (d) : (dats m 0 c).before 4 t d = iblk m c 4 t :=
  before0_4_of m (dats m 0 c) (dats_A m c 4) (left_4 m c) t d

/-- Before the body at point `t`, window by window, -/
def atEntry (c : Dev nD) (t : Fin cfg0.N) : sProp 𝕄K :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

/-- and after it. -/
def atExit (c : Dev nD) (t : Fin cfg0.N) : sProp 𝕄K :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

/-- The scratch buffers and the generator's register, one by one. -/
theorem scratch_eq (c : Dev nD) :
    (Pipeline.ΦA spec0 c : sProp 𝕄K)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

set_option maxHeartbeats 400000 in
theorem body_at (c : Dev nD) (t : Fin cfg0.N) :
    atEntry m c t ⊢ wp frame (wpE (defs₀ (F := F)) Variants.none c none) Set.univ (bodyAt0 t) (fun _ => atExit m c t) := by
  unfold atEntry atExit bodyAt0
  simp only [found_0, found_1, found_2, found_3, found_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    left_0, left_1, left_2, left_3, left_4, scratch_eq]
  unfold owns
  iintro ⟨⟨⟨⟨%e8, %g8, %h8, H8⟩, ⟨%e9, %g9, %h9, H9⟩, ⟨%e10, %g10, %h10, H10⟩⟩, Hr⟩, Ho, ⟨%d0, %g2, %h2, H2⟩, ⟨%d1, %g3, %h3, H3⟩, ⟨%d2, %g4, %h4, H4⟩, ⟨%d3, %g5, %h5, H5⟩, ⟨%d4, %g6, %h6, H6⟩, ⟨%d5, %g7, %h7, H7⟩⟩
  iapply (runBody c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (Memref.whole cc0_scratch0) (Memref.isWhole_whole _) (Memref.whole cc0_scratch1) (Memref.isWhole_whole _) (Memref.whole cc0_scratch2) (Memref.isWhole_whole _))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro %k7 %k8 %k9 %k10 ⟨%hw, H2, H3, H4, H5, H6, H7, H8, H9, H10⟩
  isplitl [H8 H9 H10 Hr]
  · isplitl [H8 H9 H10]
    · isplitl [H8]
      · iexists ((Memref.whole cc0_scratch0).view.read (Elt F) k8), k8; isplitr; · ipureintro; rfl
        iexact H8
      isplitl [H9]
      · iexists ((Memref.whole cc0_scratch1).view.read (Elt F) k9), k9; isplitr; · ipureintro; rfl
        iexact H9
      iexists ((Memref.whole cc0_scratch2).view.read (Elt F) k10), k10; isplitr; · ipureintro; rfl
      iexact H10
    iexact Hr
  isplitl [Ho]; · iexact Ho
  isplitl [H2]
  · iexists _; isplitr; · ipureintro; exact h2
    iexact H2
  isplitl [H3]
  · iexists _; isplitr; · ipureintro; exact h3
    iexact H3
  isplitl [H4]
  · iexists _; isplitr; · ipureintro; exact h4
    iexact H4
  isplitl [H5]
  · iexists _; isplitr; · ipureintro; exact h5
    iexact H5
  isplitl [H6]
  · iexists _; isplitr; · ipureintro; exact h6
    iexact H6
  iexists ((st0_5 t).view.read (Elt F) k7), k7; isplitr; · ipureintro; rfl
  iexact H7

theorem table_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ maskOnly := fun t => by
  rw [bigSep_W0, bigSep_W0, table_row]
  exact triple_restated (body_at m c t) rfl .rfl fun _ => .rfl

set_option backward.isDefEq.respectTransparency.types false in
set_option maxHeartbeats 800000 in
/-- The launch: it ends with the inputs as the region found them, and every semaphore at zero. -/
theorem launched : θ_run defs (onTc (τ := τ) (main (F := F))) (s₀ m ρ)
    (fun r => Pipeline.RDat.FramePost (cfgs 0) (fun c => (dats m 0 c).toRForget maskOnly) (V m) r ∧ r.2.sem = fun _ => 0) :=
  Pipeline.θ_run_frame_forget (Q' := _) cfgs (dats m) (0 : Fin 1) launch0 defs₀ Variants.none maskOnly m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The arguments end as they were launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 2 rfl).trans ((dats_A m c 2).trans (V_main_arg1 m c)),
      ((h.1 c).2 main_arg2 (Pipeline.mem_restRefs_of main_arg2 (by decide) (by decide))).trans (V_main_arg2 m c)⟩, h.2⟩) (launched m ρ)

end Cert.Proof.Kernel

end
-- ==== Proof.AdaValue.lean ====
/-
  The projection of the conditioning over the extended reals: each block of the kernel's result, and the reference, at an
  index.
-/
module

public import proofs.«01_k».proof.Proof.Gen.AdaIdeal.Value
public import proofs.«01_k».proof.Proof.Gen.AdaRefIdeal.Read
public import Idealize.ShloMosaic.Lib.Pointwise
public import Idealize.ShloMosaic.Lib.StableHlo.ReadAt

@[expose] public section
set_option maxRecDepth 16384
noncomputable section
namespace Cert.Proof.Ada

open Cert.AdaIdeal Cert.AdaIdeal.Gen Cert.AdaIdeal.Value Cert.AdaRefIdeal.Read
open Idealize.ShloMosaic Idealize.ShloMosaic.TcCoe Idealize.ShloMosaic.Tactic Idealize.ShloMosaic.Pointwise

/-- A number times its sigmoid. -/
def silu (t : EReal) : EReal := t * Ideal.div 1 (1 + Ideal.exp (0 - t))

/-- The projection of the row's features through the SiLU, with its bias. -/
def adaAt (x : Vec Ideal S2x2048 .f32) (w : Vec Ideal S2048x18432 .f32) (bias : Vec Ideal S18432 .f32)
    (b : Fin 2) (n : Fin 18432) : EReal :=
  (∑ k : Fin 2048, w (ix2 k n) * silu (x (ix2 b k))) + bias (ix1 n)

theorem lit_one : Ideal.ofBits .f32 0x3F800000#32 = 1 := by
  pointwise

/-- The two rows of sums, one above the other, with the bias added to each. -/
theorem rows_at (g : Vec Ideal S2048x2 .f32) (v10 : Vec Ideal S2048x1024 .f32) (v22 : Vec Ideal S1x1024 .f32) (b : Fin 2) (n : Fin 1024) :
    addf (F := Ideal) (φ := .f32) (concatenate S2x1024 0
        [⟨S1x1024, shapeCast S1x1024 (multiReduction (F := Ideal) (φ := .f32) .add [0] S1024
            (mulf (F := Ideal) (φ := .f32) v10 (broadcastTo S2048x1024 (extractStridedSlice S2048x1 ![0, 0] g slices_S2048x2_o0_0_S2048x1) broadcasts_S2048x1_S2048x1024))
            0x00000000#32 reduces_S2048x1024_S1024 (.inl rfl) rfl) shapeCasts_S1024_S1x1024⟩,
         ⟨S1x1024, shapeCast S1x1024 (multiReduction (F := Ideal) (φ := .f32) .add [0] S1024
            (mulf (F := Ideal) (φ := .f32) v10 (broadcastTo S2048x1024 (extractStridedSlice S2048x1 ![0, 1] g slices_S2048x2_o0_1_S2048x1) broadcasts_S2048x1_S2048x1024))
            0x00000000#32 reduces_S2048x1024_S1024 (.inl rfl) rfl) shapeCasts_S1024_S1x1024⟩]
        concatenates_S1x1024_S1x1024_S2x1024_d0)
      (broadcastTo S2x1024 (shapeCast S1x1024 v22 shapeCasts_S1x1024_S1x1024) broadcasts_S1x1024_S2x1024) (ix2 b n)
      = (∑ k : Fin 2048, v10 (ix2 k n) * g (ix2 k b)) + v22 (ix2 0 n) := by
  match b with
  | 0 => pointwise
  | 1 => pointwise

theorem gate_at (v0 : Vec Ideal S2048x2 .f32) (k : Fin 2048) (b : Fin 2) :
    mulf (F := Ideal) (φ := .f32) (shapeCast S2048x2 v0 shapeCasts_S2048x2_S2048x2)
      (divf (F := Ideal) (φ := .f32) (broadcast S2048x2 (Scalar.ofBits (F := Ideal) .f32 0x3F800000#32))
        (addf (F := Ideal) (φ := .f32) (broadcast S2048x2 (Scalar.ofBits (F := Ideal) .f32 0x3F800000#32))
          (exp (F := Ideal) (φ := .f32) (subf (F := Ideal) (φ := .f32) (broadcast S2048x2 (Scalar.ofBits (F := Ideal) .f32 0x00000000#32))
            (shapeCast S2048x2 v0 shapeCasts_S2048x2_S2048x2))))) (ix2 k b) = silu (v0 (ix2 k b)) := by
  unfold silu
  pointwise

theorem pay1_at (v0 : Vec Ideal S2048x2 .f32) (v10 : Vec Ideal S2048x1024 .f32) (v22 : Vec Ideal S1x1024 .f32) (b : Fin 2) (n : Fin 1024) :
    k0_pay1 (F := Ideal) v0 v10 v22 (ix2 b n) = (∑ k : Fin 2048, v10 (ix2 k n) * silu (v0 (ix2 k b))) + v22 (ix2 0 n) := by
  refine (rows_at _ v10 v22 b n).trans ?_
  refine congrArg (· + v22 (ix2 0 n)) (Finset.sum_congr rfl fun k _ => ?_)
  exact congrArg (v10 (ix2 k n) * ·) (gate_at v0 k b)

theorem hz2 : (![0, 0] : Fin 2 → ℕ) = fun _ => 0 := by decide

theorem out_eq (x0 : Vec Ideal S2048x2 .f32) (x1 : Vec Ideal S2048x1024 .f32) (x2 : Vec Ideal S1x1024 .f32) :
    out0_3 x0 x1 x2 = k0_pay1 x0 x1 x2 := by
  unfold out0_3
  rw [View.canon_unit_zero hz2, View.ld_unit_zero (S := S2048x2) hz2, View.ld_unit_zero (S := S2048x1024) hz2,
    View.ld_unit_zero (S := S1x1024) hz2]

variable (m : (ℓ : Loc nD τ sig) → Buf (Elt Ideal) ℓ)

abbrev a0 (c : Dev nD) : Vec Ideal S2x2048 .f32 := m ((c : Thread nD τ).loc main_arg0)
abbrev a1 (c : Dev nD) : Vec Ideal S2048x18432 .f32 := m ((c : Thread nD τ).loc main_arg1)
abbrev a2 (c : Dev nD) : Vec Ideal S18432 .f32 := m ((c : Thread nD τ).loc main_arg2)

theorem v0_at (c : Dev nD) (k : Fin 2048) (b : Fin 2) : (V m c main_v0 : Vec Ideal S2048x2 .f32) (ix2 k b) = a0 m c (ix2 b k) := by
  unfold V; after_reads_at
theorem v1_at (c : Dev nD) (n : Fin 18432) : (V m c main_v1 : Vec Ideal S1x18432 .f32) (ix2 0 n) = a2 m c (ix1 n) := by
  unfold V; after_reads_at

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem flush3 : ∀ t : Fin cfg0.N, (cfg0.win 3).flush t = true := (by decide +kernel : ∀ t : Fin grid0.N, _)

/-- The grid point whose block a column lies in, and the column within it. -/
def pt (n : Fin 18432) : Fin cfg0.N := ⟨n.val / 1024, by have := n.isLt; show _ < 18; omega⟩
def ln (n : Fin 18432) : Fin 1024 := ⟨n.val % 1024, by omega⟩

section
variable (c : Dev nD) (b : Fin 2) (n : Fin 18432)

theorem b0_at (k : Fin 2048) : (iblk m c 0 (pt n) : Vec Ideal S2048x2 .f32) (ix2 k b) = a0 m c (ix2 b k) := by
  have e : ∀ a, win0_0.index (pt n) a = (![_, _] : Fin 2 → Nat) a := congrFun (index0 _)
  refine Eq.trans ?_ (v0_at m c k b)
  refine congrArg (V m c main_v0 : Vec Ideal S2048x2 .f32) (funext fun a => Fin.ext ?_)
  match a with
  | ⟨0, _⟩ => show win0_0.index _ 0 * 2048 + 1 * k.val = k.val; rw [e]; simp
  | ⟨1, _⟩ => show win0_0.index _ 1 * 2 + 1 * b.val = b.val; rw [e]; simp

theorem b1_at (k : Fin 2048) : (iblk m c 1 (pt n) : Vec Ideal S2048x1024 .f32) (ix2 k (ln n)) = a1 m c (ix2 k n) := by
  have e : ∀ a, win0_1.index (pt n) a = (![_, _] : Fin 2 → Nat) a := congrFun (index1 _)
  have hn := n.isLt
  refine Eq.trans ?_ (congrFun (V_main_arg1 m c) (ix2 k n))
  refine congrArg (V m c main_arg1 : Vec Ideal S2048x18432 .f32) (funext fun a => Fin.ext ?_)
  match a with
  | ⟨0, _⟩ => show win0_1.index _ 0 * 2048 + 1 * k.val = k.val; rw [e]; simp
  | ⟨1, _⟩ => show win0_1.index _ 1 * 1024 + 1 * (n.val % 1024) = n.val; rw [e]; simp [pt]; omega

theorem b2_at : (iblk m c 2 (pt n) : Vec Ideal S1x1024 .f32) (ix2 0 (ln n)) = a2 m c (ix1 n) := by
  have e : ∀ a, win0_2.index (pt n) a = (![_, _] : Fin 2 → Nat) a := congrFun (index2 _)
  have hn := n.isLt
  refine Eq.trans ?_ (v1_at m c n)
  refine congrArg (V m c main_v1 : Vec Ideal S1x18432 .f32) (funext fun a => Fin.ext ?_)
  match a with
  | ⟨0, _⟩ => show win0_2.index _ 0 * 1 + 1 * 0 = 0; rw [e]; simp
  | ⟨1, _⟩ => show win0_2.index _ 1 * 1024 + 1 * (n.val % 1024) = n.val; rw [e]; simp [pt]; omega

/-- The kernel's result array at an index. -/
theorem result_at : ((dats m 0 c).arrAt 3 cfg0.N : Vec Ideal S2x18432 .f32) (ix2 b n)
    = adaAt (a0 m c) (a1 m c) (a2 m c) b n := by
  have e : ∀ a, win0_3.index (pt n) a = (![_, _] : Fin 2 → Nat) a := congrFun (index3 _)
  have hn := n.isLt
  have hr := congrFun (blocks3 m c (pt n) (flush3 _)) (ix2 b (ln n) : S2x1024.Idx)
  rw [flushed3, out_eq] at hr
  refine Eq.trans ?_ (hr.trans ?_)
  · rw [View.read_apply]
    refine congrArg ((dats m 0 c).arrAt 3 cfg0.N : Vec Ideal S2x18432 .f32) (funext fun a => Fin.ext ?_)
    match a with
    | ⟨0, _⟩ => show b.val = win0_3.index _ 0 * 2 + 1 * b.val; rw [e]; simp
    | ⟨1, _⟩ => show n.val = win0_3.index _ 1 * 1024 + 1 * (n.val % 1024); rw [e]; simp [pt]; omega
  · refine (pay1_at _ _ _ b (ln n)).trans ?_
    simp only [b0_at, b1_at, b2_at]
    rfl
end

/-- The reference's activated features. -/
theorem ref_silu (x : Vec Ideal S2x2048 .f32) (b : Fin 2) (k : Fin 2048) :
    val_main_v0 (F := Ideal) x (ix2 b k) = silu (x (ix2 b k)) := by
  rw [val_main_v0_apply, val_main_call0_v5_apply, val_main_call0_v4_apply, val_main_call0_cst_0_apply,
    val_main_call0_v3_apply, val_main_call0_v2_apply, val_main_call0_cst_apply, val_main_call0_v1_apply,
    val_main_call0_v0_apply]
  show _ * Ideal.div (Ideal.ofBits .f32 0x3F800000#32) (Ideal.ofBits .f32 0x3F800000#32 + Ideal.exp (-_)) = _
  rw [lit_one, ← zero_sub]
  rfl

/-- The reference's result at an index. -/
theorem ref_at (x : Vec Ideal S2x2048 .f32) (w : Vec Ideal S2048x18432 .f32) (bias : Vec Ideal S18432 .f32)
    (b : Fin 2) (n : Fin 18432) : val_main_v4 (F := Ideal) x w bias (ix2 b n) = adaAt x w bias b n := by
  have el : ∀ k, lidx_main_v1 (ix2 b n) k = ix2 b k := fun k =>
    funext fun a => by match a with | ⟨0, _⟩ => rfl | ⟨1, _⟩ => rfl
  have er : ∀ k, ridx_main_v1 (ix2 b n) k = ix2 k n := fun k =>
    funext fun a => by match a with | ⟨0, _⟩ => rfl | ⟨1, _⟩ => rfl
  have e : idx_main_v2 (idx_main_v3 (ix2 b n)) = ix1 n := funext fun a => by match a with | ⟨0, _⟩ => rfl
  have h : val_main_v1 (F := Ideal) x w (ix2 b n) = ∑ k : Fin 2048, w (ix2 k n) * silu (x (ix2 b k)) := by
    rw [val_main_v1_apply]
    exact Finset.sum_congr rfl fun k _ => by rw [el, er, ref_silu, mul_comm]
  rw [val_main_v4_apply, val_main_v3_apply, val_main_v2_apply, h, e]
  rfl

/-- The kernel's result is the reference's of the same arguments. -/
theorem result_eq (c : Dev nD) : ((dats m 0 c).arrAt 3 cfg0.N : Vec Ideal S2x18432 .f32)
    = val_main_v4 (F := Ideal) (a0 m c) (a1 m c) (a2 m c) := by
  funext i
  obtain ⟨b, n, rfl⟩ : ∃ b n, i = ix2 b n := ⟨i 0, i 1, eq_ix2 i⟩
  exact (result_at m c b n).trans (ref_at _ _ _ b n).symm

end Cert.Proof.Ada
end
-- ==== Proof.FfnBlock.lean ====
/-
  The feed-forward kernel's body at an index, over the extended reals.

  `normRow` is one row normalized by its mean square, scaled by the weights and modulated; `gated` is the gated
  activation of one hidden feature of a row. Each payload of the kernel's body is read at an index in these two.
-/
module

public import proofs.«01_k».proof.Proof.Gen.FfnIdeal.Value
public import Idealize.ShloMosaic.Lib.Pointwise

@[expose] public section
set_option maxRecDepth 16384
noncomputable section
namespace Cert.Proof.Ffn

open Cert.FfnIdeal Cert.FfnIdeal.Gen
open Idealize.ShloMosaic Idealize.ShloMosaic.TcCoe Idealize.ShloMosaic.Tactic Idealize.ShloMosaic.Pointwise

/-- A float constant of the programs, as an extended real. -/
abbrev lit (w : BitVec 32) : EReal := Ideal.ofBits .f32 w

/-- One row `x` divided by the root of its mean square, times the weights `nw`, then scaled by `1 + sc` and shifted. -/
def normRow (x nw sh sc : Fin 2048 → EReal) (k : Fin 2048) : EReal :=
  x k * Ideal.rsqrt (Ideal.div (∑ j : Fin 2048, x j * x j) (lit 0x45000000#32) + lit 0x358637BD#32) * nw k
    * (1 + sc k) + sh k

/-- The gated activation: `a · (1 / (1 + exp (−a))) · b` of the two products of a row with a hidden feature's columns. -/
def gated (h u v : Fin 2048 → EReal) : EReal :=
  (∑ k : Fin 2048, h k * u k) * Ideal.div 1 (1 + Ideal.exp (0 - ∑ k : Fin 2048, h k * u k))
    * (∑ k : Fin 2048, h k * v k)

theorem pay1_at (v32 : Vec Ideal S1x512x2048 .f32) (v34 : Vec Ideal S1x1x2048 .f32) (v38 : Vec Ideal S1x512x2048 .f32)
    (r : Fin 512) (d : Fin 2048) :
    k0_pay1 (F := Ideal) v32 v34 v38 (ix3 0 r d) = v32 (ix3 0 r d) + lit 0x3F000000#32 * v34 (ix3 0 0 d) * v38 (ix3 0 r d) := by
  pointwise [k0_pay1]

theorem pay2_at (v40 : Vec Ideal S1x128x2048 .f32) (v42 : Vec Ideal S1x2048 .f32) (v44 v46 : Vec Ideal S1x1x2048 .f32)
    (r : Fin 128) (d : Fin 2048) :
    k0_pay2 (F := Ideal) v40 v42 v44 v46 (ix2 r d) = normRow (fun j => v40 (ix3 0 r j)) (fun j => v42 (ix2 0 j))
      (fun j => v44 (ix3 0 0 j)) (fun j => v46 (ix3 0 0 j)) d := by
  pointwise [k0_pay2, normRow]

theorem pay3_at (r : Fin 512) (d : Fin 2048) : k0_pay3 (F := Ideal) (ix3 0 r d) = 0 := by
  pointwise [k0_pay3]

theorem pay4_at (v3 : Vec Ideal S512x2048 .bf16) (v4 v7 : Vec Ideal S2048x512 .bf16) (v20 : Vec Ideal S1x512x2048 .f32)
    (v22 : Vec Ideal S512x2048 .bf16) (r : Fin 512) (d : Fin 2048) :
    k0_pay4 (F := Ideal) v3 v4 v7 v20 v22 (ix3 0 r d) = v20 (ix3 0 r d)
      + ∑ f : Fin 512, gated (fun k => v3 (ix2 r k)) (fun k => v4 (ix2 k f)) (fun k => v7 (ix2 k f)) * v22 (ix2 f d) := by
  pointwise [k0_pay4, gated]
end Cert.Proof.Ffn
end
-- ==== Proof.FfnCases.lean ====
/-
  What one grid point of the feed-forward kernel leaves, by case.

  At the first point of a row block the body normalizes the block's rows, 128 at a time, into the carried scratch and
  starts the sum at zero; at every point it adds one hidden block's product; at the last it applies the gate.
-/
module

public import proofs.«01_k».proof.Proof.FfnBlock
public import Idealize.ShloMosaic.Lib.Pipeline.ReadBack

@[expose] public section
set_option maxRecDepth 16384
noncomputable section
namespace Cert.Proof.Ffn

open Cert.FfnIdeal Cert.FfnIdeal.Gen Cert.FfnIdeal.Value
open Idealize.ShloMosaic Idealize.ShloMosaic.TcCoe Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The normalized rows of a block: row `j 0`, feature `j 1`. -/
def rows (x0 : Vec Ideal S1x512x2048 .f32) (x1 : Vec Ideal S1x2048 .f32) (x2 x3 : Vec Ideal S1x1x2048 .f32) :
    Vec Ideal S512x2048 .bf16 := fun j =>
  normRow (fun k => x0 (ix3 0 (j 0) k)) (fun k => x1 (ix2 0 k)) (fun k => x2 (ix3 0 0 k)) (fun k => x3 (ix3 0 0 k)) (j 1)

theorem trips4 : k0_t1_loop.trips = 4 := by decide +kernel
theorem off1_at : ∀ k : Fin k0_t1_loop.trips, k0_off1 k = ![0, 128 * k.val, 0] := by
  decide +kernel
theorem off2_at : ∀ k : Fin k0_t1_loop.trips, k0_off2 k = ![128 * k.val, 0] := by
  decide +kernel

/-- One trip's piece holds the normalized rows at its place. -/
theorem trip_piece (𝒱 : Variants) (c : Dev nD) (bd : Option 𝒱.V) (i : grid0.Coords) (a3 : Memref sig .tc .vmem S1x512x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S1x1x2048 .f32) (h7 : a7.IsWhole) (a8 : Memref sig .tc .vmem S2048x512 .bf16) (h8 : a8.IsWhole) (a9 : Memref sig .tc .vmem S2048x512 .bf16) (h9 : a9.IsWhole) (a10 : Memref sig .tc .vmem S512x2048 .bf16) (h10 : a10.IsWhole) (a11 : Memref sig .tc .vmem S1x512x2048 .f32) (h11 : a11.IsWhole) (a12 : Memref sig .tc .vmem S512x2048 .bf16) (h12 : a12.IsWhole) (k0_h1 : k0_cond1 i = 1#1)
    (x0 : Vec Ideal S1x512x2048 .f32) (x1 : Vec Ideal S1x2048 .f32) (x2 x3 : Vec Ideal S1x1x2048 .f32)
    (k : Fin k0_t1_loop.trips) :
    ∀ p ∈ tripL_k0_t1 (F := Ideal) 𝒱 c bd i a3 h3 a4 h4 a5 h5 a6 h6 a7 h7 a8 h8 a9 h9 a10 h10 a11 h11 a12 h12 k0_h1 (h3.unread x0) (h4.unread x1) (h5.unread x2) (h6.unread x3) k,
      ∀ x : p.1.shape.Idx, p.2 x = rows x0 x1 x2 x3 (p.1.emb x) := by
  unfold tripL_k0_t1 trip_k0_t1
  dsimp only
  sl_unfold_words
  intro p hp x
  rw [List.mem_singleton] at hp
  subst hp
  have e1 : ∀ a, k0_off1 k a = (![0, 128 * k.val, 0] : Fin 3 → Nat) a := congrFun (off1_at k)
  have e2 : ∀ a, k0_off2 k a = (![128 * k.val, 0] : Fin 2 → Nat) a := congrFun (off2_at k)
  simp only [View.readAt_eq_ld, h3.read_unread, h4.read_unread, h5.read_unread, h6.read_unread]
  dsimp only at x ⊢
  obtain ⟨r, d, rfl⟩ : ∃ (r : Fin 128) (d : Fin 2048), x = ix2 r d := ⟨x 0, x 1, eq_ix2 x⟩
  refine (pay2_at _ _ _ _ r d).trans ?_
  unfold rows
  have hd : ((Rect.unit (s := S512x2048) (k0_off2 k) S128x2048.size (k0_off2_inb i k k0_h1)).emb (ix2 r d) 1) = d :=
    Fin.ext (by show k0_off2 k 1 + 1 * d.val = d.val; rw [e2]; simp)
  have hr : (((Rect.unit (s := S512x2048) (k0_off2 k) S128x2048.size (k0_off2_inb i k k0_h1)).emb (ix2 r d) 0) : Fin 512).val
      = 128 * k.val + r.val := by
    show k0_off2 k 0 + 1 * r.val = _; rw [e2]; simp
  show _ = normRow (fun j => x0 (ix3 0 ((Rect.unit (s := S512x2048) (k0_off2 k) S128x2048.size (k0_off2_inb i k k0_h1)).emb (ix2 r d) 0) j)) _ _ _
    ((Rect.unit (s := S512x2048) (k0_off2 k) S128x2048.size (k0_off2_inb i k k0_h1)).emb (ix2 r d) 1)
  rw [hd]
  congr 1
  · funext j
    refine congrArg x0 (funext fun a => Fin.ext ?_)
    match a with
    | ⟨0, _⟩ => show k0_off1 k 0 + 1 * 0 = 0; rw [e1]; rfl
    | ⟨1, _⟩ => refine Eq.trans ?_ hr.symm; show k0_off1 k 1 + 1 * r.val = _; rw [e1]; simp
    | ⟨2, _⟩ => show k0_off1 k 2 + 1 * j.val = j.val; rw [e1]; simp
  · funext j; exact congrFun (View.ld_unit_zero (S := S1x2048) hz2 _ x1) _
  · funext j; exact congrFun (View.ld_unit_zero (S := S1x1x2048) hz3 _ x2) _
  · funext j; exact congrFun (View.ld_unit_zero (S := S1x1x2048) hz3 _ x3) _

/-- So do the pieces of any number of trips. -/
theorem trips_pieces (𝒱 : Variants) (c : Dev nD) (bd : Option 𝒱.V) (i : grid0.Coords) (a3 : Memref sig .tc .vmem S1x512x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S1x1x2048 .f32) (h7 : a7.IsWhole) (a8 : Memref sig .tc .vmem S2048x512 .bf16) (h8 : a8.IsWhole) (a9 : Memref sig .tc .vmem S2048x512 .bf16) (h9 : a9.IsWhole) (a10 : Memref sig .tc .vmem S512x2048 .bf16) (h10 : a10.IsWhole) (a11 : Memref sig .tc .vmem S1x512x2048 .f32) (h11 : a11.IsWhole) (a12 : Memref sig .tc .vmem S512x2048 .bf16) (h12 : a12.IsWhole) (k0_h1 : k0_cond1 i = 1#1)
    (x0 : Vec Ideal S1x512x2048 .f32) (x1 : Vec Ideal S1x2048 .f32) (x2 x3 : Vec Ideal S1x1x2048 .f32) : ∀ n : ℕ,
    ∀ p ∈ pb_k0_t1 (F := Ideal) 𝒱 c bd i a3 h3 a4 h4 a5 h5 a6 h6 a7 h7 a8 h8 a9 h9 a10 h10 a11 h11 a12 h12 k0_h1 (h3.unread x0) (h4.unread x1) (h5.unread x2) (h6.unread x3) n,
      ∀ x : p.1.shape.Idx, p.2 x = rows x0 x1 x2 x3 (p.1.emb x)
  | 0 => by intro p hp; rw [pb_k0_t1.eq_1] at hp; exact absurd hp List.not_mem_nil
  | n + 1 => by
    intro p hp
    by_cases hn : n < k0_t1_loop.trips
    · rw [pb_k0_t1_succ 𝒱 c bd i a3 h3 a4 h4 a5 h5 a6 h6 a7 h7 a8 h8 a9 h9 a10 h10 a11 h11 a12 h12 k0_h1 _ _ _ _ ⟨n, hn⟩] at hp
      rcases List.mem_append.mp hp with h | h
      · exact trip_piece 𝒱 c bd i a3 h3 a4 h4 a5 h5 a6 h6 a7 h7 a8 h8 a9 h9 a10 h10 a11 h11 a12 h12 k0_h1 x0 x1 x2 x3 ⟨n, hn⟩ p h
      · exact trips_pieces 𝒱 c bd i a3 h3 a4 h4 a5 h5 a6 h6 a7 h7 a8 h8 a9 h9 a10 h10 a11 h11 a12 h12 k0_h1 x0 x1 x2 x3 n p h
    · rw [pb_k0_t1.eq_2] at hp
      unfold pb_k0_t1Step at hp
      rw [dif_neg hn] at hp
      exact trips_pieces 𝒱 c bd i a3 h3 a4 h4 a5 h5 a6 h6 a7 h7 a8 h8 a9 h9 a10 h10 a11 h11 a12 h12 k0_h1 x0 x1 x2 x3 n p hp

variable (m : (ℓ : Loc nD τ sig) → Buf (Elt Ideal) ℓ)

/-- The input blocks at a point, at their literal shapes. -/
abbrev bx (c : Dev nD) (t : Fin cfg0.N) : Vec Ideal S1x512x2048 .f32 := iblk m c 0 t
abbrev bnw (c : Dev nD) (t : Fin cfg0.N) : Vec Ideal S1x2048 .f32 := iblk m c 1 t
abbrev bsh (c : Dev nD) (t : Fin cfg0.N) : Vec Ideal S1x1x2048 .f32 := iblk m c 2 t
abbrev bsc (c : Dev nD) (t : Fin cfg0.N) : Vec Ideal S1x1x2048 .f32 := iblk m c 3 t
abbrev bg (c : Dev nD) (t : Fin cfg0.N) : Vec Ideal S1x1x2048 .f32 := iblk m c 4 t
abbrev bw1 (c : Dev nD) (t : Fin cfg0.N) : Vec Ideal S2048x512 .bf16 := iblk m c 5 t
abbrev bw3 (c : Dev nD) (t : Fin cfg0.N) : Vec Ideal S2048x512 .bf16 := iblk m c 6 t
abbrev bw2 (c : Dev nD) (t : Fin cfg0.N) : Vec Ideal S512x2048 .bf16 := iblk m c 7 t
abbrev brows (c : Dev nD) (t : Fin cfg0.N) : Vec Ideal S512x2048 .bf16 := rows (bx m c t) (bnw m c t) (bsh m c t) (bsc m c t)

/-- The first point of a row block: the normalized rows in the scratch, the first product over zero in the output. -/
theorem outs_first (c : Dev nD) (t : Fin cfg0.N) (h0 : t.val % 11 = 0) :
    outsAt0 m c t.val t.isLt
      = (k0_pay4 (brows m c t) (bw1 m c t) (bw3 m c t) (k0_pay3 (F := Ideal)) (bw2 m c t), brows m c t) := by
  have h1 : ¬t.val % 11 = 10 := by omega
  rw [outsAt0_A m c t h0 h1]
  have hs : ∀ y, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) y = brows m c t y := by
    intro y
    unfold sout0_A_0
    refine View.read_writes_apply_of_pieces _ _ (brows m c t) _ ?_ y (scover0_A_0 ..)
    unfold kernelRun0_A
    dsimp only
    sl_unfold_words
    exact fun p hp x => trips_pieces _ _ _ _ _ _ _ _ _ _ _ _ _ _ _ _ _ _ _ _ _ _ _ _ _ _ _ _ _ _ p hp x
  refine Prod.ext ?_ (funext hs)
  dsimp only
  have hc : View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.1 = brows m c t :=
    (View.read_writes_junk_eq_canon VS0_0 _).symm.trans (funext hs)
  unfold out0_A_8
  rw [View.read_writes_junk_eq_canon]
  unfold kernelRun0_A at hc ⊢
  dsimp only at hc ⊢
  sl_unfold_words
  rw [View.canon_cons_unit_zero hz3, View.readCov_unit_zero (S := S1x512x2048) _ hz3, View.readCov_eq_canon', hc]
  simp only [View.readAt_eq_ld, Memref.IsWhole.read_unread, View.ld_unit_zero (S := S512x2048) hz2,
    View.ld_unit_zero (S := S2048x512) hz2]
  exact congrArg (fun z => k0_pay4 z (bw1 m c t) (bw3 m c t) (k0_pay3 (F := Ideal)) (bw2 m c t))
    (View.ld_unit_zero (S := S512x2048) hz2 _ (brows m c t))

/-- A later point adds its hidden block's product to what the point before left. -/
theorem outs_mid (c : Dev nD) (t : Fin cfg0.N) (h0 : ¬t.val % 11 = 0) (h1 : ¬t.val % 11 = 10) (hp : t.val - 1 < cfg0.N) :
    outsAt0 m c t.val t.isLt
      = (k0_pay4 (outsAt0 m c (t.val - 1) hp).2 (bw1 m c t) (bw3 m c t) (outsAt0 m c (t.val - 1) hp).1 (bw2 m c t),
        (outsAt0 m c (t.val - 1) hp).2) := by
  rw [outsAt0_B m c t h0 h1]
  refine Prod.ext ?_ ?_
  · dsimp only
    unfold out0_B_8
    rw [View.read_writes_junk_eq_canon]
    unfold kernelRun0_B
    dsimp only
    sl_unfold_words
    rw [View.canon_unit_zero hz3]
    simp only [View.readAt_eq_ld, Memref.IsWhole.read_unread, View.ld_unit_zero (S := S512x2048) hz2,
      View.ld_unit_zero (S := S2048x512) hz2, View.ld_unit_zero (S := S1x512x2048) hz3]
    rw [read_unread_whole]
  · dsimp only
    rfl

/-- The last point of a row block adds its product and applies the gate. -/
theorem outs_last (c : Dev nD) (t : Fin cfg0.N) (h1 : t.val % 11 = 10) (hp : t.val - 1 < cfg0.N) :
    (outsAt0 m c t.val t.isLt).1
      = k0_pay1 (bx m c t) (bg m c t) (k0_pay4 (outsAt0 m c (t.val - 1) hp).2 (bw1 m c t) (bw3 m c t)
          (outsAt0 m c (t.val - 1) hp).1 (bw2 m c t)) := by
  have h0 : ¬t.val % 11 = 0 := by omega
  rw [outsAt0_C m c t h0 h1]
  dsimp only
  unfold out0_C_8
  rw [View.read_writes_junk_eq_canon]
  unfold kernelRun0_C
  dsimp only
  sl_unfold_words
  rw [View.canon_cons_unit_zero hz3, View.readCov_unit_zero (S := S1x512x2048) _ hz3]
  simp only [View.readAt_eq_ld, Memref.IsWhole.read_unread, View.ld_unit_zero (S := S512x2048) hz2,
    View.ld_unit_zero (S := S2048x512) hz2, View.ld_unit_zero (S := S1x512x2048) hz3, View.ld_unit_zero (S := S1x1x2048) hz3]
  rw [read_unread_whole]

end Cert.Proof.Ffn
end
-- ==== Proof.FfnWindows.lean ====
/-
  The feed-forward kernel's input windows, read off the arguments.

  Grid point `t` is row block `(t / 11) % 32` of batch row `t / 352` with hidden block `t % 11`; each window's block is
  read at an index as an element of the argument it was cut from.
-/
module

public import proofs.«01_k».proof.Proof.FfnCases
public import Idealize.ShloMosaic.Lib.StableHlo.ReadAt

@[expose] public section
set_option maxRecDepth 16384
noncomputable section
namespace Cert.Proof.Ffn

open Cert.FfnIdeal Cert.FfnIdeal.Gen Cert.FfnIdeal.Value
open Idealize.ShloMosaic Idealize.ShloMosaic.TcCoe Idealize.ShloMosaic.Tactic

variable (m : (ℓ : Loc nD τ sig) → Buf (Elt Ideal) ℓ)

abbrev a0 (c : Dev nD) : Vec Ideal S2x16384x2048 .f32 := m ((c : Thread nD τ).loc main_arg0)
abbrev a1 (c : Dev nD) : Vec Ideal S2048 .f32 := m ((c : Thread nD τ).loc main_arg1)
abbrev a2 (c : Dev nD) : Vec Ideal S2x2048 .f32 := m ((c : Thread nD τ).loc main_arg2)
abbrev a3 (c : Dev nD) : Vec Ideal S2x2048 .f32 := m ((c : Thread nD τ).loc main_arg3)
abbrev a4 (c : Dev nD) : Vec Ideal S2x2048 .f32 := m ((c : Thread nD τ).loc main_arg4)
abbrev a5 (c : Dev nD) : Vec Ideal S2048x5632 .f32 := m ((c : Thread nD τ).loc main_arg5)
abbrev a6 (c : Dev nD) : Vec Ideal S2048x5632 .f32 := m ((c : Thread nD τ).loc main_arg6)
abbrev a7 (c : Dev nD) : Vec Ideal S5632x2048 .f32 := m ((c : Thread nD τ).loc main_arg7)

theorem v0_at (c : Dev nD) (d : Fin 2048) : (V m c main_v0 : Vec Ideal S1x2048 .f32) (ix2 0 d) = a1 m c (ix1 d) := by
  unfold V; after_reads_at
theorem v1_at (c : Dev nD) (b : Fin 2) (d : Fin 2048) : (V m c main_v1 : Vec Ideal S2x1x2048 .f32) (ix3 b 0 d) = a2 m c (ix2 b d) := by
  unfold V; after_reads_at
theorem v2_at (c : Dev nD) (b : Fin 2) (d : Fin 2048) : (V m c main_v2 : Vec Ideal S2x1x2048 .f32) (ix3 b 0 d) = a3 m c (ix2 b d) := by
  unfold V; after_reads_at
theorem v3_at (c : Dev nD) (b : Fin 2) (d : Fin 2048) : (V m c main_v3 : Vec Ideal S2x1x2048 .f32) (ix3 b 0 d) = a4 m c (ix2 b d) := by
  unfold V; after_reads_at
theorem v4_at (c : Dev nD) (k : Fin 2048) (f : Fin 5632) : (V m c main_v4 : Vec Ideal S2048x5632 .bf16) (ix2 k f) = a5 m c (ix2 k f) := by
  unfold V; after_reads_at
theorem v5_at (c : Dev nD) (k : Fin 2048) (f : Fin 5632) : (V m c main_v5 : Vec Ideal S2048x5632 .bf16) (ix2 k f) = a6 m c (ix2 k f) := by
  unfold V; after_reads_at
theorem v6_at (c : Dev nD) (f : Fin 5632) (d : Fin 2048) : (V m c main_v6 : Vec Ideal S5632x2048 .bf16) (ix2 f d) = a7 m c (ix2 f d) := by
  unfold V; after_reads_at

theorem index0 : ∀ t : Fin cfg0.N, win0_0.index t = ![t.val / 352, t.val / 11 % 32, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 352, 0, 0] := (by decide +kernel : ∀ t : Fin grid0.N, _)
theorem index3 : ∀ t : Fin cfg0.N, win0_3.index t = ![t.val / 352, 0, 0] := (by decide +kernel : ∀ t : Fin grid0.N, _)
theorem index4 : ∀ t : Fin cfg0.N, win0_4.index t = ![t.val / 352, 0, 0] := (by decide +kernel : ∀ t : Fin grid0.N, _)
theorem index5 : ∀ t : Fin cfg0.N, win0_5.index t = ![0, t.val % 11] := (by decide +kernel : ∀ t : Fin grid0.N, _)
theorem index6 : ∀ t : Fin cfg0.N, win0_6.index t = ![0, t.val % 11] := (by decide +kernel : ∀ t : Fin grid0.N, _)
theorem index7 : ∀ t : Fin cfg0.N, win0_7.index t = ![t.val % 11, 0] := (by decide +kernel : ∀ t : Fin grid0.N, _)

/-- The batch row, the row and the hidden feature that a point's block indices name. -/
def pb (t : Fin cfg0.N) : Fin 2 := ⟨t.val / 352, by have := t.isLt; have : cfg0.N = 704 := N_0; omega⟩
def prow (t : Fin cfg0.N) (r : Fin 512) : Fin 16384 := ⟨512 * (t.val / 11 % 32) + r.val, by have := r.isLt; omega⟩
def pfeat (t : Fin cfg0.N) (f : Fin 512) : Fin 5632 := ⟨512 * (t.val % 11) + f.val, by have := f.isLt; omega⟩

theorem bx_at (c : Dev nD) (t : Fin cfg0.N) (r : Fin 512) (d : Fin 2048) :
    bx m c t (ix3 0 r d) = a0 m c (ix3 (pb t) (prow t r) d) := by
  have e : ∀ a, win0_0.index t a = (![t.val / 352, t.val / 11 % 32, 0] : Fin 3 → Nat) a := congrFun (index0 t)
  show View.read (Elt Ideal) ((cfg0.win 0).blk t).view (V m c main_arg0) (ix3 0 r d) = _
  rw [V_main_arg0, View.read_apply]
  refine congrArg (a0 m c) (funext fun a => Fin.ext ?_)
  match a with
  | ⟨0, _⟩ => show win0_0.index t 0 * 1 + 1 * 0 = t.val / 352; rw [e]; simp
  | ⟨1, _⟩ => show win0_0.index t 1 * 512 + 1 * r.val = 512 * (t.val / 11 % 32) + r.val; rw [e]; simp; omega
  | ⟨2, _⟩ => show win0_0.index t 2 * 2048 + 1 * d.val = d.val; rw [e]; simp

theorem bnw_at (c : Dev nD) (t : Fin cfg0.N) (d : Fin 2048) : bnw m c t (ix2 0 d) = a1 m c (ix1 d) := by
  have e : ∀ a, win0_1.index t a = (![0, 0] : Fin 2 → Nat) a := congrFun (index1 t)
  refine Eq.trans ?_ (v0_at m c d)
  refine congrArg (V m c main_v0 : Vec Ideal S1x2048 .f32) (funext fun a => Fin.ext ?_)
  match a with
  | ⟨0, _⟩ => show win0_1.index t 0 * 1 + 1 * 0 = 0; rw [e]; simp
  | ⟨1, _⟩ => show win0_1.index t 1 * 2048 + 1 * d.val = d.val; rw [e]; simp

theorem bsh_at (c : Dev nD) (t : Fin cfg0.N) (d : Fin 2048) : bsh m c t (ix3 0 0 d) = a2 m c (ix2 (pb t) d) := by
  have e : ∀ a, win0_2.index t a = (![t.val / 352, 0, 0] : Fin 3 → Nat) a := congrFun (index2 t)
  refine Eq.trans ?_ (v1_at m c (pb t) d)
  refine congrArg (V m c main_v1 : Vec Ideal S2x1x2048 .f32) (funext fun a => Fin.ext ?_)
  match a with
  | ⟨0, _⟩ => show win0_2.index t 0 * 1 + 1 * 0 = t.val / 352; rw [e]; simp
  | ⟨1, _⟩ => show win0_2.index t 1 * 1 + 1 * 0 = 0; rw [e]; simp
  | ⟨2, _⟩ => show win0_2.index t 2 * 2048 + 1 * d.val = d.val; rw [e]; simp

theorem bsc_at (c : Dev nD) (t : Fin cfg0.N) (d : Fin 2048) : bsc m c t (ix3 0 0 d) = a3 m c (ix2 (pb t) d) := by
  have e : ∀ a, win0_3.index t a = (![t.val / 352, 0, 0] : Fin 3 → Nat) a := congrFun (index3 t)
  refine Eq.trans ?_ (v2_at m c (pb t) d)
  refine congrArg (V m c main_v2 : Vec Ideal S2x1x2048 .f32) (funext fun a => Fin.ext ?_)
  match a with
  | ⟨0, _⟩ => show win0_3.index t 0 * 1 + 1 * 0 = t.val / 352; rw [e]; simp
  | ⟨1, _⟩ => show win0_3.index t 1 * 1 + 1 * 0 = 0; rw [e]; simp
  | ⟨2, _⟩ => show win0_3.index t 2 * 2048 + 1 * d.val = d.val; rw [e]; simp

theorem bg_at (c : Dev nD) (t : Fin cfg0.N) (d : Fin 2048) : bg m c t (ix3 0 0 d) = a4 m c (ix2 (pb t) d) := by
  have e : ∀ a, win0_4.index t a = (![t.val / 352, 0, 0] : Fin 3 → Nat) a := congrFun (index4 t)
  refine Eq.trans ?_ (v3_at m c (pb t) d)
  refine congrArg (V m c main_v3 : Vec Ideal S2x1x2048 .f32) (funext fun a => Fin.ext ?_)
  match a with
  | ⟨0, _⟩ => show win0_4.index t 0 * 1 + 1 * 0 = t.val / 352; rw [e]; simp
  | ⟨1, _⟩ => show win0_4.index t 1 * 1 + 1 * 0 = 0; rw [e]; simp
  | ⟨2, _⟩ => show win0_4.index t 2 * 2048 + 1 * d.val = d.val; rw [e]; simp

theorem bw1_at (c : Dev nD) (t : Fin cfg0.N) (k : Fin 2048) (f : Fin 512) : bw1 m c t (ix2 k f) = a5 m c (ix2 k (pfeat t f)) := by
  have e : ∀ a, win0_5.index t a = (![0, t.val % 11] : Fin 2 → Nat) a := congrFun (index5 t)
  refine Eq.trans ?_ (v4_at m c k (pfeat t f))
  refine congrArg (V m c main_v4 : Vec Ideal S2048x5632 .bf16) (funext fun a => Fin.ext ?_)
  match a with
  | ⟨0, _⟩ => show win0_5.index t 0 * 2048 + 1 * k.val = k.val; rw [e]; simp
  | ⟨1, _⟩ => show win0_5.index t 1 * 512 + 1 * f.val = 512 * (t.val % 11) + f.val; rw [e]; simp; omega

theorem bw3_at (c : Dev nD) (t : Fin cfg0.N) (k : Fin 2048) (f : Fin 512) : bw3 m c t (ix2 k f) = a6 m c (ix2 k (pfeat t f)) := by
  have e : ∀ a, win0_6.index t a = (![0, t.val % 11] : Fin 2 → Nat) a := congrFun (index6 t)
  refine Eq.trans ?_ (v5_at m c k (pfeat t f))
  refine congrArg (V m c main_v5 : Vec Ideal S2048x5632 .bf16) (funext fun a => Fin.ext ?_)
  match a with
  | ⟨0, _⟩ => show win0_6.index t 0 * 2048 + 1 * k.val = k.val; rw [e]; simp
  | ⟨1, _⟩ => show win0_6.index t 1 * 512 + 1 * f.val = 512 * (t.val % 11) + f.val; rw [e]; simp; omega

theorem bw2_at (c : Dev nD) (t : Fin cfg0.N) (f : Fin 512) (d : Fin 2048) : bw2 m c t (ix2 f d) = a7 m c (ix2 (pfeat t f) d) := by
  have e : ∀ a, win0_7.index t a = (![t.val % 11, 0] : Fin 2 → Nat) a := congrFun (index7 t)
  refine Eq.trans ?_ (v6_at m c (pfeat t f) d)
  refine congrArg (V m c main_v6 : Vec Ideal S5632x2048 .bf16) (funext fun a => Fin.ext ?_)
  match a with
  | ⟨0, _⟩ => show win0_7.index t 0 * 512 + 1 * f.val = 512 * (t.val % 11) + f.val; rw [e]; simp; omega
  | ⟨1, _⟩ => show win0_7.index t 1 * 2048 + 1 * d.val = d.val; rw [e]; simp

end Cert.Proof.Ffn
end
-- ==== Proof.FfnSweep.lean ====
/-
  The feed-forward kernel's sweep: along the eleven hidden blocks of a row block the accumulator is a partial sum, and at the
  last one the output block is the row plus half the gate times the whole sum.
-/
module

public import proofs.«01_k».proof.Proof.FfnWindows
public import Idealize.ShloMosaic.Lib.Pointwise

@[expose] public section
set_option maxRecDepth 16384
noncomputable section
namespace Cert.Proof.Ffn

open Cert.FfnIdeal Cert.FfnIdeal.Gen Cert.FfnIdeal.Value
open Idealize.ShloMosaic Idealize.ShloMosaic.TcCoe Idealize.ShloMosaic.Tactic

/-- The normalized and modulated row `s` of batch row `b`. -/
def hrow (x : Vec Ideal S2x16384x2048 .f32) (nw : Vec Ideal S2048 .f32) (sh sc : Vec Ideal S2x2048 .f32)
    (b : Fin 2) (s : Fin 16384) (k : Fin 2048) : EReal :=
  normRow (fun j => x (ix3 b s j)) (fun j => nw (ix1 j)) (fun j => sh (ix2 b j)) (fun j => sc (ix2 b j)) k

/-- What hidden feature `f` adds to output feature `d` of a row `h`. -/
def term (h : Fin 2048 → EReal) (w1 w3 : Vec Ideal S2048x5632 .f32) (w2 : Vec Ideal S5632x2048 .f32)
    (d : Fin 2048) (f : Fin 5632) : EReal :=
  gated h (fun k => w1 (ix2 k f)) (fun k => w3 (ix2 k f)) * w2 (ix2 f d)

/-- The feed-forward block at an index: the row plus half the gate times the sum over the hidden features. -/
def ffnAt (x : Vec Ideal S2x16384x2048 .f32) (nw : Vec Ideal S2048 .f32) (sh sc gt : Vec Ideal S2x2048 .f32)
    (w1 w3 : Vec Ideal S2048x5632 .f32) (w2 : Vec Ideal S5632x2048 .f32)
    (b : Fin 2) (s : Fin 16384) (d : Fin 2048) : EReal :=
  x (ix3 b s d) + lit 0x3F000000#32 * gt (ix2 b d) * ∑ f : Fin 5632, term (hrow x nw sh sc b s) w1 w3 w2 d f

variable (m : (ℓ : Loc nD τ sig) → Buf (Elt Ideal) ℓ)

abbrev hr (c : Dev nD) (b : Fin 2) (s : Fin 16384) : Fin 2048 → EReal := hrow (a0 m c) (a1 m c) (a2 m c) (a3 m c) b s

/-- `term` of the call's arguments at a natural number, zero past the last feature. -/
def termN (c : Dev nD) (b : Fin 2) (s : Fin 16384) (d : Fin 2048) (i : Nat) : EReal :=
  if h : i < 5632 then term (hr m c b s) (a5 m c) (a6 m c) (a7 m c) d ⟨i, h⟩ else 0

/-- The sum over the first `n` hidden blocks. -/
def part (c : Dev nD) (b : Fin 2) (s : Fin 16384) (d : Fin 2048) (n : Nat) : EReal :=
  ∑ j ∈ Finset.range n, ∑ f : Fin 512, termN m c b s d (512 * j + f.val)

theorem brows_at (c : Dev nD) (t : Fin cfg0.N) (r : Fin 512) (k : Fin 2048) :
    brows m c t (ix2 r k) = hr m c (pb t) (prow t r) k := by
  show normRow (fun k => bx m c t (ix3 0 r k)) (fun k => bnw m c t (ix2 0 k)) (fun k => bsh m c t (ix3 0 0 k))
    (fun k => bsc m c t (ix3 0 0 k)) k = _
  simp only [bx_at, bnw_at, bsh_at, bsc_at]
  rfl

/-- One hidden block's contribution at a point, for any scratch that holds the point's rows. -/
theorem tile_at (c : Dev nD) (t : Fin cfg0.N) (r : Fin 512) (d : Fin 2048) (h : Vec Ideal S512x2048 .bf16)
    (hh : ∀ r k, h (ix2 r k) = hr m c (pb t) (prow t r) k) :
    (∑ f : Fin 512, gated (fun k => h (ix2 r k)) (fun k => bw1 m c t (ix2 k f)) (fun k => bw3 m c t (ix2 k f))
      * bw2 m c t (ix2 f d)) = ∑ f : Fin 512, termN m c (pb t) (prow t r) d (512 * (t.val % 11) + f.val) := by
  refine Finset.sum_congr rfl fun f _ => ?_
  have hf : 512 * (t.val % 11) + f.val < 5632 := (pfeat t f).isLt
  simp only [hh, bw1_at, bw3_at, bw2_at]
  rw [termN, dif_pos hf]
  rfl

theorem pb_pred (n : Nat) (hn : n + 1 < cfg0.N) (h : (n + 1) % 11 ≠ 0) : pb ⟨n, by omega⟩ = pb ⟨n + 1, hn⟩ :=
  Fin.ext (show n / 352 = (n + 1) / 352 by omega)

theorem prow_pred (n : Nat) (hn : n + 1 < cfg0.N) (h : (n + 1) % 11 ≠ 0) (r : Fin 512) :
    prow ⟨n, by omega⟩ r = prow ⟨n + 1, hn⟩ r :=
  Fin.ext (show 512 * (n / 11 % 32) + r.val = 512 * ((n + 1) / 11 % 32) + r.val by omega)

/-- Before a run's last point the accumulator is the sum over the hidden blocks so far, and the scratch holds the rows. -/
theorem sweep (c : Dev nD) : ∀ (n : Nat) (hn : n < cfg0.N), n % 11 ≠ 10 →
    (∀ r d, (outsAt0 m c n hn).1 (ix3 0 r d) = part m c (pb ⟨n, hn⟩) (prow ⟨n, hn⟩ r) d (n % 11 + 1)) ∧
    (∀ r k, (outsAt0 m c n hn).2 (ix2 r k) = hr m c (pb ⟨n, hn⟩) (prow ⟨n, hn⟩ r) k) := by
  intro n
  induction n with
  | zero =>
    intro hn _
    have e := outs_first m c ⟨0, hn⟩ rfl
    rw [e]
    refine ⟨fun r d => ?_, fun r k => brows_at m c _ r k⟩
    refine (pay4_at _ _ _ _ _ r d).trans ?_
    rw [tile_at m c ⟨0, hn⟩ r d _ (brows_at m c _), pay3_at, part, Finset.sum_range_succ, Finset.sum_range_zero]
  | succ n ih =>
    intro hn h1
    by_cases h0 : (n + 1) % 11 = 0
    · have e := outs_first m c ⟨n + 1, hn⟩ h0
      rw [show outsAt0 m c (n + 1) hn = _ from e]
      refine ⟨fun r d => ?_, fun r k => brows_at m c _ r k⟩
      refine (pay4_at _ _ _ _ _ r d).trans ?_
      rw [tile_at m c ⟨n + 1, hn⟩ r d _ (brows_at m c _), pay3_at, part, h0, Finset.sum_range_succ, Finset.sum_range_zero]
    · obtain ⟨ihA, ihB⟩ := ih (by omega) (by omega)
      have e := outs_mid m c ⟨n + 1, hn⟩ h0 h1 (show n + 1 - 1 < cfg0.N by omega)
      rw [show outsAt0 m c (n + 1) hn = _ from e]
      have hB : ∀ r k, (outsAt0 m c n (by omega)).2 (ix2 r k) = hr m c (pb ⟨n + 1, hn⟩) (prow ⟨n + 1, hn⟩ r) k := by
        intro r k
        rw [ihB r k, pb_pred n hn h0, prow_pred n hn h0]
      refine ⟨fun r d => ?_, hB⟩
      refine (pay4_at _ _ _ _ _ r d).trans ?_
      refine (congrArg₂ (· + ·) (ihA r d) (tile_at m c ⟨n + 1, hn⟩ r d _ hB)).trans ?_
      rw [pb_pred n hn h0, prow_pred n hn h0, part, part,
        show (n + 1) % 11 = n % 11 + 1 by omega, Finset.sum_range_succ _ (n % 11 + 1)]

/-- The sum over all eleven hidden blocks is the sum over the hidden features. -/
theorem part_all (c : Dev nD) (b : Fin 2) (s : Fin 16384) (d : Fin 2048) :
    part m c b s d 11 = ∑ f : Fin 5632, term (hr m c b s) (a5 m c) (a6 m c) (a7 m c) d f := by
  rw [Fin.sum_univ_tiles 11 512 (by norm_num), part, Finset.sum_range]
  refine Finset.sum_congr rfl fun j _ => Finset.sum_congr rfl fun f _ => ?_
  have hj := j.isLt; have hf := f.isLt
  have h : 512 * j.val + f.val < 5632 := by omega
  rw [termN, dif_pos h]
  exact congrArg _ (Fin.ext (by show 512 * j.val + f.val = j.val * 512 + f.val; omega))

/-- At a run's last point the output block is the feed-forward block's rows. -/
theorem sweep_last (c : Dev nD) (t : Fin cfg0.N) (h1 : t.val % 11 = 10) (r : Fin 512) (d : Fin 2048) :
    (outsAt0 m c t.val t.isLt).1 (ix3 0 r d) =
      ffnAt (a0 m c) (a1 m c) (a2 m c) (a3 m c) (a4 m c) (a5 m c) (a6 m c) (a7 m c) (pb t) (prow t r) d := by
  obtain ⟨n, hn⟩ := t
  obtain _ | n := n
  · exact absurd (show 0 % 11 = 10 from h1) (by decide)
  have h1' : (n + 1) % 11 = 10 := h1
  have h0 : (n + 1) % 11 ≠ 0 := by omega
  obtain ⟨ihA, ihB⟩ := sweep m c n (by omega) (by omega)
  have hB : ∀ r k, (outsAt0 m c n (by omega)).2 (ix2 r k) = hr m c (pb ⟨n + 1, hn⟩) (prow ⟨n + 1, hn⟩ r) k := by
    intro r k
    rw [ihB r k, pb_pred n hn h0, prow_pred n hn h0]
  rw [outs_last m c ⟨n + 1, hn⟩ h1 (show n + 1 - 1 < cfg0.N by omega)]
  refine (pay1_at _ _ _ r d).trans ?_
  rw [bx_at, bg_at]
  refine (congrArg _ (congrArg _ ((pay4_at _ _ _ _ _ r d).trans
    (congrArg₂ (· + ·) (ihA r d) (tile_at m c ⟨n + 1, hn⟩ r d _ hB))))).trans ?_
  rw [pb_pred n hn h0, prow_pred n hn h0, ffnAt, ← part_all, part, part, h1, show n % 11 + 1 = 10 by omega,
    Finset.sum_range_succ _ 10]

/-- The kernel's result array at an index. -/
theorem G8_at (c : Dev nD) (b : Fin 2) (s : Fin 16384) (d : Fin 2048) :
    (G8 m c : Vec Ideal S2x16384x2048 .f32) (ix3 b s d) =
      ffnAt (a0 m c) (a1 m c) (a2 m c) (a3 m c) (a4 m c) (a5 m c) (a6 m c) (a7 m c) b s d := by
  have hb := b.isLt; have hs := s.isLt; have hd := d.isLt
  have hp : pt8Of (ix3 b s d) = 11 * (32 * b.val + s.val / 512) + 10 := by
    show 11 * (32 * ((b.val) / 1 - 0) + 1 * (s.val / 512 - 0) + 1 * (d.val / 2048 - 0)) + 10 = _
    omega
  have hN : cfg0.N = 704 := N_0
  have hlt : pt8Of (ix3 b s d) < cfg0.N := by omega
  show (if h : pt8Of (ix3 b s d) < cfg0.N then _ else _) = _
  rw [dif_pos hlt, ← outsAt0_sweep m c _ hlt]
  have hl : loc8Of (ix3 b s d) = ix3 0 ⟨s.val % 512, by omega⟩ d := by
    funext a
    match a with
    | ⟨0, _⟩ => exact Fin.ext (show b.val % 1 = 0 by omega)
    | ⟨1, _⟩ => rfl
    | ⟨2, _⟩ => exact Fin.ext (show d.val % 2048 = d.val by omega)
  rw [hl]
  refine (sweep_last m c ⟨pt8Of (ix3 b s d), hlt⟩ (by show pt8Of (ix3 b s d) % 11 = 10; omega) _ d).trans ?_
  have e1 : pb ⟨pt8Of (ix3 b s d), hlt⟩ = b := Fin.ext (by show pt8Of (ix3 b s d) / 352 = b.val; omega)
  have e2 : prow ⟨pt8Of (ix3 b s d), hlt⟩ ⟨s.val % 512, by omega⟩ = s :=
    Fin.ext (by show 512 * (pt8Of (ix3 b s d) / 11 % 32) + s.val % 512 = s.val; omega)
  rw [e1, e2]

end Cert.Proof.Ffn
end
-- ==== Proof.FfnRefValue.lean ====
/-
  The reference feed-forward block at an index.
-/
module

public import proofs.«01_k».proof.Proof.FfnSweep
public import proofs.«01_k».proof.Proof.Gen.FfnRefIdeal.Read

@[expose] public section
set_option maxRecDepth 16384
noncomputable section
namespace Cert.Proof.Ffn

open Cert.FfnRefIdeal Cert.FfnRefIdeal.Read
open Idealize.ShloMosaic Idealize.ShloMosaic.TcCoe Idealize.ShloMosaic.Tactic

theorem lit_one : Ideal.ofBits .f32 0x3F800000#32 = 1 := by
  pointwise

variable (x : Vec Ideal S2x16384x2048 .f32) (nw : Vec Ideal S2048 .f32) (sh sc gt : Vec Ideal S2x2048 .f32)
  (w1 w3 : Vec Ideal S2048x5632 .f32) (w2 : Vec Ideal S5632x2048 .f32)

/-- The reference's normalized and modulated rows. -/
theorem ref_row (b : Fin 2) (s : Fin 16384) (k : Fin 2048) :
    val_main_v20 (F := Ideal) x nw sh sc (ix3 b s k) = hrow x nw sh sc b s k := by
  rw [val_main_v20_apply, val_main_v19_apply, val_main_v18_apply, val_main_v17_apply, val_main_v16_apply, val_main_v15_apply,
    val_main_v14_apply, val_main_cst_2_apply, val_main_v13_apply, val_main_v12_apply, val_main_v11_apply, val_main_v10_apply,
    val_main_v9_apply, val_main_v8_apply, val_main_v7_apply, val_main_v6_apply, val_main_v5_apply, val_main_cst_1_apply,
    val_main_v4_apply, val_main_v3_apply, val_main_cst_0_apply, val_main_v2_apply, val_main_v1_apply, val_main_cst_apply]
  simp only [val_main_v0_apply]
  show x (ix3 b s k) * Ideal.rsqrt (Ideal.div (Ideal.ofBits .f32 0x00000000#32 + ∑ j : Fin 2048, x _ * x _) _ + _) * nw _
    * (Ideal.ofBits .f32 0x3F800000#32 + sc _) + sh _ = _
  rw [Ideal.ofBits_zero_f32, zero_add, lit_one]
  have e : ∀ j, idx_main_v1 (idx_main_v2 (idx_main_v8 (ix3 b s k))) j = ix3 b s j := fun j =>
    funext fun a => by match a with | ⟨0, _⟩ => rfl | ⟨1, _⟩ => rfl | ⟨2, _⟩ => rfl
  have e1 : idx_main_v10 (idx_main_v11 (ix3 b s k)) = ix1 k := funext fun a => by match a with | ⟨0, _⟩ => rfl
  have e2 : idx_main_v13 (idx_main_v16 (ix3 b s k)) = ix2 b k :=
    funext fun a => by match a with | ⟨0, _⟩ => rfl | ⟨1, _⟩ => rfl
  have e3 : idx_main_v18 (idx_main_v19 (ix3 b s k)) = ix2 b k :=
    funext fun a => by match a with | ⟨0, _⟩ => rfl | ⟨1, _⟩ => rfl
  simp only [e]
  rw [e1, e2, e3]
  rfl

/-- The reference's gated hidden features. -/
theorem ref_gated (b : Fin 2) (s : Fin 16384) (f : Fin 5632) :
    val_main_v27 (F := Ideal) x nw sh sc w1 w3 (ix3 b s f) =
      gated (hrow x nw sh sc b s) (fun k => w1 (ix2 k f)) (fun k => w3 (ix2 k f)) := by
  have el : ∀ k, lidx_main_v24 (ix3 b s f) k = ix3 b s k := fun k =>
    funext fun a => by match a with | ⟨0, _⟩ => rfl | ⟨1, _⟩ => rfl | ⟨2, _⟩ => rfl
  have er : ∀ k, ridx_main_v24 (ix3 b s f) k = ix2 k f := fun k =>
    funext fun a => by match a with | ⟨0, _⟩ => rfl | ⟨1, _⟩ => rfl
  have h1 : val_main_v24 (F := Ideal) x nw sh sc w1 (ix3 b s f) = ∑ k, hrow x nw sh sc b s k * w1 (ix2 k f) := by
    rw [val_main_v24_apply]
    exact Finset.sum_congr rfl fun k _ => by rw [el, er, ref_row]
  have h3 : val_main_v26 (F := Ideal) x nw sh sc w3 (ix3 b s f) = ∑ k, hrow x nw sh sc b s k * w3 (ix2 k f) := by
    rw [val_main_v26_apply]
    refine Finset.sum_congr rfl fun k _ => ?_
    rw [show lidx_main_v26 (ix3 b s f) k = ix3 b s k from el k, show ridx_main_v26 (ix3 b s f) k = ix2 k f from er k, ref_row]
  rw [val_main_v27_apply, val_main_v25_apply, val_main_call0_v5_apply, val_main_call0_v4_apply, val_main_call0_cst_0_apply,
    val_main_call0_v3_apply, val_main_call0_v2_apply, val_main_call0_cst_apply, val_main_call0_v1_apply,
    val_main_call0_v0_apply, h1, h3]
  show _ * Ideal.div (Ideal.ofBits .f32 0x3F800000#32) (Ideal.ofBits .f32 0x3F800000#32 + Ideal.exp (-_)) * _ = _
  rw [lit_one, ← zero_sub]
  rfl

/-- The reference's result at an index. -/
theorem ref_at (b : Fin 2) (s : Fin 16384) (d : Fin 2048) :
    val_main_v31 (F := Ideal) x nw sh sc gt w1 w3 w2 (ix3 b s d) = ffnAt x nw sh sc gt w1 w3 w2 b s d := by
  have el : ∀ f, lidx_main_v28 (ix3 b s d) f = ix3 b s f := fun k =>
    funext fun a => by match a with | ⟨0, _⟩ => rfl | ⟨1, _⟩ => rfl | ⟨2, _⟩ => rfl
  have er : ∀ f, ridx_main_v28 (ix3 b s d) f = ix2 f d := fun k =>
    funext fun a => by match a with | ⟨0, _⟩ => rfl | ⟨1, _⟩ => rfl
  have e : idx_main_v21 (idx_main_v29 (ix3 b s d)) = ix2 b d :=
    funext fun a => by match a with | ⟨0, _⟩ => rfl | ⟨1, _⟩ => rfl
  have h : val_main_v28 (F := Ideal) x nw sh sc w1 w3 w2 (ix3 b s d) = ∑ f : Fin 5632, term (hrow x nw sh sc b s) w1 w3 w2 d f := by
    rw [val_main_v28_apply]
    exact Finset.sum_congr rfl fun f _ => by rw [el, er, ref_gated]; rfl
  rw [val_main_v31_apply, val_main_v30_apply, val_main_v29_apply, val_main_v23_apply, val_main_v22_apply, val_main_cst_3_apply,
    val_main_v21_apply, h, e]
  rfl

/-- The kernel's result is the reference's, as a function of equal arguments. -/
theorem G8_eq_ref (m : (ℓ : Loc Cert.FfnIdeal.nD Cert.FfnIdeal.τ Cert.FfnIdeal.sig) → Buf (Elt Ideal) ℓ) (c : Dev Cert.FfnIdeal.nD) :
    (Cert.FfnIdeal.Value.G8 m c : Vec Ideal S2x16384x2048 .f32) =
      val_main_v31 (F := Ideal) (a0 m c) (a1 m c) (a2 m c) (a3 m c) (a4 m c) (a5 m c) (a6 m c) (a7 m c) := by
  funext i
  obtain ⟨b, s, d, rfl⟩ : ∃ b s d, i = ix3 b s d := ⟨i 0, i 1, i 2, eq_ix3 i⟩
  exact (G8_at m c b s d).trans (ref_at _ _ _ _ _ _ _ _ b s d).symm

end Cert.Proof.Ffn
end
-- ==== Proof.InRun.lean ====
/-
  What one grid point of the input projection's kernel leaves, by case, and its run; in the ideal program.

  At the first point of a block of rows the body normalizes the block's rows, 128 at a time, into the carried scratch
  and multiplies them by the small weights; at every point it multiplies them by one block of the main weights.
-/
module

public import proofs.«01_k».proof.Proof.Gen.InIdeal.Frame
public import proofs.«01_k».proof.Proof.Gen.InIdeal.Loops
public import proofs.«01_k».proof.Proof.Gen.InIdeal.Points
public import Idealize.ShloMosaic.Lib.Pipeline.FrameBody
public import Idealize.ShloMosaic.Lib.Pipeline.ReadBack
public import Idealize.ShloMosaic.Lib.Pipeline.TableIdle
public import Idealize.ShloMosaic.Lib.Claim
public import Idealize.ShloMosaic.Lib.Pointwise
public import Idealize.ShloMosaic.Lib.Ring
public import Idealize.ShloMosaic.Lib.Tactic
public import Idealize.ShloMosaic.Lib.WordCmp

@[expose] public section
set_option maxRecDepth 16384
noncomputable section
namespace Cert.Proof.In

open Cert.InIdeal Cert.InIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄I" => MT nD τ sig Unit (Elt F) ℕ (UR sig nD τ) ℕ

theorem hz2 : (![0, 0] : Fin 2 → Nat) = fun _ => 0 := by decide
theorem hz3 : (![0, 0, 0] : Fin 3 → Nat) = fun _ => 0 := by decide

/-- Rows `128 * q` to `128 * q + 127` of a block. -/
def sub (x0 : Vec F S1x1024x2048 .f32) (q : Fin 8) : Vec F S1x128x2048 .f32 := fun y =>
  x0 (ix3 0 ⟨128 * q.val + (y 1).val, by have h : (y 1).val < 128 := (y 1).isLt; omega⟩ (y 2))

/-- The normalized rows of a block. -/
def rows (x0 : Vec F S1x1024x2048 .f32) (x1 : Vec F S1x2048 .f32) (x2 x3 : Vec F S1x1x2048 .f32) : Vec F S1024x2048 .bf16 := fun j =>
  k0_pay1 (sub x0 ⟨(j 0).val / 128, by have h : (j 0).val < 1024 := (j 0).isLt; omega⟩) x1 x2 x3
    (ix2 ⟨(j 0).val % 128, Nat.mod_lt _ (by decide)⟩ (j 1))

theorem trips8 : k0_t1_loop.trips = 8 := by decide +kernel
theorem off1_at : ∀ k : Fin k0_t1_loop.trips, k0_off1 k = ![0, 128 * k.val, 0] := by
  decide +kernel
theorem off2_at : ∀ k : Fin k0_t1_loop.trips, k0_off2 k = ![128 * k.val, 0] := by
  decide +kernel

/-- One trip's piece holds the normalized rows at its place. -/
theorem trip_piece (𝒱 : Variants) (c : Dev nD) (bd : Option 𝒱.V) (i : grid0.Coords) (a3 : Memref sig .tc .vmem S1x1024x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S2048x1024 .bf16) (h7 : a7.IsWhole) (a8 : Memref sig .tc .vmem S2048x128 .bf16) (h8 : a8.IsWhole) (a9 : Memref sig .tc .vmem S1x1024x1024 .bf16) (h9 : a9.IsWhole) (a10 : Memref sig .tc .vmem S1x1024x128 .f32) (h10 : a10.IsWhole) (a11 : Memref sig .tc .vmem S1024x2048 .bf16) (h11 : a11.IsWhole) (k0_h1 : k0_cond1 i = 1#1)
    (x0 : Vec F S1x1024x2048 .f32) (x1 : Vec F S1x2048 .f32) (x2 x3 : Vec F S1x1x2048 .f32)
    (k : Fin k0_t1_loop.trips) :
    ∀ p ∈ tripL_k0_t1 (F := F) 𝒱 c bd i a3 h3 a4 h4 a5 h5 a6 h6 a7 h7 a8 h8 a9 h9 a10 h10 a11 h11 k0_h1 (h3.unread x0) (h4.unread x1) (h5.unread x2) (h6.unread x3) k,
      ∀ x : p.1.shape.Idx, p.2 x = rows x0 x1 x2 x3 (p.1.emb x) := by
  have hk : k.val < 8 := lt_of_lt_of_eq k.isLt trips8
  unfold tripL_k0_t1 trip_k0_t1
  dsimp only
  sl_unfold_words
  intro p hp x
  rw [List.mem_singleton] at hp
  subst hp
  have e1 : ∀ a, k0_off1 k a = (![0, 128 * k.val, 0] : Fin 3 → Nat) a := congrFun (off1_at k)
  have e2 : ∀ a, k0_off2 k a = (![128 * k.val, 0] : Fin 2 → Nat) a := congrFun (off2_at k)
  simp only [View.readAt_eq_ld, h3.read_unread, h4.read_unread, h5.read_unread, h6.read_unread,
    View.ld_unit_zero (S := S1x2048) hz2, View.ld_unit_zero (S := S1x1x2048) hz3]
  dsimp only at x ⊢
  obtain ⟨r, d, rfl⟩ : ∃ (r : Fin 128) (d : Fin 2048), x = ix2 r d := ⟨x 0, x 1, eq_ix2 x⟩
  have hd : ((Rect.unit (s := S1024x2048) (k0_off2 k) S128x2048.size (k0_off2_inb i k k0_h1)).emb (ix2 r d) 1) = d :=
    Fin.ext (by show k0_off2 k 1 + 1 * d.val = d.val; rw [e2]; simp)
  have hr : (((Rect.unit (s := S1024x2048) (k0_off2 k) S128x2048.size (k0_off2_inb i k k0_h1)).emb (ix2 r d) 0) : Fin 1024).val
      = 128 * k.val + r.val := by
    show k0_off2 k 0 + 1 * r.val = _; rw [e2]; simp
  have hq (hb) : (⟨(((Rect.unit (s := S1024x2048) (k0_off2 k) S128x2048.size (k0_off2_inb i k k0_h1)).emb (ix2 r d) 0) : Fin 1024).val / 128, hb⟩ : Fin 8)
      = ⟨k.val, hk⟩ := Fin.ext (by show _ / 128 = k.val; rw [hr]; omega)
  have hm (hb) : (⟨(((Rect.unit (s := S1024x2048) (k0_off2 k) S128x2048.size (k0_off2_inb i k k0_h1)).emb (ix2 r d) 0) : Fin 1024).val % 128, hb⟩ : Fin 128)
      = r := Fin.ext (by show _ % 128 = r.val; rw [hr]; omega)
  show k0_pay1 (View.ld x0 (Rect.unit (s := S1x1024x2048) (k0_off1 k) S1x128x2048.size (k0_off1_inb i k k0_h1))) x1 x2 x3 (ix2 r d)
    = rows x0 x1 x2 x3 ((Rect.unit (s := S1024x2048) (k0_off2 k) S128x2048.size (k0_off2_inb i k k0_h1)).emb (ix2 r d))
  unfold rows
  rw [hd, hq, hm]
  refine congrArg (fun z => k0_pay1 z x1 x2 x3 (ix2 r d)) (funext fun y => ?_)
  refine congrArg x0 (funext fun a => Fin.ext ?_)
  match a with
  | ⟨0, _⟩ => show k0_off1 k 0 + 1 * (y 0).val = 0; rw [e1]; have h : (y 0).val < 1 := (y 0).isLt; simp; omega
  | ⟨1, _⟩ => show k0_off1 k 1 + 1 * (y 1).val = 128 * k.val + (y 1).val; rw [e1]; simp
  | ⟨2, _⟩ => show k0_off1 k 2 + 1 * (y 2).val = (y 2).val; rw [e1]; simp

/-- So do the pieces of any number of trips. -/
theorem trips_pieces (𝒱 : Variants) (c : Dev nD) (bd : Option 𝒱.V) (i : grid0.Coords) (a3 : Memref sig .tc .vmem S1x1024x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S2048x1024 .bf16) (h7 : a7.IsWhole) (a8 : Memref sig .tc .vmem S2048x128 .bf16) (h8 : a8.IsWhole) (a9 : Memref sig .tc .vmem S1x1024x1024 .bf16) (h9 : a9.IsWhole) (a10 : Memref sig .tc .vmem S1x1024x128 .f32) (h10 : a10.IsWhole) (a11 : Memref sig .tc .vmem S1024x2048 .bf16) (h11 : a11.IsWhole) (k0_h1 : k0_cond1 i = 1#1)
    (x0 : Vec F S1x1024x2048 .f32) (x1 : Vec F S1x2048 .f32) (x2 x3 : Vec F S1x1x2048 .f32) : ∀ n : ℕ,
    ∀ p ∈ pb_k0_t1 (F := F) 𝒱 c bd i a3 h3 a4 h4 a5 h5 a6 h6 a7 h7 a8 h8 a9 h9 a10 h10 a11 h11 k0_h1 (h3.unread x0) (h4.unread x1) (h5.unread x2) (h6.unread x3) n,
      ∀ x : p.1.shape.Idx, p.2 x = rows x0 x1 x2 x3 (p.1.emb x)
  | 0 => by intro p hp; rw [pb_k0_t1.eq_1] at hp; exact absurd hp List.not_mem_nil
  | n + 1 => by
    intro p hp
    by_cases hn : n < k0_t1_loop.trips
    · rw [pb_k0_t1_succ 𝒱 c bd i a3 h3 a4 h4 a5 h5 a6 h6 a7 h7 a8 h8 a9 h9 a10 h10 a11 h11 k0_h1 _ _ _ _ ⟨n, hn⟩] at hp
      rcases List.mem_append.mp hp with h | h
      · exact trip_piece 𝒱 c bd i a3 h3 a4 h4 a5 h5 a6 h6 a7 h7 a8 h8 a9 h9 a10 h10 a11 h11 k0_h1 x0 x1 x2 x3 ⟨n, hn⟩ p h
      · exact trips_pieces 𝒱 c bd i a3 h3 a4 h4 a5 h5 a6 h6 a7 h7 a8 h8 a9 h9 a10 h10 a11 h11 k0_h1 x0 x1 x2 x3 n p h
    · rw [pb_k0_t1.eq_2] at hp
      unfold pb_k0_t1Step at hp
      rw [dif_neg hn] at hp
      exact trips_pieces 𝒱 c bd i a3 h3 a4 h4 a5 h5 a6 h6 a7 h7 a8 h8 a9 h9 a10 h10 a11 h11 k0_h1 x0 x1 x2 x3 n p hp

set_option backward.proofsInPublic true in
set_option maxHeartbeats 1000000 in
/-- The body at the first point of a block of rows. -/
theorem run_first (c : Dev nD) (i : grid0.Coords) (a3 : Memref sig .tc .vmem S1x1024x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S2048x1024 .bf16) (h7 : a7.IsWhole) (a8 : Memref sig .tc .vmem S2048x128 .bf16) (h8 : a8.IsWhole) (a9 : Memref sig .tc .vmem S1x1024x1024 .bf16) (h9 : a9.IsWhole) (a10 : Memref sig .tc .vmem S1x1024x128 .f32) (h10 : a10.IsWhole) (a11 : Memref sig .tc .vmem S1024x2048 .bf16) (h11 : a11.IsWhole) (hc0 : k0_cond1 i = 1#1)
    (x0 : Vec F S1x1024x2048 .f32) (x1 : Vec F S1x2048 .f32) (x2 x3 : Vec F S1x1x2048 .f32) (x4 : Vec F S2048x1024 .bf16) (x5 : Vec F S2048x128 .bf16) (E : Set ℕ) (K : PUnit → sProp 𝕄I) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ (∃ d, owns (c : Thread nD τ) a10 fullShare d) ∗ (∃ d, owns (c : Thread nD τ) a11 fullShare d)
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare (k0_pay3 (rows x0 x1 x2 x3) x4) ∗ owns (c : Thread nD τ) a10 fullShare (k0_pay2 (rows x0 x1 x2 x3) x5) ∗ owns (c : Thread nD τ) a11 fullShare (rows x0 x1 x2 x3)) -∗ K ⟨⟩))
      ⊢ wp frame (wpE (defs₀ (F := F)) Variants.none c none) E (cc0_inproj i a3 h3 a4 h4 a5 h5 a6 h6 a7 h7 a8 h8 a9 h9 a10 h10 a11 h11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := h3.eq_unread hf0; obtain rfl := h4.eq_unread hf1; obtain rfl := h5.eq_unread hf2; obtain rfl := h6.eq_unread hf3; obtain rfl := h7.eq_unread hf4; obtain rfl := h8.eq_unread hf5
  have hrd0 : ∀ (𝒱 : Variants) (c : Dev nD) (bd : Option 𝒱.V) (i : grid0.Coords) (a3 : Memref sig .tc .vmem S1x1024x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S2048x1024 .bf16) (h7 : a7.IsWhole) (a8 : Memref sig .tc .vmem S2048x128 .bf16) (h8 : a8.IsWhole) (a9 : Memref sig .tc .vmem S1x1024x1024 .bf16) (h9 : a9.IsWhole) (a10 : Memref sig .tc .vmem S1x1024x128 .f32) (h10 : a10.IsWhole) (a11 : Memref sig .tc .vmem S1024x2048 .bf16) (h11 : a11.IsWhole) (k0_h1 : k0_cond1 i = 1#1) (X3 : BufTy.Contents (Elt F) a3.view.ty) (X4 : BufTy.Contents (Elt F) a4.view.ty) (X5 : BufTy.Contents (Elt F) a5.view.ty) (X6 : BufTy.Contents (Elt F) a6.view.ty) (g : BufTy.Contents (Elt F) a11.view.ty) (b : LoadRect S1024x2048), a11.view.readAt (Elt F) b (a11.view.writes (Elt F) g (pb_k0_t1 (F := F) 𝒱 c bd i a3 h3 a4 h4 a5 h5 a6 h6 a7 h7 a8 h8 a9 h9 a10 h10 a11 h11 k0_h1 X3 X4 X5 X6 (Scf.trips k0_t1_loop.lb k0_t1_loop.ub k0_t1_loop.st))) = a11.view.readCov (pb_k0_t1 (F := F) 𝒱 c bd i a3 h3 a4 h4 a5 h5 a6 h6 a7 h7 a8 h8 a9 h9 a10 h10 a11 h11 k0_h1 X3 X4 X5 X6 (Scf.trips k0_t1_loop.lb k0_t1_loop.ub k0_t1_loop.st)) b :=
    fun 𝒱 c bd i a3 h3 a4 h4 a5 h5 a6 h6 a7 h7 a8 h8 a9 h9 a10 h10 a11 h11 k0_h1 X3 X4 X5 X6 g b => View.readAt_writes_of_cover _ g _ b (fun j => View.cover_of_tiledL (pb_k0_t1 (F := F) 𝒱 c bd i a3 h3 a4 h4 a5 h5 a6 h6 a7 h7 a8 h8 a9 h9 a10 h10 a11 h11 k0_h1 X3 X4 X5 X6 (Scf.trips k0_t1_loop.lb k0_t1_loop.ub k0_t1_loop.st)) S128x2048.size (by sl_kernel_rfl) (b.idx j))
  have hcov : ∀ y : S1024x2048.Idx, ∃ pc ∈ pb_k0_t1 (F := F) Variants.none c none i a3 h3 a4 h4 a5 h5 a6 h6 a7 h7 a8 h8 a9 h9 a10 h10 a11 h11 hc0 (h3.unread x0) (h4.unread x1) (h5.unread x2) (h6.unread x3) (Scf.trips k0_t1_loop.lb k0_t1_loop.ub k0_t1_loop.st), y ∈ pc.1.set :=
    fun y => View.cover_of_tiledL (pb_k0_t1 (F := F) Variants.none c none i a3 h3 a4 h4 a5 h5 a6 h6 a7 h7 a8 h8 a9 h9 a10 h10 a11 h11 hc0 (h3.unread x0) (h4.unread x1) (h5.unread x2) (h6.unread x3) (Scf.trips k0_t1_loop.lb k0_t1_loop.ub k0_t1_loop.st)) S128x2048.size (by sl_kernel_rfl) y
  have hcan : View.canon (pb_k0_t1 (F := F) Variants.none c none i a3 h3 a4 h4 a5 h5 a6 h6 a7 h7 a8 h8 a9 h9 a10 h10 a11 h11 hc0 (h3.unread x0) (h4.unread x1) (h5.unread x2) (h6.unread x3) (Scf.trips k0_t1_loop.lb k0_t1_loop.ub k0_t1_loop.st)) = rows x0 x1 x2 x3 :=
    (View.read_writes_junk_eq_canon a11.view _).symm.trans (funext fun y =>
      View.read_writes_apply_of_pieces _ _ (rows x0 x1 x2 x3) _ (trips_pieces _ _ _ _ _ _ _ _ _ _ _ _ _ _ _ _ _ _ _ _ _ _ _ x0 x1 x2 x3 _) y (hcov y))
  sl_exec (disch := first | sl_exact hc0)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H6]
  · iexists _; isplitr
    swap; · iexact H6
    ipureintro
    sl_unfold_words
    refine (View.read_writes_of_cover _ _ a9.view a9.view.junk _ (fun y => View.cover_of_tiledL _ S1x1024x1024.size (by sl_kernel_rfl) y)).trans ?_
    rw [View.read_writes_junk_eq_canon, View.canon_unit_zero hz3]
    rw [View.readCov_eq_canon', hcan]
    simp only [View.readAt_eq_ld, Memref.IsWhole.read_unread, View.ld_unit_zero (S := S2048x1024) hz2, View.ld_unit_zero (S := S2048x128) hz2]
    exact congrArg (fun z => k0_pay3 z x4) (View.ld_unit_zero (S := S1024x2048) hz2 _ (rows x0 x1 x2 x3))
  isplitl [H7]
  · iexists _; isplitr
    swap; · iexact H7
    ipureintro
    sl_unfold_words
    refine (View.read_writes_of_cover _ _ a10.view a10.view.junk _ (fun y => View.cover_of_tiledL _ S1x1024x128.size (by sl_kernel_rfl) y)).trans ?_
    rw [View.read_writes_junk_eq_canon, View.canon_unit_zero hz3]
    rw [View.readCov_eq_canon', hcan]
    simp only [View.readAt_eq_ld, Memref.IsWhole.read_unread, View.ld_unit_zero (S := S2048x1024) hz2, View.ld_unit_zero (S := S2048x128) hz2]
    exact congrArg (fun z => k0_pay2 z x5) (View.ld_unit_zero (S := S1024x2048) hz2 _ (rows x0 x1 x2 x3))
  iexists _; isplitr
  swap; · iexact H8
  ipureintro
  funext y
  exact View.read_writes_apply_of_pieces _ _ (rows x0 x1 x2 x3) _ (trips_pieces _ _ _ _ _ _ _ _ _ _ _ _ _ _ _ _ _ _ _ _ _ _ _ x0 x1 x2 x3 _) y (hcov y)

set_option backward.proofsInPublic true in
set_option maxHeartbeats 1000000 in
/-- The body at a later point of a block of rows. -/
theorem run_later (c : Dev nD) (i : grid0.Coords) (a3 : Memref sig .tc .vmem S1x1024x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S2048x1024 .bf16) (h7 : a7.IsWhole) (a8 : Memref sig .tc .vmem S2048x128 .bf16) (h8 : a8.IsWhole) (a9 : Memref sig .tc .vmem S1x1024x1024 .bf16) (h9 : a9.IsWhole) (a10 : Memref sig .tc .vmem S1x1024x128 .f32) (h10 : a10.IsWhole) (a11 : Memref sig .tc .vmem S1024x2048 .bf16) (h11 : a11.IsWhole) (hc0 : ¬k0_cond1 i = 1#1)
    (x0 : Vec F S1x1024x2048 .f32) (x1 : Vec F S1x2048 .f32) (x2 x3 : Vec F S1x1x2048 .f32) (x4 : Vec F S2048x1024 .bf16) (x5 : Vec F S2048x128 .bf16) (x7 : Vec F S1x1024x128 .f32) (x8 : Vec F S1024x2048 .bf16) (E : Set ℕ) (K : PUnit → sProp 𝕄I) :
    iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ owns (c : Thread nD τ) a10 fullShare x7 ∗ owns (c : Thread nD τ) a11 fullShare x8
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ owns (c : Thread nD τ) a9 fullShare (k0_pay3 x8 x4) ∗ owns (c : Thread nD τ) a10 fullShare x7 ∗ owns (c : Thread nD τ) a11 fullShare x8) -∗ K ⟨⟩))
      ⊢ wp frame (wpE (defs₀ (F := F)) Variants.none c none) E (cc0_inproj i a3 h3 a4 h4 a5 h5 a6 h6 a7 h7 a8 h8 a9 h9 a10 h10 a11 h11) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := h3.eq_unread hf0; obtain rfl := h4.eq_unread hf1; obtain rfl := h5.eq_unread hf2; obtain rfl := h6.eq_unread hf3; obtain rfl := h7.eq_unread hf4; obtain rfl := h8.eq_unread hf5; obtain rfl := h10.eq_unread hf7; obtain rfl := h11.eq_unread hf8
  sl_exec (disch := first | sl_exact hc0)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H6]
  · iexists _; isplitr
    swap; · iexact H6
    ipureintro
    sl_unfold_words
    refine (View.read_writes_of_cover _ _ a9.view a9.view.junk _ (fun y => View.cover_of_tiledL _ S1x1024x1024.size (by sl_kernel_rfl) y)).trans ?_
    rw [View.read_writes_junk_eq_canon, View.canon_unit_zero hz3]
    simp only [View.readAt_eq_ld, Memref.IsWhole.read_unread, View.ld_unit_zero (S := S1024x2048) hz2, View.ld_unit_zero (S := S2048x1024) hz2]
  isplitl [H7]
  · iexists _; isplitr; · ipureintro; exact h10.read_unread _
    iexact H7
  iexists _; isplitr; · ipureintro; exact h11.read_unread _
  iexact H8

/-- The condition of the body's branch holds at the first point of each block of rows. -/
theorem cond_at : ∀ t : Fin cfg0.N, k0_cond1 (grid0.coords t) = 1#1 ↔ t.val % 14 = 0 :=
  (fun t => by
    have ht : t.val < 448 := Nat.lt_of_lt_of_eq t.isLt N_0
    have e0 : (grid0.coords t 0).val = t.val / 224 % 2 := Pipeline.Grid.coords_val t 0 (by decide) rfl
    have e1 : (grid0.coords t 1).val = t.val / 14 % 16 := Pipeline.Grid.coords_val t 1 (by decide) rfl
    have e2 : (grid0.coords t 2).val = t.val / 1 % 14 := Pipeline.Grid.coords_val t 2 (by decide) rfl
    simp only [k0_cond1, e0, e1, e2]
    word_cmp
   : ∀ t : Fin grid0.N, k0_cond1 (grid0.coords t) = 1#1 ↔ t.val % 14 = 0)

abbrev stg0 (t : Fin cfg0.N) : Memref sig .tc .vmem S1x1024x2048 .f32 := win0_0.stage (cfg0.slots t 0)
abbrev hst0 (t : Fin cfg0.N) : (stg0 t).IsWhole := hstage0_0 ((cfg0.slots t 0).cast nbuf0_0)
abbrev stg1 (t : Fin cfg0.N) : Memref sig .tc .vmem S1x2048 .f32 := win0_1.stage (cfg0.slots t 1)
abbrev hst1 (t : Fin cfg0.N) : (stg1 t).IsWhole := hstage0_1 ((cfg0.slots t 1).cast nbuf0_1)
abbrev stg2 (t : Fin cfg0.N) : Memref sig .tc .vmem S1x1x2048 .f32 := win0_2.stage (cfg0.slots t 2)
abbrev hst2 (t : Fin cfg0.N) : (stg2 t).IsWhole := hstage0_2 ((cfg0.slots t 2).cast nbuf0_2)
abbrev stg3 (t : Fin cfg0.N) : Memref sig .tc .vmem S1x1x2048 .f32 := win0_3.stage (cfg0.slots t 3)
abbrev hst3 (t : Fin cfg0.N) : (stg3 t).IsWhole := hstage0_3 ((cfg0.slots t 3).cast nbuf0_3)
abbrev stg4 (t : Fin cfg0.N) : Memref sig .tc .vmem S2048x1024 .bf16 := win0_4.stage (cfg0.slots t 4)
abbrev hst4 (t : Fin cfg0.N) : (stg4 t).IsWhole := hstage0_4 ((cfg0.slots t 4).cast nbuf0_4)
abbrev stg5 (t : Fin cfg0.N) : Memref sig .tc .vmem S2048x128 .bf16 := win0_5.stage (cfg0.slots t 5)
abbrev hst5 (t : Fin cfg0.N) : (stg5 t).IsWhole := hstage0_5 ((cfg0.slots t 5).cast nbuf0_5)
abbrev stg6 (t : Fin cfg0.N) : Memref sig .tc .vmem S1x1024x1024 .bf16 := win0_6.stage (cfg0.slots t 6)
abbrev hst6 (t : Fin cfg0.N) : (stg6 t).IsWhole := hstage0_6 ((cfg0.slots t 6).cast nbuf0_6)
abbrev stg7 (t : Fin cfg0.N) : Memref sig .tc .vmem S1x1024x128 .f32 := win0_7.stage (cfg0.slots t 7)
abbrev hst7 (t : Fin cfg0.N) : (stg7 t).IsWhole := hstage0_7 ((cfg0.slots t 7).cast nbuf0_7)
abbrev scr : Memref sig .tc .vmem S1024x2048 .bf16 := Memref.whole cc0_scratch0

theorem start_eq (c : Dev nD) :
    (Pipeline.ΦA spec0 c : sProp 𝕄I)
      = iprop(iprop((∃ d, owns (c : Thread nD τ) scr fullShare d)) ∗ (∃ r, prngReg c r)) := by
  unfold Pipeline.ΦA; rw [scopedRest0_eq]; simp only [scr, owns_whole]; try rfl

variable (m : (ℓ : Loc nD τ sig) → Buf (Elt F) ℓ) (ρ : Dev nD → PrngReg)

/-- The first point of the block of rows that point `t` is in. -/
def fst (t : Fin cfg0.N) : Fin cfg0.N := ⟨14 * (t.val / 14), lt_of_le_of_lt (by omega) t.isLt⟩

theorem fst_of (t : Fin cfg0.N) (h : t.val % 14 = 0) : fst t = t := Fin.ext (by show 14 * (t.val / 14) = t.val; omega)
theorem fst_pred (t : Fin cfg0.N) (h : ¬t.val % 14 = 0) (hp : t.val - 1 < cfg0.N) : fst ⟨t.val - 1, hp⟩ = fst t :=
  Fin.ext (by show 14 * ((t.val - 1) / 14) = 14 * (t.val / 14); omega)

/-- The normalized rows of the block of rows that point `t` is in. -/
def nrm (c : Dev nD) (t : Fin cfg0.N) : Vec F S1024x2048 .bf16 :=
  rows (iblk m c 0 (fst t)) (iblk m c 1 (fst t)) (iblk m c 2 (fst t)) (iblk m c 3 (fst t))
/-- The block of the main product that point `t` leaves. -/
def mainOut (c : Dev nD) (t : Fin cfg0.N) : Vec F S1x1024x1024 .bf16 := k0_pay3 (nrm m c t) (iblk m c 4 t)
/-- The block of the small product, from the first point of the block of rows. -/
def smallOut (c : Dev nD) (t : Fin cfg0.N) : Vec F S1x1024x128 .f32 := k0_pay2 (nrm m c t) (iblk m c 5 (fst t))

theorem nrm_pred (c : Dev nD) (t : Fin cfg0.N) (h : ¬t.val % 14 = 0) (hp : t.val - 1 < cfg0.N) :
    nrm m c ⟨t.val - 1, hp⟩ = nrm m c t := by unfold nrm; rw [fst_pred t h hp]
theorem smallOut_pred (c : Dev nD) (t : Fin cfg0.N) (h : ¬t.val % 14 = 0) (hp : t.val - 1 < cfg0.N) :
    smallOut m c ⟨t.val - 1, hp⟩ = smallOut m c t := by unfold smallOut; rw [nrm_pred m c t h hp, fst_pred t h hp]

/-- What the carried scratch holds before point `n`. -/
def keep (c : Dev nD) : (n : ℕ) → n ≤ cfg0.N → sProp 𝕄I
  | 0, _ => Pipeline.ΦA spec0 c
  | n + 1, hn => iprop(iprop(owns (c : Thread nD τ) scr fullShare (nrm m c ⟨n, hn⟩)) ∗ (∃ r, prngReg c r))

theorem keep_zero (c : Dev nD) (n : ℕ) (h : n ≤ cfg0.N) (hz : n = 0) : keep m c n h = Pipeline.ΦA spec0 c := by
  subst hz; rfl
theorem keep_succ (c : Dev nD) (n : ℕ) (hn : n < cfg0.N) :
    keep m c (n + 1) hn = iprop(iprop(owns (c : Thread nD τ) scr fullShare (nrm m c ⟨n, hn⟩)) ∗ (∃ r, prngReg c r)) := rfl
theorem keep_pos (c : Dev nD) (n : ℕ) (h : n ≤ cfg0.N) (hz : n ≠ 0) :
    keep m c n h = iprop(iprop(owns (c : Thread nD τ) scr fullShare (nrm m c ⟨n - 1, by omega⟩)) ∗ (∃ r, prngReg c r)) := by
  cases n with
  | zero => exact absurd rfl hz
  | succ n => rfl

/-- What each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => mainOut m c t
    | ⟨7, _⟩ => smallOut m c t
  Φ t := keep m c t.val (Nat.le_of_lt_succ t.isLt)
  q _ := fullShare
  owed _ := 0

theorem A_eq (c : Dev nD) (w : Fin cfg0.W) : (dats m 0 c).A w = V m c (Pipeline.arrRef spec0 w) := by
  dsimp only [dats]
theorem keep_castSucc (c : Dev nD) (t : Fin cfg0.N) :
    (dats m 0 c).Φ t.castSucc = keep m c t.val (Nat.le_of_lt t.isLt) := by
  dsimp only [dats]; exact Pipeline.Dat.Φ_castSucc (keep m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = mainOut m c t := by dsimp only [dats]
theorem after7 (c : Dev nD) (t : Fin cfg0.N) : (dats m 0 c).after 7 t = smallOut m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem idle7 (t : Fin cfg0.N) : cfg0.idle 7 (cfg0.grid.coords t) = true ↔ ¬t.val % 14 = 0 := by
  rw [← cond_at t]
  show (!(k0_cond1 (grid0.coords t) == 1#1)) = true ↔ _
  simp
theorem fresh7 : ∀ (n : ℕ) (_ : n < cfg0.N) (_ : ¬n % 14 = 0), cfg0.fresh 7 n = false
  | 0, _, h => absurd rfl h
  | n + 1, hn, h => by
    have hN : n + 1 < 448 := lt_of_lt_of_eq hn (show cfg0.N = 448 from N_0)
    have hl : n < cfg0.N := Nat.lt_of_succ_lt hn
    have hf : (cfg0.win 7).flush ⟨n, hl⟩ = false :=
      Bool.eq_false_iff.mpr fun e => by have := (flush0_7 _).mp e; dsimp only at this; omega
    rw [Cfg.fresh_succ cfg0 7 n hl, hf, Bool.false_or]
    by_cases h0 : n % 14 = 0
    · have hi : cfg0.idle 7 (cfg0.grid.coords ⟨n, hl⟩) = false := Bool.eq_false_iff.mpr fun e => (idle7 _).mp e h0
      rw [hi, Bool.false_and]
    · rw [fresh7 n hl h0, Bool.and_false]
theorem before7 (c : Dev nD) (t : Fin cfg0.N) (h0 : ¬t.val % 14 = 0) (d) :
    (dats m 0 c).before 7 t d = smallOut m c t := by
  have hz : t.val ≠ 0 := fun h => h0 (by rw [h])
  refine ((dats m 0 c).before_out_traj 7 rfl (fun _ _ => rfl) (fun t _ hi _ => ?_) t.val t rfl d).trans ?_
  · rw [after7, after7]
    exact (smallOut_pred m c t ((idle7 t).mp hi) _).symm
  · rw [fresh7 t.val t.isLt h0, after7]
    exact smallOut_pred m c t h0 _
theorem leaves7 (c : Dev nD) (t : Fin cfg0.N) :
    owns (c : Thread nD τ) (stg7 t) fullShare (smallOut m c t) ⊢ (dats m 0 c).leavesExact 7 t := by
  by_cases h0 : t.val % 14 = 0
  · have hi : cfg0.idle 7 (cfg0.grid.coords t) = false := Bool.eq_false_iff.mpr fun e => (idle7 _).mp e h0
    unfold Dat.leavesExact
    rw [hi, after7]
    try exact Idealize.SL.BI.Entails.refl _
  · have hi := (idle7 t).mpr h0
    unfold Dat.leavesExact
    rw [hi]
    cases (cfg0.win 7).flush t
    · dsimp only
      iintro H
      iexists (smallOut m c t)
      rw [before7 m c t h0]
      iexact H
    · dsimp only
      rw [after7]
      try exact Idealize.SL.BI.Entails.refl _

def bodyPre (c : Dev nD) (t : Fin cfg0.N) : sProp 𝕄I :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))
def bodyPost (c : Dev nD) (t : Fin cfg0.N) : sProp 𝕄I :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ (dats m 0 c).leavesExact 7 t)

set_option maxHeartbeats 4000000 in
/-- The body at any point takes what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.succ = keep m c (t.val + 1) t.isLt from rfl, keep_succ]
  have hN : t.val < 448 := lt_of_lt_of_eq t.isLt (show cfg0.N = 448 from N_0)
  by_cases h0 : t.val % 14 = 0
  · have hs : (dats m 0 c).Φ t.castSucc ⊢ Pipeline.ΦA spec0 c := by
      rw [keep_castSucc m c t]
      by_cases hz : t.val = 0
      · rw [keep_zero m c _ _ hz]
      · rw [keep_pos m c _ _ hz, start_eq]
        iintro ⟨HS, Hg⟩
        isplitl [HS]
        · iexists _; iexact HS
        iexact Hg
    refine (Idealize.SL.BI.BIClass.sep_mono hs .rfl).trans ?_
    rw [start_eq]
    have en : nrm m c t = rows (iblk m c 0 t) (iblk m c 1 t) (iblk m c 2 t) (iblk m c 3 t) := by unfold nrm; rw [fst_of t h0]
    have es : smallOut m c t = k0_pay2 (rows (iblk m c 0 t) (iblk m c 1 t) (iblk m c 2 t) (iblk m c 3 t)) (iblk m c 5 t) := by
      unfold smallOut; rw [en, fst_of t h0]
    unfold mainOut
    rw [en]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ ((cond_at t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7 m c t); rw [es]; iexact H7
  · have hz : t.val ≠ 0 := fun h => h0 (by rw [h])
    simp only [before7 m c t h0]
    rw [keep_castSucc m c t, keep_pos m c _ _ hz, nrm_pred m c t h0]
    unfold mainOut
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (fun h => h0 ((cond_at t).mp h)) (iblk m c 0 t) (iblk m c 1 t) (iblk m c 2 t) (iblk m c 3 t) (iblk m c 4 t) (iblk m c 5 t) (smallOut m c t) (nrm m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves7 m c t); iexact H7

theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = keep m c 0 (Nat.zero_le _) from rfl, keep_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = keep m c (Fin.last cfg0.N).val (Nat.le_of_lt_succ (Fin.last cfg0.N).isLt) from rfl,
    keep_pos m c _ _ (by rw [Fin.val_last]; have : cfg0.N = 448 := N_0; omega), start_eq]
  iintro ⟨HS, Hg⟩
  isplitl [HS]
  · iexists _; iexact HS
  iexact Hg

set_option backward.isDefEq.respectTransparency.types false in
/-- Every run ends with each array as the points leave it, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Proof.In
end
-- ==== Proof.InValue.lean ====
/-
  The input projection over the extended reals: each block of the kernel's two results, and the reference's, at an index.

  Grid point `t` is row block `(t / 14) % 16` of batch row `t / 224` with block `t % 14` of the main product's columns.
  The columns of the weights are permuted before the call: `colM` names the column that a column of the main product
  reads, and `wS` is an element of the small product's weights, its last sixteen columns zero.
-/
module

public import proofs.«01_k».proof.Proof.InRun
public import proofs.«01_k».proof.Proof.FfnBlock
public import proofs.«01_k».proof.Proof.Gen.InRefIdeal.Read
public import Idealize.ShloMosaic.Lib.Pointwise
public import Idealize.ShloMosaic.Lib.StableHlo.ReadAt
public import Idealize.ShloMosaic.Lib.Pipeline.Value

@[expose] public section
set_option maxRecDepth 16384
noncomputable section
namespace Cert.Proof.In

open Cert.InIdeal Cert.InIdeal.Gen Cert.InRefIdeal.Read
open Idealize.ShloMosaic Idealize.ShloMosaic.TcCoe Idealize.ShloMosaic.Tactic Idealize.ShloMosaic.Pointwise Idealize.SL.Sem
open Cert.Proof.Ffn (lit normRow)

theorem pay1_at (v22 : Vec Ideal S1x128x2048 .f32) (v24 : Vec Ideal S1x2048 .f32) (v26 v28 : Vec Ideal S1x1x2048 .f32)
    (r : Fin 128) (d : Fin 2048) :
    k0_pay1 (F := Ideal) v22 v24 v26 v28 (ix2 r d) = normRow (fun j => v22 (ix3 0 r j)) (fun j => v24 (ix2 0 j))
      (fun j => v26 (ix3 0 0 j)) (fun j => v28 (ix3 0 0 j)) d := by
  pointwise [k0_pay1, normRow]
theorem pay2_at (v12 : Vec Ideal S1024x2048 .bf16) (v13 : Vec Ideal S2048x128 .bf16) (r : Fin 1024) (d : Fin 128) :
    k0_pay2 (F := Ideal) v12 v13 (ix3 0 r d) = ∑ k : Fin 2048, v12 (ix2 r k) * v13 (ix2 k d) := by
  pointwise [k0_pay2]
theorem pay3_at (v3 : Vec Ideal S1024x2048 .bf16) (v4 : Vec Ideal S2048x1024 .bf16) (r : Fin 1024) (d : Fin 1024) :
    k0_pay3 (F := Ideal) v3 v4 (ix3 0 r d) = ∑ k : Fin 2048, v3 (ix2 r k) * v4 (ix2 k d) := by
  pointwise [k0_pay3]

/-- A normalized and modulated row of the input. -/
def hrow (x : Vec Ideal S2x16384x2048 .f32) (nw : Vec Ideal S2048 .f32) (sh sc : Vec Ideal S2x2048 .f32)
    (b : Fin 2) (s : Fin 16384) (k : Fin 2048) : EReal :=
  normRow (fun j => x (ix3 b s j)) (fun j => nw (ix1 j)) (fun j => sh (ix2 b j)) (fun j => sc (ix2 b j)) k

/-- The column of the weights that a column of the main product reads. -/
def colM (n : Fin 14336) : Fin 14448 :=
  ⟨if n.val < 6144 then n.val else if n.val < 10240 then n.val + 32 else n.val + 112, by
    have := n.isLt; split_ifs <;> omega⟩

/-- The weights of the small product: eighty columns, thirty-two columns, and sixteen zero columns. -/
def wS (w : Vec Ideal S2048x14448 .f32) (k : Fin 2048) (n : Fin 128) : EReal :=
  if h : n.val < 80 then w (ix2 k ⟨10272 + n.val, by omega⟩)
  else if h' : n.val < 112 then w (ix2 k ⟨6064 + n.val, by omega⟩) else 0

variable (m : (ℓ : Loc nD τ sig) → Buf (Elt Ideal) ℓ) (ρ : Dev nD → PrngReg)

abbrev a0 (c : Dev nD) : Vec Ideal S2x16384x2048 .f32 := m ((c : Thread nD τ).loc main_arg0)
abbrev a1 (c : Dev nD) : Vec Ideal S2048 .f32 := m ((c : Thread nD τ).loc main_arg1)
abbrev a2 (c : Dev nD) : Vec Ideal S2x2048 .f32 := m ((c : Thread nD τ).loc main_arg2)
abbrev a3 (c : Dev nD) : Vec Ideal S2x2048 .f32 := m ((c : Thread nD τ).loc main_arg3)
abbrev a4 (c : Dev nD) : Vec Ideal S2048x14448 .f32 := m ((c : Thread nD τ).loc main_arg4)

/-- A value chosen by a condition is `x` when each of the two is. -/
theorem dite_cases {α : Type} {p : Prop} [Decidable p] {f : p → α} {g : ¬p → α} {x : α} (hf : ∀ h, f h = x) (hg : ∀ h, g h = x) :
    dite p f g = x := by
  by_cases h : p
  · rw [dif_pos h]; exact hf h
  · rw [dif_neg h]; exact hg h

theorem v15_at (c : Dev nD) (d : Fin 2048) : (V m c main_v15 : Vec Ideal S1x2048 .f32) (ix2 0 d) = a1 m c (ix1 d) := by
  unfold V; after_reads_at
theorem v16_at (c : Dev nD) (b : Fin 2) (d : Fin 2048) : (V m c main_v16 : Vec Ideal S2x1x2048 .f32) (ix3 b 0 d) = a2 m c (ix2 b d) := by
  unfold V; after_reads_at
theorem v17_at (c : Dev nD) (b : Fin 2) (d : Fin 2048) : (V m c main_v17 : Vec Ideal S2x1x2048 .f32) (ix3 b 0 d) = a3 m c (ix2 b d) := by
  unfold V; after_reads_at

theorem u0_at (c : Dev nD) (k : Fin 2048) (x : Fin 2048) :
    (StableHlo.upto hostOps0 (fun b => m (c, b)) 10 (Proc.tc.devRef main_v0) : Vec Ideal S2048x2048 .f32) (ix2 k x)
      = a4 m c (ix2 k ⟨0 + x.val, by have := x.isLt; omega⟩) := by
  after_reads_at
theorem u1_at (c : Dev nD) (k : Fin 2048) (x : Fin 4096) :
    (StableHlo.upto hostOps0 (fun b => m (c, b)) 10 (Proc.tc.devRef main_v1) : Vec Ideal S2048x4096 .f32) (ix2 k x)
      = a4 m c (ix2 k ⟨2048 + x.val, by have := x.isLt; omega⟩) := by
  after_reads_at
theorem u3_at (c : Dev nD) (k : Fin 2048) (x : Fin 2048) :
    (StableHlo.upto hostOps0 (fun b => m (c, b)) 10 (Proc.tc.devRef main_v3) : Vec Ideal S2048x2048 .f32) (ix2 k x)
      = a4 m c (ix2 k ⟨6176 + x.val, by have := x.isLt; omega⟩) := by
  after_reads_at
theorem u4_at (c : Dev nD) (k : Fin 2048) (x : Fin 512) :
    (StableHlo.upto hostOps0 (fun b => m (c, b)) 10 (Proc.tc.devRef main_v4) : Vec Ideal S2048x512 .f32) (ix2 k x)
      = a4 m c (ix2 k ⟨8224 + x.val, by have := x.isLt; omega⟩) := by
  after_reads_at
theorem u5_at (c : Dev nD) (k : Fin 2048) (x : Fin 512) :
    (StableHlo.upto hostOps0 (fun b => m (c, b)) 10 (Proc.tc.devRef main_v5) : Vec Ideal S2048x512 .f32) (ix2 k x)
      = a4 m c (ix2 k ⟨8736 + x.val, by have := x.isLt; omega⟩) := by
  after_reads_at
theorem u6_at (c : Dev nD) (k : Fin 2048) (x : Fin 1024) :
    (StableHlo.upto hostOps0 (fun b => m (c, b)) 10 (Proc.tc.devRef main_v6) : Vec Ideal S2048x1024 .f32) (ix2 k x)
      = a4 m c (ix2 k ⟨9248 + x.val, by have := x.isLt; omega⟩) := by
  after_reads_at
theorem u9_at (c : Dev nD) (k : Fin 2048) (x : Fin 4096) :
    (StableHlo.upto hostOps0 (fun b => m (c, b)) 10 (Proc.tc.devRef main_v9) : Vec Ideal S2048x4096 .f32) (ix2 k x)
      = a4 m c (ix2 k ⟨10352 + x.val, by have := x.isLt; omega⟩) := by
  after_reads_at
theorem u7_at (c : Dev nD) (k : Fin 2048) (x : Fin 64) :
    (StableHlo.upto hostOps0 (fun b => m (c, b)) 14 (Proc.tc.devRef main_v7) : Vec Ideal S2048x64 .f32) (ix2 k x)
      = a4 m c (ix2 k ⟨10272 + x.val, by have := x.isLt; omega⟩) := by
  after_reads_at
theorem u8_at (c : Dev nD) (k : Fin 2048) (x : Fin 16) :
    (StableHlo.upto hostOps0 (fun b => m (c, b)) 14 (Proc.tc.devRef main_v8) : Vec Ideal S2048x16 .f32) (ix2 k x)
      = a4 m c (ix2 k ⟨10336 + x.val, by have := x.isLt; omega⟩) := by
  after_reads_at
theorem u2_at (c : Dev nD) (k : Fin 2048) (x : Fin 32) :
    (StableHlo.upto hostOps0 (fun b => m (c, b)) 14 (Proc.tc.devRef main_v2) : Vec Ideal S2048x32 .f32) (ix2 k x)
      = a4 m c (ix2 k ⟨6144 + x.val, by have := x.isLt; omega⟩) := by
  after_reads_at
theorem u12_at (c : Dev nD) (k : Fin 2048) (x : Fin 16) :
    (StableHlo.upto hostOps0 (fun b => m (c, b)) 14 (Proc.tc.devRef main_v12) : Vec Ideal S2048x16 .f32) (ix2 k x)
      = (0 : EReal) := by
  after_reads_at

/-- The main product's weights, their columns permuted. -/
theorem v11_at (c : Dev nD) (k : Fin 2048) (n : Fin 14336) :
    (V m c main_v11 : Vec Ideal S2048x14336 .bf16) (ix2 k n) = a4 m c (ix2 k (colM n)) := by
  have hn := n.isLt
  unfold V; after_reads_at
  refine dite_cases (fun h => ?_) (fun h => ?_)
  · refine (u0_at m c k _).trans (congrArg (fun q => a4 m c (ix2 k q)) (Fin.ext ?_))
    dsimp only [colM]; split_ifs <;> omega
  refine dite_cases (fun h => ?_) (fun h => ?_)
  · refine (u1_at m c k _).trans (congrArg (fun q => a4 m c (ix2 k q)) (Fin.ext ?_))
    dsimp only [colM]; split_ifs <;> omega
  refine dite_cases (fun h => ?_) (fun h => ?_)
  · refine (u3_at m c k _).trans (congrArg (fun q => a4 m c (ix2 k q)) (Fin.ext ?_))
    dsimp only [colM]; split_ifs <;> omega
  refine dite_cases (fun h => ?_) (fun h => ?_)
  · refine (u4_at m c k _).trans (congrArg (fun q => a4 m c (ix2 k q)) (Fin.ext ?_))
    dsimp only [colM]; split_ifs <;> omega
  refine dite_cases (fun h => ?_) (fun h => ?_)
  · refine (u5_at m c k _).trans (congrArg (fun q => a4 m c (ix2 k q)) (Fin.ext ?_))
    dsimp only [colM]; split_ifs <;> omega
  refine dite_cases (fun h => ?_) (fun h => ?_)
  · refine (u6_at m c k _).trans (congrArg (fun q => a4 m c (ix2 k q)) (Fin.ext ?_))
    dsimp only [colM]; split_ifs <;> omega
  refine (u9_at m c k _).trans (congrArg (fun q => a4 m c (ix2 k q)) (Fin.ext ?_))
  dsimp only [colM]; split_ifs <;> omega

/-- The small product's weights. -/
theorem v14_at (c : Dev nD) (k : Fin 2048) (n : Fin 128) :
    (V m c main_v14 : Vec Ideal S2048x128 .bf16) (ix2 k n) = wS (a4 m c) k n := by
  have hn := n.isLt
  unfold V; after_reads_at
  refine dite_cases (fun h => ?_) (fun h => ?_)
  · rw [wS, dif_pos (by omega)]
    exact (u7_at m c k _).trans (congrArg (fun q => a4 m c (ix2 k q)) (Fin.ext (by dsimp only; try omega)))
  refine dite_cases (fun h => ?_) (fun h => ?_)
  · rw [wS, dif_pos (by omega)]
    exact (u8_at m c k _).trans (congrArg (fun q => a4 m c (ix2 k q)) (Fin.ext (by dsimp only; try omega)))
  refine dite_cases (fun h => ?_) (fun h => ?_)
  · rw [wS, dif_neg (by omega), dif_pos (by omega)]
    exact (u2_at m c k _).trans (congrArg (fun q => a4 m c (ix2 k q)) (Fin.ext (by dsimp only; try omega)))
  rw [wS, dif_neg (by omega), dif_neg (by omega)]
  exact u12_at m c k _

theorem index0 : ∀ t : Fin cfg0.N, win0_0.index t = ![t.val / 224, t.val / 14 % 16, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 224, 0, 0] := (by decide +kernel : ∀ t : Fin grid0.N, _)
theorem index3 : ∀ t : Fin cfg0.N, win0_3.index t = ![t.val / 224, 0, 0] := (by decide +kernel : ∀ t : Fin grid0.N, _)
theorem index4 : ∀ t : Fin cfg0.N, win0_4.index t = ![0, t.val % 14] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 224, t.val / 14 % 16, t.val % 14] := (by decide +kernel : ∀ t : Fin grid0.N, _)
theorem index7 : ∀ t : Fin cfg0.N, win0_7.index t = ![t.val / 224, t.val / 14 % 16, 0] := (by decide +kernel : ∀ t : Fin grid0.N, _)

/-- The batch row, the row and the column that a point's block indices name. -/
def pb (t : Fin cfg0.N) : Fin 2 := ⟨t.val / 224, by have := t.isLt; have : cfg0.N = 448 := N_0; omega⟩
def prow (t : Fin cfg0.N) (r : Fin 1024) : Fin 16384 := ⟨1024 * (t.val / 14 % 16) + r.val, by have := r.isLt; omega⟩
def pcol (t : Fin cfg0.N) (n : Fin 1024) : Fin 14336 := ⟨1024 * (t.val % 14) + n.val, by have := n.isLt; omega⟩
theorem pb_fst (t : Fin cfg0.N) : pb (fst t) = pb t := Fin.ext (show 14 * (t.val / 14) / 224 = t.val / 224 by omega)
theorem prow_fst (t : Fin cfg0.N) (r : Fin 1024) : prow (fst t) r = prow t r :=
  Fin.ext (show 1024 * (14 * (t.val / 14) / 14 % 16) + r.val = 1024 * (t.val / 14 % 16) + r.val by omega)

section
variable (c : Dev nD) (t : Fin cfg0.N)

theorem b0_at (r : Fin 1024) (d : Fin 2048) : (iblk m c 0 t : Vec Ideal S1x1024x2048 .f32) (ix3 0 r d) = a0 m c (ix3 (pb t) (prow t r) d) := by
  have e : ∀ a, win0_0.index t a = (![_, _, _] : Fin 3 → Nat) a := congrFun (index0 t)
  refine Eq.trans ?_ (congrFun (V_main_arg0 m c) (ix3 (pb t) (prow t r) d))
  refine congrArg (V m c main_arg0 : Vec Ideal S2x16384x2048 .f32) (funext fun a => Fin.ext ?_)
  match a with
  | ⟨0, _⟩ => show win0_0.index t 0 * 1 + 1 * 0 = (pb t).val; rw [e]; simp [pb, prow, pcol]; try omega
  | ⟨1, _⟩ => show win0_0.index t 1 * 1024 + 1 * r.val = (prow t r).val; rw [e]; simp [pb, prow, pcol]; try omega
  | ⟨2, _⟩ => show win0_0.index t 2 * 2048 + 1 * d.val = d.val; rw [e]; simp [pb, prow, pcol]; try omega
theorem b1_at (d : Fin 2048) : (iblk m c 1 t : Vec Ideal S1x2048 .f32) (ix2 0 d) = a1 m c (ix1 d) := by
  have e : ∀ a, win0_1.index t a = (![_, _] : Fin 2 → Nat) a := congrFun (index1 t)
  refine Eq.trans ?_ (v15_at m c d)
  refine congrArg (V m c main_v15 : Vec Ideal S1x2048 .f32) (funext fun a => Fin.ext ?_)
  match a with
  | ⟨0, _⟩ => show win0_1.index t 0 * 1 + 1 * 0 = 0; rw [e]; simp [pb, prow, pcol]; try omega
  | ⟨1, _⟩ => show win0_1.index t 1 * 2048 + 1 * d.val = d.val; rw [e]; simp [pb, prow, pcol]; try omega
theorem b2_at (d : Fin 2048) : (iblk m c 2 t : Vec Ideal S1x1x2048 .f32) (ix3 0 0 d) = a2 m c (ix2 (pb t) d) := by
  have e : ∀ a, win0_2.index t a = (![_, _, _] : Fin 3 → Nat) a := congrFun (index2 t)
  refine Eq.trans ?_ (v16_at m c (pb t) d)
  refine congrArg (V m c main_v16 : Vec Ideal S2x1x2048 .f32) (funext fun a => Fin.ext ?_)
  match a with
  | ⟨0, _⟩ => show win0_2.index t 0 * 1 + 1 * 0 = (pb t).val; rw [e]; simp [pb, prow, pcol]; try omega
  | ⟨1, _⟩ => show win0_2.index t 1 * 1 + 1 * 0 = 0; rw [e]; simp [pb, prow, pcol]; try omega
  | ⟨2, _⟩ => show win0_2.index t 2 * 2048 + 1 * d.val = d.val; rw [e]; simp [pb, prow, pcol]; try omega
theorem b3_at (d : Fin 2048) : (iblk m c 3 t : Vec Ideal S1x1x2048 .f32) (ix3 0 0 d) = a3 m c (ix2 (pb t) d) := by
  have e : ∀ a, win0_3.index t a = (![_, _, _] : Fin 3 → Nat) a := congrFun (index3 t)
  refine Eq.trans ?_ (v17_at m c (pb t) d)
  refine congrArg (V m c main_v17 : Vec Ideal S2x1x2048 .f32) (funext fun a => Fin.ext ?_)
  match a with
  | ⟨0, _⟩ => show win0_3.index t 0 * 1 + 1 * 0 = (pb t).val; rw [e]; simp [pb, prow, pcol]; try omega
  | ⟨1, _⟩ => show win0_3.index t 1 * 1 + 1 * 0 = 0; rw [e]; simp [pb, prow, pcol]; try omega
  | ⟨2, _⟩ => show win0_3.index t 2 * 2048 + 1 * d.val = d.val; rw [e]; simp [pb, prow, pcol]; try omega
theorem b4_at (k : Fin 2048) (n : Fin 1024) : (iblk m c 4 t : Vec Ideal S2048x1024 .bf16) (ix2 k n) = a4 m c (ix2 k (colM (pcol t n))) := by
  have e : ∀ a, win0_4.index t a = (![_, _] : Fin 2 → Nat) a := congrFun (index4 t)
  refine Eq.trans ?_ (v11_at m c k (pcol t n))
  refine congrArg (V m c main_v11 : Vec Ideal S2048x14336 .bf16) (funext fun a => Fin.ext ?_)
  match a with
  | ⟨0, _⟩ => show win0_4.index t 0 * 2048 + 1 * k.val = k.val; rw [e]; simp [pb, prow, pcol]; try omega
  | ⟨1, _⟩ => show win0_4.index t 1 * 1024 + 1 * n.val = (pcol t n).val; rw [e]; simp [pb, prow, pcol]; try omega
theorem b5_at (k : Fin 2048) (n : Fin 128) : (iblk m c 5 t : Vec Ideal S2048x128 .bf16) (ix2 k n) = wS (a4 m c) k n := by
  have e : ∀ a, win0_5.index t a = (![_, _] : Fin 2 → Nat) a := congrFun (index5 t)
  refine Eq.trans ?_ (v14_at m c k n)
  refine congrArg (V m c main_v14 : Vec Ideal S2048x128 .bf16) (funext fun a => Fin.ext ?_)
  match a with
  | ⟨0, _⟩ => show win0_5.index t 0 * 2048 + 1 * k.val = k.val; rw [e]; simp [pb, prow, pcol]; try omega
  | ⟨1, _⟩ => show win0_5.index t 1 * 128 + 1 * n.val = n.val; rw [e]; simp [pb, prow, pcol]; try omega

theorem nrm_at (r : Fin 1024) (k : Fin 2048) : nrm m c t (ix2 r k) = hrow (a0 m c) (a1 m c) (a2 m c) (a3 m c) (pb t) (prow t r) k := by
  have hr := r.isLt
  refine (pay1_at _ _ _ _ _ _).trans ?_
  have e (j : Fin 2048) (hq) (hm) : sub (iblk m c 0 (fst t) : Vec Ideal S1x1024x2048 .f32) ⟨r.val / 128, hq⟩ (ix3 0 ⟨r.val % 128, hm⟩ j)
      = (iblk m c 0 (fst t) : Vec Ideal S1x1024x2048 .f32) (ix3 0 r j) := by
    refine congrArg (iblk m c 0 (fst t) : Vec Ideal S1x1024x2048 .f32) (congrArg (fun q => ix3 0 q j) (Fin.ext ?_))
    show 128 * (r.val / 128) + r.val % 128 = r.val
    omega
  have h0 : (fun j => sub (iblk m c 0 (fst t) : Vec Ideal S1x1024x2048 .f32) ⟨r.val / 128, by omega⟩ (ix3 0 ⟨r.val % 128, by omega⟩ j))
      = fun j => a0 m c (ix3 (pb t) (prow t r) j) := funext fun j => (e j _ _).trans (by rw [b0_at, pb_fst, prow_fst])
  have h1 : (fun j => (iblk m c 1 (fst t) : Vec Ideal S1x2048 .f32) (ix2 0 j)) = fun j => a1 m c (ix1 j) :=
    funext fun j => b1_at m c _ j
  have h2 : (fun j => (iblk m c 2 (fst t) : Vec Ideal S1x1x2048 .f32) (ix3 0 0 j)) = fun j => a2 m c (ix2 (pb t) j) :=
    funext fun j => by rw [b2_at, pb_fst]
  have h3 : (fun j => (iblk m c 3 (fst t) : Vec Ideal S1x1x2048 .f32) (ix3 0 0 j)) = fun j => a3 m c (ix2 (pb t) j) :=
    funext fun j => by rw [b3_at, pb_fst]
  exact congrFun (congr (congr (congr (congrArg normRow h0) h1) h2) h3) k

theorem mainOut_at (r n : Fin 1024) : mainOut m c t (ix3 0 r n)
    = ∑ k : Fin 2048, hrow (a0 m c) (a1 m c) (a2 m c) (a3 m c) (pb t) (prow t r) k * a4 m c (ix2 k (colM (pcol t n))) := by
  refine (pay3_at _ _ r n).trans ?_
  simp only [nrm_at, b4_at]

theorem smallOut_at (r : Fin 1024) (n : Fin 128) : smallOut m c t (ix3 0 r n)
    = ∑ k : Fin 2048, hrow (a0 m c) (a1 m c) (a2 m c) (a3 m c) (pb t) (prow t r) k * wS (a4 m c) k n := by
  refine (pay2_at _ _ r n).trans ?_
  simp only [nrm_at, b5_at]
end

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (by
    have h' : win0_6.index t = win0_6.index t' := h
    rw [index6, index6] at h'
    have h0 : t.val / 224 = t'.val / 224 := congrFun h' 0
    have h1 : t.val / 14 % 16 = t'.val / 14 % 16 := congrFun h' 1
    have h2 : t.val % 14 = t'.val % 14 := congrFun h' 2
    exact Fin.ext (by omega))

theorem disjoint7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (by
    have h' : win0_7.index t = win0_7.index t' := h
    rw [index7, index7] at h'
    have h0 : t.val / 224 = t'.val / 224 := congrFun h' 0
    have h1 : t.val / 14 % 16 = t'.val / 14 % 16 := congrFun h' 1
    have h2 := (flush0_7 t).mp hf
    have h3 := (flush0_7 t').mp hf'
    exact Fin.ext (by omega))

/-- The point whose block of the main product an index lies in, and the one whose block of the small product it does. -/
def ptM (b : Fin 2) (s : Fin 16384) (n : Fin 14336) : Fin cfg0.N :=
  ⟨224 * b.val + 14 * (s.val / 1024) + n.val / 1024, by
    have := b.isLt; have := s.isLt; have := n.isLt; show _ < 448; omega⟩
def ptS (b : Fin 2) (s : Fin 16384) : Fin cfg0.N :=
  ⟨224 * b.val + 14 * (s.val / 1024) + 13, by have := b.isLt; have := s.isLt; show _ < 448; omega⟩
def lr (s : Fin 16384) : Fin 1024 := ⟨s.val % 1024, by omega⟩
def lc (n : Fin 14336) : Fin 1024 := ⟨n.val % 1024, by omega⟩

section
variable (c : Dev nD) (b : Fin 2) (s : Fin 16384)

/-- The kernel's main product at an index. -/
theorem main_at (n : Fin 14336) : ((dats m 0 c).arrAt 6 cfg0.N : Vec Ideal S2x16384x14336 .bf16) (ix3 b s n)
    = ∑ k : Fin 2048, hrow (a0 m c) (a1 m c) (a2 m c) (a3 m c) b s k * a4 m c (ix2 k (colM n)) := by
  have e : ∀ a, win0_6.index (ptM b s n) a = (![_, _, _] : Fin 3 → Nat) a := congrFun (index6 _)
  have hb := b.isLt; have hs := s.isLt; have hd := n.isLt
  have hr := congrFun ((dats m 0 c).read_blk_arrAt_eq_flushed 6 disjoint6 cfg0.N (ptM b s n) (ptM b s n).isLt (flush0_6 _))
    (ix3 0 (lr s) (lc n) : S1x1024x1024.Idx)
  rw [show (dats m 0 c).flushed 6 (ptM b s n) = mainOut m c (ptM b s n) from rfl] at hr
  refine Eq.trans ?_ (hr.trans ?_)
  · rw [View.read_apply]
    refine congrArg ((dats m 0 c).arrAt 6 cfg0.N : Vec Ideal S2x16384x14336 .bf16) (funext fun a => Fin.ext ?_)
    match a with
    | ⟨0, _⟩ => show b.val = win0_6.index _ 0 * 1 + 1 * 0; rw [e]; simp [ptM]; omega
    | ⟨1, _⟩ => show s.val = win0_6.index _ 1 * 1024 + 1 * (s.val % 1024); rw [e]; simp [ptM]; omega
    | ⟨2, _⟩ => show n.val = win0_6.index _ 2 * 1024 + 1 * (n.val % 1024); rw [e]; simp [ptM]; omega
  · refine (mainOut_at m c _ (lr s) (lc n)).trans ?_
    have e0 : pb (ptM b s n) = b := Fin.ext (by
      show (224 * b.val + 14 * (s.val / 1024) + n.val / 1024) / 224 = b.val; omega)
    have e1 : prow (ptM b s n) (lr s) = s := Fin.ext (by
      show 1024 * ((224 * b.val + 14 * (s.val / 1024) + n.val / 1024) / 14 % 16) + s.val % 1024 = s.val; omega)
    have e2 : pcol (ptM b s n) (lc n) = n := Fin.ext (by
      show 1024 * ((224 * b.val + 14 * (s.val / 1024) + n.val / 1024) % 14) + n.val % 1024 = n.val; omega)
    rw [e0, e1, e2]

/-- The kernel's small product at an index. -/
theorem small_at (n : Fin 128) : ((dats m 0 c).arrAt 7 cfg0.N : Vec Ideal S2x16384x128 .f32) (ix3 b s n)
    = ∑ k : Fin 2048, hrow (a0 m c) (a1 m c) (a2 m c) (a3 m c) b s k * wS (a4 m c) k n := by
  have e : ∀ a, win0_7.index (ptS b s) a = (![_, _, _] : Fin 3 → Nat) a := congrFun (index7 _)
  have hb := b.isLt; have hs := s.isLt; have hd := n.isLt
  have hf : (cfg0.win 7).flush (ptS b s) = true := (flush0_7 _).mpr (by
    show (224 * b.val + 14 * (s.val / 1024) + 13) % 14 = 13; omega)
  have hr := congrFun ((dats m 0 c).read_blk_arrAt_eq_flushed 7 disjoint7 cfg0.N (ptS b s) (ptS b s).isLt hf)
    (ix3 0 (lr s) n : S1x1024x128.Idx)
  rw [show (dats m 0 c).flushed 7 (ptS b s) = smallOut m c (ptS b s) from rfl] at hr
  refine Eq.trans ?_ (hr.trans ?_)
  · rw [View.read_apply]
    refine congrArg ((dats m 0 c).arrAt 7 cfg0.N : Vec Ideal S2x16384x128 .f32) (funext fun a => Fin.ext ?_)
    match a with
    | ⟨0, _⟩ => show b.val = win0_7.index _ 0 * 1 + 1 * 0; rw [e]; simp [ptS]; omega
    | ⟨1, _⟩ => show s.val = win0_7.index _ 1 * 1024 + 1 * (s.val % 1024); rw [e]; simp [ptS]; omega
    | ⟨2, _⟩ => show n.val = win0_7.index _ 2 * 128 + 1 * n.val; rw [e]; simp
  · refine (smallOut_at m c _ (lr s) n).trans ?_
    have e0 : pb (ptS b s) = b := Fin.ext (by
      show (224 * b.val + 14 * (s.val / 1024) + 13) / 224 = b.val; omega)
    have e1 : prow (ptS b s) (lr s) = s := Fin.ext (by
      show 1024 * ((224 * b.val + 14 * (s.val / 1024) + 13) / 14 % 16) + s.val % 1024 = s.val; omega)
    rw [e0, e1]
end

section
variable (x : Vec Ideal S2x16384x2048 .f32) (nw : Vec Ideal S2048 .f32) (sh sc : Vec Ideal S2x2048 .f32) (w : Vec Ideal S2048x14448 .f32)
  (b : Fin 2) (s : Fin 16384)

theorem lit_one : Ideal.ofBits .f32 0x3F800000#32 = 1 := by
  pointwise

/-- The reference's normalized and modulated rows. -/
theorem ref_row (k : Fin 2048) : val_main_v20 (F := Ideal) x nw sh sc (ix3 b s k) = hrow x nw sh sc b s k := by
  rw [val_main_v20_apply, val_main_v19_apply, val_main_v18_apply, val_main_v17_apply, val_main_v16_apply, val_main_v15_apply,
    val_main_v14_apply, val_main_cst_2_apply, val_main_v13_apply, val_main_v12_apply, val_main_v11_apply, val_main_v10_apply,
    val_main_v9_apply, val_main_v8_apply, val_main_v7_apply, val_main_v6_apply, val_main_v5_apply, val_main_cst_1_apply,
    val_main_v4_apply, val_main_v3_apply, val_main_cst_0_apply, val_main_v2_apply, val_main_v1_apply, val_main_cst_apply]
  simp only [val_main_v0_apply]
  show x (ix3 b s k) * Ideal.rsqrt (Ideal.div (Ideal.ofBits .f32 0x00000000#32 + ∑ j : Fin 2048, x _ * x _) _ + _) * nw _
    * (Ideal.ofBits .f32 0x3F800000#32 + sc _) + sh _ = _
  rw [Ideal.ofBits_zero_f32, zero_add, lit_one]
  have e : ∀ j, idx_main_v1 (idx_main_v2 (idx_main_v8 (ix3 b s k))) j = ix3 b s j := fun j =>
    funext fun a => by match a with | ⟨0, _⟩ => rfl | ⟨1, _⟩ => rfl | ⟨2, _⟩ => rfl
  have e1 : idx_main_v10 (idx_main_v11 (ix3 b s k)) = ix1 k := funext fun a => by match a with | ⟨0, _⟩ => rfl
  have e2 : idx_main_v13 (idx_main_v16 (ix3 b s k)) = ix2 b k :=
    funext fun a => by match a with | ⟨0, _⟩ => rfl | ⟨1, _⟩ => rfl
  have e3 : idx_main_v18 (idx_main_v19 (ix3 b s k)) = ix2 b k :=
    funext fun a => by match a with | ⟨0, _⟩ => rfl | ⟨1, _⟩ => rfl
  simp only [e]
  rw [e1, e2, e3]
  rfl

/-- The reference's product of the rows with all the columns. -/
theorem ref_prod (n : Fin 14448) : val_main_v21 (F := Ideal) x nw sh sc w (ix3 b s n) = ∑ k : Fin 2048, hrow x nw sh sc b s k * w (ix2 k n) := by
  have el : ∀ k, lidx_main_v21 (ix3 b s n) k = ix3 b s k := fun k =>
    funext fun a => by match a with | ⟨0, _⟩ => rfl | ⟨1, _⟩ => rfl | ⟨2, _⟩ => rfl
  have er : ∀ k, ridx_main_v21 (ix3 b s n) k = ix2 k n := fun k =>
    funext fun a => by match a with | ⟨0, _⟩ => rfl | ⟨1, _⟩ => rfl
  rw [val_main_v21_apply]
  exact Finset.sum_congr rfl fun k _ => by rw [el, er, ref_row]

theorem ref22_at (n : Fin 6144) : val_main_v22 (F := Ideal) x nw sh sc w (ix3 b s n)
    = ∑ k : Fin 2048, hrow x nw sh sc b s k * w (ix2 k ⟨0 + n.val, by have := n.isLt; omega⟩) := by
  rw [val_main_v22_apply]
  refine Eq.trans (congrArg _ ?_) (ref_prod x nw sh sc w b s ⟨0 + n.val, by have := n.isLt; omega⟩)
  funext a; match a with | ⟨0, _⟩ => rfl | ⟨1, _⟩ => rfl | ⟨2, _⟩ => exact Fin.ext (by show n.val = 0 + n.val; omega)
theorem ref23_at (n : Fin 4096) : val_main_v23 (F := Ideal) x nw sh sc w (ix3 b s n)
    = ∑ k : Fin 2048, hrow x nw sh sc b s k * w (ix2 k ⟨6176 + n.val, by have := n.isLt; omega⟩) := by
  rw [val_main_v23_apply]
  refine Eq.trans (congrArg _ ?_) (ref_prod x nw sh sc w b s ⟨6176 + n.val, by have := n.isLt; omega⟩)
  funext a; match a with | ⟨0, _⟩ => rfl | ⟨1, _⟩ => rfl | ⟨2, _⟩ => exact Fin.ext (by show 6176 + n.val = 6176 + n.val; rfl)
theorem ref24_at (n : Fin 4096) : val_main_v24 (F := Ideal) x nw sh sc w (ix3 b s n)
    = ∑ k : Fin 2048, hrow x nw sh sc b s k * w (ix2 k ⟨10352 + n.val, by have := n.isLt; omega⟩) := by
  rw [val_main_v24_apply]
  refine Eq.trans (congrArg _ ?_) (ref_prod x nw sh sc w b s ⟨10352 + n.val, by have := n.isLt; omega⟩)
  funext a; match a with | ⟨0, _⟩ => rfl | ⟨1, _⟩ => rfl | ⟨2, _⟩ => exact Fin.ext (by show 10352 + n.val = 10352 + n.val; rfl)
theorem ref26_at (n : Fin 80) : val_main_v26 (F := Ideal) x nw sh sc w (ix3 b s n)
    = ∑ k : Fin 2048, hrow x nw sh sc b s k * w (ix2 k ⟨10272 + n.val, by have := n.isLt; omega⟩) := by
  rw [val_main_v26_apply]
  refine Eq.trans (congrArg _ ?_) (ref_prod x nw sh sc w b s ⟨10272 + n.val, by have := n.isLt; omega⟩)
  funext a; match a with | ⟨0, _⟩ => rfl | ⟨1, _⟩ => rfl | ⟨2, _⟩ => exact Fin.ext (by show 10272 + n.val = 10272 + n.val; rfl)
theorem ref27_at (n : Fin 32) : val_main_v27 (F := Ideal) x nw sh sc w (ix3 b s n)
    = ∑ k : Fin 2048, hrow x nw sh sc b s k * w (ix2 k ⟨6144 + n.val, by have := n.isLt; omega⟩) := by
  rw [val_main_v27_apply]
  refine Eq.trans (congrArg _ ?_) (ref_prod x nw sh sc w b s ⟨6144 + n.val, by have := n.isLt; omega⟩)
  funext a; match a with | ⟨0, _⟩ => rfl | ⟨1, _⟩ => rfl | ⟨2, _⟩ => exact Fin.ext (by show 6144 + n.val = 6144 + n.val; rfl)

/-- The reference's main product at an index. -/
theorem ref_main (n : Fin 14336) : val_main_v30 (F := Ideal) x nw sh sc w (ix3 b s n)
    = ∑ k : Fin 2048, hrow x nw sh sc b s k * w (ix2 k (colM n)) := by
  have hn := n.isLt
  have h22 := ref22_at x nw sh sc w b s
  have h23 := ref23_at x nw sh sc w b s
  have h24 := ref24_at x nw sh sc w b s
  rw [val_main_v30_apply]
  unfold val_main_v25
  generalize val_main_v22 (F := Ideal) x nw sh sc w = y22 at h22 ⊢
  generalize val_main_v23 (F := Ideal) x nw sh sc w = y23 at h23 ⊢
  generalize val_main_v24 (F := Ideal) x nw sh sc w = y24 at h24 ⊢
  generalize hz : (∑ k : Fin 2048, hrow x nw sh sc b s k * w (ix2 k (colM n))) = z
  pointwise
  rw [← hz]
  refine dite_cases (fun h => ?_) (fun h => ?_)
  · refine (h22 _).trans (congrArg (fun q => ∑ k : Fin 2048, hrow x nw sh sc b s k * w (ix2 k q)) (Fin.ext ?_))
    dsimp only [colM]; split_ifs <;> omega
  refine dite_cases (fun h => ?_) (fun h => ?_)
  · refine (h23 _).trans (congrArg (fun q => ∑ k : Fin 2048, hrow x nw sh sc b s k * w (ix2 k q)) (Fin.ext ?_))
    dsimp only [colM]; split_ifs <;> omega
  refine (h24 _).trans (congrArg (fun q => ∑ k : Fin 2048, hrow x nw sh sc b s k * w (ix2 k q)) (Fin.ext ?_))
  dsimp only [colM]; split_ifs <;> omega

/-- The reference's small product at an index. -/
theorem ref_small (n : Fin 128) : val_main_v29 (F := Ideal) x nw sh sc w (ix3 b s n)
    = ∑ k : Fin 2048, hrow x nw sh sc b s k * wS w k n := by
  have hn := n.isLt
  have h26 := ref26_at x nw sh sc w b s
  have h27 := ref27_at x nw sh sc w b s
  have h28 (i) : val_main_v28 (F := Ideal) i = (0 : EReal) := by
    rw [val_main_v28_apply, val_main_cst_3_apply]
    exact Ideal.ofBits_zero_f32
  unfold val_main_v29
  generalize val_main_v26 (F := Ideal) x nw sh sc w = y26 at h26 ⊢
  generalize val_main_v27 (F := Ideal) x nw sh sc w = y27 at h27 ⊢
  generalize val_main_v28 (F := Ideal) = y28 at h28 ⊢
  generalize hz : (∑ k : Fin 2048, hrow x nw sh sc b s k * wS w k n) = z
  pointwise
  rw [← hz]
  refine dite_cases (fun h => ?_) (fun h => ?_)
  · refine (h26 _).trans (Finset.sum_congr rfl fun k _ => ?_)
    rw [wS, dif_pos (by omega)]
  refine dite_cases (fun h => ?_) (fun h => ?_)
  · refine (h27 _).trans (Finset.sum_congr rfl fun k _ => ?_)
    rw [wS, dif_neg (by omega), dif_pos (by omega)]
    exact congrArg (fun q => hrow x nw sh sc b s k * w (ix2 k q)) (Fin.ext (by dsimp only; omega))
  refine (h28 _).trans (Finset.sum_eq_zero fun k _ => ?_).symm
  rw [wS, dif_neg (by omega), dif_neg (by omega), mul_zero]
end

/-- The kernel's main product is the reference's of the same arguments. -/
theorem main_eq (c : Dev nD) : ((dats m 0 c).arrAt 6 cfg0.N : Vec Ideal S2x16384x14336 .bf16)
    = val_main_v30 (F := Ideal) (a0 m c) (a1 m c) (a2 m c) (a3 m c) (a4 m c) := by
  funext i
  obtain ⟨b, s, d, rfl⟩ : ∃ b s d, i = ix3 b s d := ⟨i 0, i 1, i 2, eq_ix3 i⟩
  exact (main_at m c b s d).trans (ref_main _ _ _ _ _ b s d).symm

/-- The kernel's small product is the reference's of the same arguments. -/
theorem small_eq (c : Dev nD) : ((dats m 0 c).arrAt 7 cfg0.N : Vec Ideal S2x16384x128 .f32)
    = val_main_v29 (F := Ideal) (a0 m c) (a1 m c) (a2 m c) (a3 m c) (a4 m c) := by
  funext i
  obtain ⟨b, s, d, rfl⟩ : ∃ b s d, i = ix3 b s d := ⟨i 0, i 1, i 2, eq_ix3 i⟩
  exact (small_at m c b s d).trans (ref_small _ _ _ _ _ b s d).symm

/-- Every run ends with the two products, and the arguments as they began. -/
theorem run_results : θ_run defs (onTc (τ := τ) (main (F := Ideal))) ⟨m, fun _ => 0, ρ⟩ fun r => ∀ c : Dev nD,
      r.2.mem ((c.tc : Thread nD τ).loc main_v18_0) = (dats m 0 c).arrAt 6 cfg0.N
      ∧ r.2.mem ((c.tc : Thread nD τ).loc main_v18_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 6, (h.1 c).1 7, h.2.1 c⟩)
    (θ_run_and (run_main m ρ) (frame m ρ))

end Cert.Proof.In
end
-- ==== Proof.MergeValue.lean ====
/-
  The merge of the two branches over the extended reals: each block of the kernel's result, and the reference, at an index.
-/
module

public import proofs.«01_k».proof.Proof.Gen.MergeIdeal.Value
public import proofs.«01_k».proof.Proof.Gen.MergeRefIdeal.Read
public import Idealize.ShloMosaic.Lib.Pointwise
public import Idealize.ShloMosaic.Lib.StableHlo.ReadAt

@[expose] public section
set_option maxRecDepth 16384
noncomputable section
namespace Cert.Proof.Merge

open Cert.MergeIdeal Cert.MergeIdeal.Gen Cert.MergeIdeal.Value Cert.MergeRefIdeal.Read
open Idealize.ShloMosaic Idealize.ShloMosaic.TcCoe Idealize.ShloMosaic.Tactic Idealize.ShloMosaic.Pointwise

/-- The logistic function of a gate. -/
def gate (x : EReal) : EReal := Ideal.div 1 (1 + Ideal.exp (0 - x))

/-- The column of a state-space gate, and that of an attention gate. -/
def colS (d : Fin 2048) : Fin 14336 := ⟨10240 + d.val, by omega⟩
def colA (d : Fin 2048) : Fin 14336 := ⟨12288 + d.val, by omega⟩

/-- The two projected branches, each gated, added. -/
def mergeAt (ys ya : Vec Ideal S2x16384x2048 .bf16) (u : Vec Ideal S2x16384x14336 .bf16) (ws wa : Vec Ideal S2048x2048 .f32)
    (b : Fin 2) (s : Fin 16384) (d : Fin 2048) : EReal :=
  gate (u (ix3 b s (colS d))) * (∑ k : Fin 2048, ys (ix3 b s k) * ws (ix2 k d))
    + gate (u (ix3 b s (colA d))) * (∑ k : Fin 2048, ya (ix3 b s k) * wa (ix2 k d))

theorem pay_at (v0 : Vec Ideal S1x1024x2048 .bf16) (v2 : Vec Ideal S2048x512 .bf16) (v5 : Vec Ideal S1x1024x2048 .bf16)
    (v7 : Vec Ideal S2048x512 .bf16) (v10 v20 : Vec Ideal S1x1024x512 .bf16) (r : Fin 1024) (d : Fin 512) :
    k0_pay1 (F := Ideal) (k0_pay2 v0 v2 v5 v7 v10 v20) (ix3 0 r d) =
      gate (v10 (ix3 0 r d)) * (∑ k : Fin 2048, v0 (ix3 0 r k) * v2 (ix2 k d))
        + gate (v20 (ix3 0 r d)) * (∑ k : Fin 2048, v5 (ix3 0 r k) * v7 (ix2 k d)) := by
  unfold gate
  pointwise [k0_pay1, k0_pay2]

theorem hz2 : (![0, 0] : Fin 2 → ℕ) = fun _ => 0 := by decide
theorem hz3 : (![0, 0, 0] : Fin 3 → ℕ) = fun _ => 0 := by decide

theorem out_eq (x0 x1 : Vec Ideal S1x1024x2048 .bf16) (x2 x3 : Vec Ideal S1x1024x512 .bf16) (x4 x5 : Vec Ideal S2048x512 .bf16) :
    out0_6 x0 x1 x2 x3 x4 x5 = k0_pay1 (k0_pay2 x0 x4 x1 x5 x2 x3) := by
  unfold out0_6
  rw [View.canon_unit_zero hz3]
  simp only [View.ld_unit_zero (S := S1x1024x512) hz3, View.ld_unit_zero (S := S1x1024x2048) hz3,
    View.ld_unit_zero (S := S2048x512) hz2]

variable (m : (ℓ : Loc nD τ sig) → Buf (Elt Ideal) ℓ)

abbrev a0 (c : Dev nD) : Vec Ideal S2x16384x2048 .bf16 := m ((c : Thread nD τ).loc main_arg0)
abbrev a1 (c : Dev nD) : Vec Ideal S2x16384x2048 .bf16 := m ((c : Thread nD τ).loc main_arg1)
abbrev a2 (c : Dev nD) : Vec Ideal S2x16384x14336 .bf16 := m ((c : Thread nD τ).loc main_arg2)
abbrev a3 (c : Dev nD) : Vec Ideal S2048x2048 .f32 := m ((c : Thread nD τ).loc main_arg3)
abbrev a4 (c : Dev nD) : Vec Ideal S2048x2048 .f32 := m ((c : Thread nD τ).loc main_arg4)

theorem v0_at (c : Dev nD) (k d : Fin 2048) : (V m c main_v0 : Vec Ideal S2048x2048 .bf16) (ix2 k d) = a3 m c (ix2 k d) := by
  unfold V; after_reads_at
theorem v1_at (c : Dev nD) (k d : Fin 2048) : (V m c main_v1 : Vec Ideal S2048x2048 .bf16) (ix2 k d) = a4 m c (ix2 k d) := by
  unfold V; after_reads_at

theorem index0 : ∀ t : Fin cfg0.N, win0_0.index t = ![t.val / 64, t.val / 4 % 16, 0] := (by decide +kernel : ∀ t : Fin grid0.N, _)
theorem index1 : ∀ t : Fin cfg0.N, win0_1.index t = ![t.val / 64, t.val / 4 % 16, 0] := (by decide +kernel : ∀ t : Fin grid0.N, _)
theorem index2 : ∀ t : Fin cfg0.N, win0_2.index t = ![t.val / 64, t.val / 4 % 16, 20 + t.val % 4] := (by decide +kernel : ∀ t : Fin grid0.N, _)
theorem index3 : ∀ t : Fin cfg0.N, win0_3.index t = ![t.val / 64, t.val / 4 % 16, 24 + t.val % 4] := (by decide +kernel : ∀ t : Fin grid0.N, _)
theorem index4 : ∀ t : Fin cfg0.N, win0_4.index t = ![0, t.val % 4] := (by decide +kernel : ∀ t : Fin grid0.N, _)
theorem index5 : ∀ t : Fin cfg0.N, win0_5.index t = ![0, t.val % 4] := (by decide +kernel : ∀ t : Fin grid0.N, _)
theorem index6 : ∀ t : Fin cfg0.N, win0_6.index t = ![t.val / 64, t.val / 4 % 16, t.val % 4] := (by decide +kernel : ∀ t : Fin grid0.N, _)
theorem flush6 : ∀ t : Fin cfg0.N, (cfg0.win 6).flush t = true := (by decide +kernel : ∀ t : Fin grid0.N, _)

/-- The grid point whose block an index lies in, and the index within it. -/
def pt (b : Fin 2) (s : Fin 16384) (d : Fin 2048) : Fin cfg0.N :=
  ⟨64 * b.val + 4 * (s.val / 1024) + d.val / 512, by
    have := b.isLt; have := s.isLt; have := d.isLt; show _ < 128; omega⟩
def lr (s : Fin 16384) : Fin 1024 := ⟨s.val % 1024, by omega⟩
def ld' (d : Fin 2048) : Fin 512 := ⟨d.val % 512, by omega⟩

section
variable (c : Dev nD) (b : Fin 2) (s : Fin 16384) (d : Fin 2048)

theorem b0_at (k : Fin 2048) : (iblk m c 0 (pt b s d) : Vec Ideal S1x1024x2048 .bf16) (ix3 0 (lr s) k) = a0 m c (ix3 b s k) := by
  have e : ∀ a, win0_0.index (pt b s d) a = (![_, _, _] : Fin 3 → Nat) a := congrFun (index0 _)
  have hb := b.isLt; have hs := s.isLt; have hd := d.isLt
  refine Eq.trans ?_ (congrFun (V_main_arg0 m c) (ix3 b s k))
  refine congrArg (V m c main_arg0 : Vec Ideal S2x16384x2048 .bf16) (funext fun a => Fin.ext ?_)
  match a with
  | ⟨0, _⟩ => show win0_0.index _ 0 * 1 + 1 * 0 = b.val; rw [e]; simp [pt]; omega
  | ⟨1, _⟩ => show win0_0.index _ 1 * 1024 + 1 * (s.val % 1024) = s.val; rw [e]; simp [pt]; omega
  | ⟨2, _⟩ => show win0_0.index _ 2 * 2048 + 1 * k.val = k.val; rw [e]; simp

theorem b1_at (k : Fin 2048) : (iblk m c 1 (pt b s d) : Vec Ideal S1x1024x2048 .bf16) (ix3 0 (lr s) k) = a1 m c (ix3 b s k) := by
  have e : ∀ a, win0_1.index (pt b s d) a = (![_, _, _] : Fin 3 → Nat) a := congrFun (index1 _)
  have hb := b.isLt; have hs := s.isLt; have hd := d.isLt
  refine Eq.trans ?_ (congrFun (V_main_arg1 m c) (ix3 b s k))
  refine congrArg (V m c main_arg1 : Vec Ideal S2x16384x2048 .bf16) (funext fun a => Fin.ext ?_)
  match a with
  | ⟨0, _⟩ => show win0_1.index _ 0 * 1 + 1 * 0 = b.val; rw [e]; simp [pt]; omega
  | ⟨1, _⟩ => show win0_1.index _ 1 * 1024 + 1 * (s.val % 1024) = s.val; rw [e]; simp [pt]; omega
  | ⟨2, _⟩ => show win0_1.index _ 2 * 2048 + 1 * k.val = k.val; rw [e]; simp

theorem b2_at : (iblk m c 2 (pt b s d) : Vec Ideal S1x1024x512 .bf16) (ix3 0 (lr s) (ld' d)) = a2 m c (ix3 b s (colS d)) := by
  have e : ∀ a, win0_2.index (pt b s d) a = (![_, _, _] : Fin 3 → Nat) a := congrFun (index2 _)
  have hb := b.isLt; have hs := s.isLt; have hd := d.isLt
  refine Eq.trans ?_ (congrFun (V_main_arg2 m c) (ix3 b s (colS d)))
  refine congrArg (V m c main_arg2 : Vec Ideal S2x16384x14336 .bf16) (funext fun a => Fin.ext ?_)
  match a with
  | ⟨0, _⟩ => show win0_2.index _ 0 * 1 + 1 * 0 = b.val; rw [e]; simp [pt]; omega
  | ⟨1, _⟩ => show win0_2.index _ 1 * 1024 + 1 * (s.val % 1024) = s.val; rw [e]; simp [pt]; omega
  | ⟨2, _⟩ => show win0_2.index _ 2 * 512 + 1 * (d.val % 512) = 10240 + d.val; rw [e]; simp [pt]; omega

theorem b3_at : (iblk m c 3 (pt b s d) : Vec Ideal S1x1024x512 .bf16) (ix3 0 (lr s) (ld' d)) = a2 m c (ix3 b s (colA d)) := by
  have e : ∀ a, win0_3.index (pt b s d) a = (![_, _, _] : Fin 3 → Nat) a := congrFun (index3 _)
  have hb := b.isLt; have hs := s.isLt; have hd := d.isLt
  refine Eq.trans ?_ (congrFun (V_main_arg2 m c) (ix3 b s (colA d)))
  refine congrArg (V m c main_arg2 : Vec Ideal S2x16384x14336 .bf16) (funext fun a => Fin.ext ?_)
  match a with
  | ⟨0, _⟩ => show win0_3.index _ 0 * 1 + 1 * 0 = b.val; rw [e]; simp [pt]; omega
  | ⟨1, _⟩ => show win0_3.index _ 1 * 1024 + 1 * (s.val % 1024) = s.val; rw [e]; simp [pt]; omega
  | ⟨2, _⟩ => show win0_3.index _ 2 * 512 + 1 * (d.val % 512) = 12288 + d.val; rw [e]; simp [pt]; omega

theorem b4_at (k : Fin 2048) : (iblk m c 4 (pt b s d) : Vec Ideal S2048x512 .bf16) (ix2 k (ld' d)) = a3 m c (ix2 k d) := by
  have e : ∀ a, win0_4.index (pt b s d) a = (![_, _] : Fin 2 → Nat) a := congrFun (index4 _)
  have hb := b.isLt; have hs := s.isLt; have hd := d.isLt
  refine Eq.trans ?_ (v0_at m c k d)
  refine congrArg (V m c main_v0 : Vec Ideal S2048x2048 .bf16) (funext fun a => Fin.ext ?_)
  match a with
  | ⟨0, _⟩ => show win0_4.index _ 0 * 2048 + 1 * k.val = k.val; rw [e]; simp
  | ⟨1, _⟩ => show win0_4.index _ 1 * 512 + 1 * (d.val % 512) = d.val; rw [e]; simp [pt]; omega

theorem b5_at (k : Fin 2048) : (iblk m c 5 (pt b s d) : Vec Ideal S2048x512 .bf16) (ix2 k (ld' d)) = a4 m c (ix2 k d) := by
  have e : ∀ a, win0_5.index (pt b s d) a = (![_, _] : Fin 2 → Nat) a := congrFun (index5 _)
  have hb := b.isLt; have hs := s.isLt; have hd := d.isLt
  refine Eq.trans ?_ (v1_at m c k d)
  refine congrArg (V m c main_v1 : Vec Ideal S2048x2048 .bf16) (funext fun a => Fin.ext ?_)
  match a with
  | ⟨0, _⟩ => show win0_5.index _ 0 * 2048 + 1 * k.val = k.val; rw [e]; simp
  | ⟨1, _⟩ => show win0_5.index _ 1 * 512 + 1 * (d.val % 512) = d.val; rw [e]; simp [pt]; omega

/-- The kernel's result array at an index. -/
theorem result_at : ((dats m 0 c).arrAt 6 cfg0.N : Vec Ideal S2x16384x2048 .bf16) (ix3 b s d)
    = mergeAt (a0 m c) (a1 m c) (a2 m c) (a3 m c) (a4 m c) b s d := by
  have e : ∀ a, win0_6.index (pt b s d) a = (![_, _, _] : Fin 3 → Nat) a := congrFun (index6 _)
  have hb := b.isLt; have hs := s.isLt; have hd := d.isLt
  have hr := congrFun (blocks6 m c (pt b s d) (flush6 _)) (ix3 0 (lr s) (ld' d) : S1x1024x512.Idx)
  rw [flushed6, out_eq] at hr
  refine Eq.trans ?_ (hr.trans ?_)
  · rw [View.read_apply]
    refine congrArg ((dats m 0 c).arrAt 6 cfg0.N : Vec Ideal S2x16384x2048 .bf16) (funext fun a => Fin.ext ?_)
    match a with
    | ⟨0, _⟩ => show b.val = win0_6.index _ 0 * 1 + 1 * 0; rw [e]; simp [pt]; omega
    | ⟨1, _⟩ => show s.val = win0_6.index _ 1 * 1024 + 1 * (s.val % 1024); rw [e]; simp [pt]; omega
    | ⟨2, _⟩ => show d.val = win0_6.index _ 2 * 512 + 1 * (d.val % 512); rw [e]; simp [pt]; omega
  · refine (pay_at _ _ _ _ _ _ (lr s) (ld' d)).trans ?_
    simp only [b0_at, b1_at, b2_at, b3_at, b4_at, b5_at]
    rfl
end

theorem lit_one : Ideal.ofBits .f32 0x3F800000#32 = 1 := by
  pointwise

/-- The reference's gates at an index. -/
theorem ref_gate (u : Vec Ideal S2x16384x14336 .bf16) (i : Cert.MergeRefIdeal.S2x16384x4096.Idx) :
    val_main_v9 (F := Ideal) u i = gate (u (idx_main_v2 i)) := by
  rw [val_main_v9_apply, val_main_v8_apply, val_main_cst_0_apply, val_main_v7_apply, val_main_v6_apply, val_main_cst_apply,
    val_main_v5_apply, val_main_v4_apply, val_main_v3_apply, val_main_v2_apply]
  show Ideal.div (Ideal.ofBits .f32 0x3F800000#32) (Ideal.ofBits .f32 0x3F800000#32 + Ideal.exp (-_)) = _
  rw [lit_one, ← zero_sub]
  rfl

theorem idxS (b : Fin 2) (s : Fin 16384) (d : Fin 2048) :
    idx_main_v2 (idx_main_v10 (idx_main_v11 (idx_main_v12 (ix3 b s d)))) = ix3 b s (colS d) := by
  have hb := b.isLt; have hs := s.isLt; have hd := d.isLt
  refine funext fun a => Fin.ext ?_
  match a with
  | ⟨0, _⟩ =>
    show (((((b.val * 16384 + s.val) * 2048 + d.val) / 33554432 * 16384 + ((b.val * 16384 + s.val) * 2048 + d.val) / 2048 % 16384) * 2
      + 0) * 2048 + ((b.val * 16384 + s.val) * 2048 + d.val) % 2048) / 67108864 = b.val
    omega
  | ⟨1, _⟩ =>
    show (((((b.val * 16384 + s.val) * 2048 + d.val) / 33554432 * 16384 + ((b.val * 16384 + s.val) * 2048 + d.val) / 2048 % 16384) * 2
      + 0) * 2048 + ((b.val * 16384 + s.val) * 2048 + d.val) % 2048) / 4096 % 16384 = s.val
    omega
  | ⟨2, _⟩ =>
    show 10240 + (((((b.val * 16384 + s.val) * 2048 + d.val) / 33554432 * 16384 + ((b.val * 16384 + s.val) * 2048 + d.val) / 2048 % 16384) * 2
      + 0) * 2048 + ((b.val * 16384 + s.val) * 2048 + d.val) % 2048) % 4096 = 10240 + d.val
    omega

theorem idxA (b : Fin 2) (s : Fin 16384) (d : Fin 2048) :
    idx_main_v2 (idx_main_v10 (idx_main_v15 (idx_main_v16 (ix3 b s d)))) = ix3 b s (colA d) := by
  have hb := b.isLt; have hs := s.isLt; have hd := d.isLt
  refine funext fun a => Fin.ext ?_
  match a with
  | ⟨0, _⟩ =>
    show (((((b.val * 16384 + s.val) * 2048 + d.val) / 33554432 * 16384 + ((b.val * 16384 + s.val) * 2048 + d.val) / 2048 % 16384) * 2
      + (1 + 0)) * 2048 + ((b.val * 16384 + s.val) * 2048 + d.val) % 2048) / 67108864 = b.val
    omega
  | ⟨1, _⟩ =>
    show (((((b.val * 16384 + s.val) * 2048 + d.val) / 33554432 * 16384 + ((b.val * 16384 + s.val) * 2048 + d.val) / 2048 % 16384) * 2
      + (1 + 0)) * 2048 + ((b.val * 16384 + s.val) * 2048 + d.val) % 2048) / 4096 % 16384 = s.val
    omega
  | ⟨2, _⟩ =>
    show 10240 + (((((b.val * 16384 + s.val) * 2048 + d.val) / 33554432 * 16384 + ((b.val * 16384 + s.val) * 2048 + d.val) / 2048 % 16384) * 2
      + (1 + 0)) * 2048 + ((b.val * 16384 + s.val) * 2048 + d.val) % 2048) % 4096 = 12288 + d.val
    omega

/-- The reference's result at an index. -/
theorem ref_at (ys ya : Vec Ideal S2x16384x2048 .bf16) (u : Vec Ideal S2x16384x14336 .bf16) (ws wa : Vec Ideal S2048x2048 .f32)
    (b : Fin 2) (s : Fin 16384) (d : Fin 2048) :
    val_main_v20 (F := Ideal) ys ya u ws wa (ix3 b s d) = mergeAt ys ya u ws wa b s d := by
  have el : ∀ k, lidx_main_v13 (ix3 b s d) k = ix3 b s k := fun k =>
    funext fun a => by match a with | ⟨0, _⟩ => rfl | ⟨1, _⟩ => rfl | ⟨2, _⟩ => rfl
  have er : ∀ k, ridx_main_v13 (ix3 b s d) k = ix2 k d := fun k =>
    funext fun a => by match a with | ⟨0, _⟩ => rfl | ⟨1, _⟩ => rfl
  have el' : ∀ k, lidx_main_v17 (ix3 b s d) k = ix3 b s k := el
  have er' : ∀ k, ridx_main_v17 (ix3 b s d) k = ix2 k d := er
  rw [val_main_v20_apply, val_main_v19_apply, val_main_v14_apply, val_main_v18_apply, val_main_v12_apply, val_main_v11_apply,
    val_main_v10_apply, ref_gate, idxS, val_main_v16_apply, val_main_v15_apply, val_main_v10_apply, ref_gate, idxA,
    val_main_v13_apply, val_main_v17_apply]
  simp only [el, er, el', er', val_main_v0_apply, val_main_v1_apply]
  rfl

/-- The kernel's result is the reference's of the same arguments. -/
theorem result_eq (c : Dev nD) : ((dats m 0 c).arrAt 6 cfg0.N : Vec Ideal S2x16384x2048 .bf16)
    = val_main_v20 (F := Ideal) (a0 m c) (a1 m c) (a2 m c) (a3 m c) (a4 m c) := by
  funext i
  obtain ⟨b, s, d, rfl⟩ : ∃ b s d, i = ix3 b s d := ⟨i 0, i 1, i 2, eq_ix3 i⟩
  exact (result_at m c b s d).trans (ref_at _ _ _ _ _ b s d).symm

end Cert.Proof.Merge
end
-- ==== Proof.MixRun.lean ====
/-
  The run of the mixer's three last calls: it ends with the result array at what the last call's blocks leave in it, and
  the arguments as they were.
-/
module

public import proofs.«01_k».proof.Proof.Gen.MixIdeal.Frame
public import Idealize.ShloMosaic.Lib.Pointwise

@[expose] public section
set_option maxRecDepth 16384
noncomputable section
namespace Cert.Proof.Mix

open Cert.MixIdeal Cert.MixIdeal.Gen
open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- The ghost state of this program's proofs. -/
abbrev Gh : Type := MT nD τ sig Unit (Elt Ideal) ℕ (UR sig nD τ) ℕ

set_option backward.isDefEq.respectTransparency.types false in
/-- Every buffer the launch opened ends at the last boundary's contents. -/
theorem run_all : θ_run defs (onTc (τ := τ) (main (F := Ideal))) ⟨m, fun _ => 0, ρ⟩ fun r =>
    ∀ c : Dev nD, ∀ b ∈ Pipeline.ucRefs τ sig, r.2.mem (((c : Thread nD τ)).1, b) = W6 m ρ c b := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := by repeat' constructor
               all_goals exact fun _ => .rfl) (hinit := ?_)
    (QY := fun c s => ∀ b ∈ Pipeline.ucRefs τ sig, s.mem (((c : Thread nD τ)).1, b) = W6 m ρ c b) (hfin := ?_)
    (hQ := fun s h _ => h)
  · iintro Hu
    imodintro
    isplitl [Hu]
    · iapply (show (ownU (initOf (Pipeline.cells cfgs cellOf_inj) (Pipeline.launchToks cfgs cellOf_inj)) : sProp Gh)
          ⊢ BI.own (emb₁ (initOf (Pipeline.cells cfgs cellOf_inj) (Pipeline.launchToks cfgs cellOf_inj))) from .rfl)
      iexact Hu
    · iapply (show (BI.emp : sProp Gh) ⊢ bigSep Finset.univ (fun _ : Dev nD => (BI.emp : sProp Gh)) from by
        rw [BI.bigSep_emp_const])
      iempintro
  · refine Pipeline.initEach L lv fun c => ?_
    have e : (unscopedBufs c (fun b => m ((c : Thread nD τ).loc b)) : sProp Gh)
        = StableHlo.held (c : Thread nD τ) (Pipeline.ucRefs τ sig) (W0 m ρ c) := Pipeline.unscopedBufs_held c (W0 m ρ c)
    rw [e]
    iintro ⟨⟨Hbufs, -, Howes, -, Hreg, -⟩, -⟩
    imodintro
    isplitl [Hbufs]
    · iexact Hbufs
    isplitl [Hreg]
    · iexists _
      iexact Hreg
    · iexists ∅
      iexact Howes
  · intro c s
    iintro ⟨⟨Hbufs, -⟩, Hstate⟩
    unfold StableHlo.held
    imodintro
    iapply (pointsTo_read_all (Pipeline.ucRefs τ sig) (fun b => (((c : Thread nD τ)).1, b)) (W6 m ρ c) s)
    isplitl [Hbufs] <;> iassumption

/-- The result array, and the arguments. -/
theorem run_result : θ_run defs (onTc (τ := τ) (main (F := Ideal))) ⟨m, fun _ => 0, ρ⟩ fun r => ∀ c : Dev nD,
      r.2.mem ((c : Thread nD τ).loc main_v10) = (dat2 (V5 m ρ) c).arrAt 4 cfg2.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c _ (mem_uc main_v10 (by decide))).trans (W6_arr m ρ c 4),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c)⟩) (run_all m ρ)

end Cert.Proof.Mix
end
-- ==== Proof.OutValue.lean ====
/-
  The output projection over the extended reals: each block of the kernel's result, and the reference, at an index.
-/
module

public import proofs.«01_k».proof.Proof.Gen.OutIdeal.Value
public import proofs.«01_k».proof.Proof.Gen.OutRefIdeal.Read
public import Idealize.ShloMosaic.Lib.Pointwise
public import Idealize.ShloMosaic.Lib.StableHlo.ReadAt

@[expose] public section
set_option maxRecDepth 16384
noncomputable section
namespace Cert.Proof.Out

open Cert.OutIdeal Cert.OutIdeal.Gen Cert.OutIdeal.Value Cert.OutRefIdeal.Read
open Idealize.ShloMosaic Idealize.ShloMosaic.TcCoe Idealize.ShloMosaic.Tactic Idealize.ShloMosaic.Pointwise

/-- The projected row, gated and added to the residual. -/
def outAt (mg : Vec Ideal S2x16384x2048 .bf16) (h : Vec Ideal S2x16384x2048 .f32) (gt : Vec Ideal S2x2048 .f32)
    (w : Vec Ideal S2048x2048 .f32) (b : Fin 2) (s : Fin 16384) (d : Fin 2048) : EReal :=
  h (ix3 b s d) + gt (ix2 b d) * ∑ k : Fin 2048, mg (ix3 b s k) * w (ix2 k d)

theorem pay1_at (v0 : Vec Ideal S1x1024x512 .f32) (v2 : Vec Ideal S1x1x512 .f32) (v4 : Vec Ideal S1x1024x2048 .bf16)
    (v6 : Vec Ideal S2048x512 .bf16) (r : Fin 1024) (d : Fin 512) :
    k0_pay1 (F := Ideal) v0 v2 v4 v6 (ix3 0 r d) =
      v0 (ix3 0 r d) + v2 (ix3 0 0 d) * ∑ k : Fin 2048, v4 (ix3 0 r k) * v6 (ix2 k d) := by
  pointwise [k0_pay1]

theorem hz2 : (![0, 0] : Fin 2 → ℕ) = fun _ => 0 := by decide
theorem hz3 : (![0, 0, 0] : Fin 3 → ℕ) = fun _ => 0 := by decide

theorem out_eq (x0 : Vec Ideal S1x1024x2048 .bf16) (x1 : Vec Ideal S1x1024x512 .f32) (x2 : Vec Ideal S1x1x512 .f32)
    (x3 : Vec Ideal S2048x512 .bf16) : out0_4 x0 x1 x2 x3 = k0_pay1 x1 x2 x0 x3 := by
  unfold out0_4
  rw [View.canon_unit_zero hz3, View.ld_unit_zero (S := S1x1024x512) hz3, View.ld_unit_zero (S := S1x1x512) hz3,
    View.ld_unit_zero (S := S1x1024x2048) hz3, View.ld_unit_zero (S := S2048x512) hz2]

variable (m : (ℓ : Loc nD τ sig) → Buf (Elt Ideal) ℓ)

abbrev a0 (c : Dev nD) : Vec Ideal S2x16384x2048 .bf16 := m ((c : Thread nD τ).loc main_arg0)
abbrev a1 (c : Dev nD) : Vec Ideal S2x16384x2048 .f32 := m ((c : Thread nD τ).loc main_arg1)
abbrev a2 (c : Dev nD) : Vec Ideal S2x2048 .f32 := m ((c : Thread nD τ).loc main_arg2)
abbrev a3 (c : Dev nD) : Vec Ideal S2048x2048 .f32 := m ((c : Thread nD τ).loc main_arg3)

theorem v0_at (c : Dev nD) (b : Fin 2) (d : Fin 2048) : (V m c main_v0 : Vec Ideal S2x1x2048 .f32) (ix3 b 0 d) = a2 m c (ix2 b d) := by
  unfold V; after_reads_at
theorem v1_at (c : Dev nD) (k d : Fin 2048) : (V m c main_v1 : Vec Ideal S2048x2048 .bf16) (ix2 k d) = a3 m c (ix2 k d) := by
  unfold V; after_reads_at

theorem index0 : ∀ t : Fin cfg0.N, win0_0.index t = ![t.val / 64, t.val / 4 % 16, 0] := (by decide +kernel : ∀ t : Fin grid0.N, _)
theorem index1 : ∀ t : Fin cfg0.N, win0_1.index t = ![t.val / 64, t.val / 4 % 16, t.val % 4] := (by decide +kernel : ∀ t : Fin grid0.N, _)
theorem index2 : ∀ t : Fin cfg0.N, win0_2.index t = ![t.val / 64, 0, t.val % 4] := (by decide +kernel : ∀ t : Fin grid0.N, _)
theorem index3 : ∀ t : Fin cfg0.N, win0_3.index t = ![0, t.val % 4] := (by decide +kernel : ∀ t : Fin grid0.N, _)
theorem index4 : ∀ t : Fin cfg0.N, win0_4.index t = ![t.val / 64, t.val / 4 % 16, t.val % 4] := (by decide +kernel : ∀ t : Fin grid0.N, _)
theorem flush4 : ∀ t : Fin cfg0.N, (cfg0.win 4).flush t = true := (by decide +kernel : ∀ t : Fin grid0.N, _)

/-- The grid point whose block an index lies in, and the index within it. -/
def pt (b : Fin 2) (s : Fin 16384) (d : Fin 2048) : Fin cfg0.N :=
  ⟨64 * b.val + 4 * (s.val / 1024) + d.val / 512, by
    have := b.isLt; have := s.isLt; have := d.isLt; show _ < 128; omega⟩
def lr (s : Fin 16384) : Fin 1024 := ⟨s.val % 1024, by omega⟩
def ld' (d : Fin 2048) : Fin 512 := ⟨d.val % 512, by omega⟩

section
variable (c : Dev nD) (b : Fin 2) (s : Fin 16384) (d : Fin 2048)

theorem b0_at (k : Fin 2048) : (iblk m c 0 (pt b s d) : Vec Ideal S1x1024x2048 .bf16) (ix3 0 (lr s) k) = a0 m c (ix3 b s k) := by
  have e : ∀ a, win0_0.index (pt b s d) a = (![_, _, _] : Fin 3 → Nat) a := congrFun (index0 _)
  have hb := b.isLt; have hs := s.isLt; have hd := d.isLt
  refine Eq.trans ?_ (congrFun (V_main_arg0 m c) (ix3 b s k))
  refine congrArg (V m c main_arg0 : Vec Ideal S2x16384x2048 .bf16) (funext fun a => Fin.ext ?_)
  match a with
  | ⟨0, _⟩ => show win0_0.index _ 0 * 1 + 1 * 0 = b.val; rw [e]; simp [pt]; omega
  | ⟨1, _⟩ => show win0_0.index _ 1 * 1024 + 1 * (s.val % 1024) = s.val; rw [e]; simp [pt]; omega
  | ⟨2, _⟩ => show win0_0.index _ 2 * 2048 + 1 * k.val = k.val; rw [e]; simp

theorem b1_at : (iblk m c 1 (pt b s d) : Vec Ideal S1x1024x512 .f32) (ix3 0 (lr s) (ld' d)) = a1 m c (ix3 b s d) := by
  have e : ∀ a, win0_1.index (pt b s d) a = (![_, _, _] : Fin 3 → Nat) a := congrFun (index1 _)
  have hb := b.isLt; have hs := s.isLt; have hd := d.isLt
  refine Eq.trans ?_ (congrFun (V_main_arg1 m c) (ix3 b s d))
  refine congrArg (V m c main_arg1 : Vec Ideal S2x16384x2048 .f32) (funext fun a => Fin.ext ?_)
  match a with
  | ⟨0, _⟩ => show win0_1.index _ 0 * 1 + 1 * 0 = b.val; rw [e]; simp [pt]; omega
  | ⟨1, _⟩ => show win0_1.index _ 1 * 1024 + 1 * (s.val % 1024) = s.val; rw [e]; simp [pt]; omega
  | ⟨2, _⟩ => show win0_1.index _ 2 * 512 + 1 * (d.val % 512) = d.val; rw [e]; simp [pt]; omega

theorem b2_at : (iblk m c 2 (pt b s d) : Vec Ideal S1x1x512 .f32) (ix3 0 0 (ld' d)) = a2 m c (ix2 b d) := by
  have e : ∀ a, win0_2.index (pt b s d) a = (![_, _, _] : Fin 3 → Nat) a := congrFun (index2 _)
  have hb := b.isLt; have hs := s.isLt; have hd := d.isLt
  refine Eq.trans ?_ (v0_at m c b d)
  refine congrArg (V m c main_v0 : Vec Ideal S2x1x2048 .f32) (funext fun a => Fin.ext ?_)
  match a with
  | ⟨0, _⟩ => show win0_2.index _ 0 * 1 + 1 * 0 = b.val; rw [e]; simp [pt]; omega
  | ⟨1, _⟩ => show win0_2.index _ 1 * 1 + 1 * 0 = 0; rw [e]; simp
  | ⟨2, _⟩ => show win0_2.index _ 2 * 512 + 1 * (d.val % 512) = d.val; rw [e]; simp [pt]; omega

theorem b3_at (k : Fin 2048) : (iblk m c 3 (pt b s d) : Vec Ideal S2048x512 .bf16) (ix2 k (ld' d)) = a3 m c (ix2 k d) := by
  have e : ∀ a, win0_3.index (pt b s d) a = (![_, _] : Fin 2 → Nat) a := congrFun (index3 _)
  have hb := b.isLt; have hs := s.isLt; have hd := d.isLt
  refine Eq.trans ?_ (v1_at m c k d)
  refine congrArg (V m c main_v1 : Vec Ideal S2048x2048 .bf16) (funext fun a => Fin.ext ?_)
  match a with
  | ⟨0, _⟩ => show win0_3.index _ 0 * 2048 + 1 * k.val = k.val; rw [e]; simp
  | ⟨1, _⟩ => show win0_3.index _ 1 * 512 + 1 * (d.val % 512) = d.val; rw [e]; simp [pt]; omega

/-- The kernel's result array at an index. -/
theorem result_at : ((dats m 0 c).arrAt 4 cfg0.N : Vec Ideal S2x16384x2048 .f32) (ix3 b s d)
    = outAt (a0 m c) (a1 m c) (a2 m c) (a3 m c) b s d := by
  have e : ∀ a, win0_4.index (pt b s d) a = (![_, _, _] : Fin 3 → Nat) a := congrFun (index4 _)
  have hb := b.isLt; have hs := s.isLt; have hd := d.isLt
  have hr := congrFun (blocks4 m c (pt b s d) (flush4 _)) (ix3 0 (lr s) (ld' d) : S1x1024x512.Idx)
  rw [flushed4, out_eq] at hr
  refine Eq.trans ?_ (hr.trans ?_)
  · rw [View.read_apply]
    refine congrArg ((dats m 0 c).arrAt 4 cfg0.N : Vec Ideal S2x16384x2048 .f32) (funext fun a => Fin.ext ?_)
    match a with
    | ⟨0, _⟩ => show b.val = win0_4.index _ 0 * 1 + 1 * 0; rw [e]; simp [pt]; omega
    | ⟨1, _⟩ => show s.val = win0_4.index _ 1 * 1024 + 1 * (s.val % 1024); rw [e]; simp [pt]; omega
    | ⟨2, _⟩ => show d.val = win0_4.index _ 2 * 512 + 1 * (d.val % 512); rw [e]; simp [pt]; omega
  · refine (pay1_at _ _ _ _ (lr s) (ld' d)).trans ?_
    simp only [b0_at, b1_at, b2_at, b3_at]
    rfl
end

/-- The reference's result at an index. -/
theorem ref_at (mg : Vec Ideal S2x16384x2048 .bf16) (h : Vec Ideal S2x16384x2048 .f32) (gt : Vec Ideal S2x2048 .f32)
    (w : Vec Ideal S2048x2048 .f32) (b : Fin 2) (s : Fin 16384) (d : Fin 2048) :
    val_main_v5 (F := Ideal) mg h gt w (ix3 b s d) = outAt mg h gt w b s d := by
  have el : ∀ k, lidx_main_v2 (ix3 b s d) k = ix3 b s k := fun k =>
    funext fun a => by match a with | ⟨0, _⟩ => rfl | ⟨1, _⟩ => rfl | ⟨2, _⟩ => rfl
  have er : ∀ k, ridx_main_v2 (ix3 b s d) k = ix2 k d := fun k =>
    funext fun a => by match a with | ⟨0, _⟩ => rfl | ⟨1, _⟩ => rfl
  have e : idx_main_v0 (idx_main_v3 (ix3 b s d)) = ix2 b d :=
    funext fun a => by match a with | ⟨0, _⟩ => rfl | ⟨1, _⟩ => rfl
  rw [val_main_v5_apply, val_main_v4_apply, val_main_v3_apply, val_main_v0_apply, val_main_v2_apply, e]
  simp only [el, er, val_main_v1_apply]
  rfl

/-- The kernel's result is the reference's of the same arguments. -/
theorem result_eq (c : Dev nD) : ((dats m 0 c).arrAt 4 cfg0.N : Vec Ideal S2x16384x2048 .f32)
    = val_main_v5 (F := Ideal) (a0 m c) (a1 m c) (a2 m c) (a3 m c) := by
  funext i
  obtain ⟨b, s, d, rfl⟩ : ∃ b s d, i = ix3 b s d := ⟨i 0, i 1, i 2, eq_ix3 i⟩
  exact (result_at m c b s d).trans (ref_at _ _ _ _ b s d).symm

end Cert.Proof.Out
end
-- ==== Proof.MixValue.lean ====
/-
  The mixer's end over the extended reals, three calls one after another: the modulation's projection, the merge and the
  output projection.  Each call's result array at an index, from the arrays the call is entered with; then the composition.
-/
module

public import proofs.«01_k».proof.Proof.Gen.MixIdeal.Frame
public import proofs.«01_k».proof.Proof.Gen.MixRefIdeal.Read
public import proofs.«01_k».proof.Proof.AdaValue
public import proofs.«01_k».proof.Proof.MergeValue
public import proofs.«01_k».proof.Proof.OutValue

@[expose] public section
set_option maxRecDepth 16384
noncomputable section
namespace Cert.Proof.Mix

open Cert.MixIdeal Cert.MixIdeal.Gen Cert.MixRefIdeal.Read
open Cert.Proof.Ada (silu adaAt)
open Cert.Proof.Out (outAt)
open Cert.Proof.Merge (gate colS colA mergeAt)
open Idealize.ShloMosaic Idealize.ShloMosaic.TcCoe Idealize.ShloMosaic.Tactic Idealize.ShloMosaic.Pointwise

theorem hz2 : (![0, 0] : Fin 2 → ℕ) = fun _ => 0 := by decide
theorem hz3 : (![0, 0, 0] : Fin 3 → ℕ) = fun _ => 0 := by decide

theorem out0_eq (x0 : Vec Ideal S2048x2 .f32) (x1 : Vec Ideal S2048x1024 .f32) (x2 : Vec Ideal S1x1024 .f32) :
    out0_3 x0 x1 x2 = k0_pay1 x0 x1 x2 := by
  unfold out0_3
  rw [View.canon_unit_zero hz2, View.ld_unit_zero (S := S2048x2) hz2, View.ld_unit_zero (S := S2048x1024) hz2,
    View.ld_unit_zero (S := S1x1024) hz2]

theorem out1_eq (x0 x1 : Vec Ideal S1x1024x2048 .bf16) (x2 x3 : Vec Ideal S1x1024x512 .bf16) (x4 x5 : Vec Ideal S2048x512 .bf16) :
    out1_6 x0 x1 x2 x3 x4 x5 = k1_pay1 (k1_pay2 x0 x4 x1 x5 x2 x3) := by
  unfold out1_6
  rw [View.canon_unit_zero hz3]
  simp only [View.ld_unit_zero (S := S1x1024x512) hz3, View.ld_unit_zero (S := S1x1024x2048) hz3,
    View.ld_unit_zero (S := S2048x512) hz2]

theorem out2_eq (x0 : Vec Ideal S1x1024x2048 .bf16) (x1 : Vec Ideal S1x1024x512 .f32) (x2 : Vec Ideal S1x1x512 .f32)
    (x3 : Vec Ideal S2048x512 .bf16) : out2_4 x0 x1 x2 x3 = k2_pay1 x1 x2 x0 x3 := by
  unfold out2_4
  rw [View.canon_unit_zero hz3, View.ld_unit_zero (S := S1x1024x512) hz3, View.ld_unit_zero (S := S1x1x512) hz3,
    View.ld_unit_zero (S := S1x1024x2048) hz3, View.ld_unit_zero (S := S2048x512) hz2]

section Regions
variable (V : (c : Dev nD) → (b : Ref sig .tc) → Buf (Elt Ideal) ((c : Thread nD τ).loc b)) (c : Dev nD)

theorem index0_0 : ∀ t : Fin cfg0.N, win0_0.index t = ![0, 0] := (by decide +kernel : ∀ t : Fin grid0.N, _)
theorem index0_1 : ∀ t : Fin cfg0.N, win0_1.index t = ![0, t.val] := (by decide +kernel : ∀ t : Fin grid0.N, _)
theorem index0_2 : ∀ t : Fin cfg0.N, win0_2.index t = ![0, t.val] := (by decide +kernel : ∀ t : Fin grid0.N, _)
theorem index0_3 : ∀ t : Fin cfg0.N, win0_3.index t = ![0, t.val] := (by decide +kernel : ∀ t : Fin grid0.N, _)
theorem flush0 : ∀ t : Fin cfg0.N, (cfg0.win 3).flush t = true := (by decide +kernel : ∀ t : Fin grid0.N, _)
theorem inj0 : ∀ t t' : Fin cfg0.N, win0_3.index t = win0_3.index t' → t = t' :=
  (by decide +kernel : ∀ t t' : Fin grid0.N, win0_3.index t = win0_3.index t' → t = t')

/-- A block of the result, read back, is what its grid point wrote: no two points write one block. -/
theorem block0 (t : Fin cfg0.N) :
    ((cfg0.win 3).blk t).view.read (Elt Ideal) ((dat0 V c).arrAt 3 cfg0.N) = (dat0 V c).flushed 3 t :=
  (dat0 V c).read_blk_arrAt_eq_flushed 3 (fun t t' _ _ hne => (cfg0.win 3).disjoint_blk fun h => hne (inj0 t t' h))
    cfg0.N t t.isLt (flush0 t)

/-- The grid point whose block a column lies in, and the column within it. -/
def ptn (n : Fin 18432) : Fin cfg0.N := ⟨n.val / 1024, by have := n.isLt; show _ < 18; omega⟩
def ln (n : Fin 18432) : Fin 1024 := ⟨n.val % 1024, by omega⟩

theorem b0_0 (n : Fin 18432) (k : Fin 2048) (b : Fin 2) : (iblk0 V c 0 (ptn n) : Vec Ideal S2048x2 .f32) (ix2 k b) = (V c main_v0 : Vec Ideal S2048x2 .f32) (ix2 k b) := by
  have e : ∀ a, win0_0.index (ptn n) a = (![_, _] : Fin 2 → Nat) a := congrFun (index0_0 _)

  refine congrArg (V c main_v0 : Vec Ideal S2048x2 .f32) (funext fun a => Fin.ext ?_)
  match a with
  | ⟨0, _⟩ => show win0_0.index _ 0 * 2048 + 1 * k.val = k.val; rw [e]; simp
  | ⟨1, _⟩ => show win0_0.index _ 1 * 2 + 1 * b.val = b.val; rw [e]; simp

theorem b0_1 (n : Fin 18432) (k : Fin 2048) : (iblk0 V c 1 (ptn n) : Vec Ideal S2048x1024 .f32) (ix2 k (ln n)) = (V c main_arg1 : Vec Ideal S2048x18432 .f32) (ix2 k n) := by
  have e : ∀ a, win0_1.index (ptn n) a = (![_, _] : Fin 2 → Nat) a := congrFun (index0_1 _)
  have hn := n.isLt
  refine congrArg (V c main_arg1 : Vec Ideal S2048x18432 .f32) (funext fun a => Fin.ext ?_)
  match a with
  | ⟨0, _⟩ => show win0_1.index _ 0 * 2048 + 1 * k.val = k.val; rw [e]; simp
  | ⟨1, _⟩ => show win0_1.index _ 1 * 1024 + 1 * (n.val % 1024) = n.val; rw [e]; simp [ptn]; omega

theorem b0_2 (n : Fin 18432) : (iblk0 V c 2 (ptn n) : Vec Ideal S1x1024 .f32) (ix2 0 (ln n)) = (V c main_v1 : Vec Ideal S1x18432 .f32) (ix2 0 n) := by
  have e : ∀ a, win0_2.index (ptn n) a = (![_, _] : Fin 2 → Nat) a := congrFun (index0_2 _)
  have hn := n.isLt
  refine congrArg (V c main_v1 : Vec Ideal S1x18432 .f32) (funext fun a => Fin.ext ?_)
  match a with
  | ⟨0, _⟩ => show win0_2.index _ 0 * 1 + 1 * 0 = 0; rw [e]; simp
  | ⟨1, _⟩ => show win0_2.index _ 1 * 1024 + 1 * (n.val % 1024) = n.val; rw [e]; simp [ptn]; omega

/-- The modulation's array at an index. -/
theorem ada_at (b : Fin 2) (n : Fin 18432) : ((dat0 V c).arrAt 3 cfg0.N : Vec Ideal S2x18432 .f32) (ix2 b n)
    = adaAt (fun i => (V c main_v0 : Vec Ideal S2048x2 .f32) (ix2 (i 1) (i 0))) (V c main_arg1)
      (fun i => (V c main_v1 : Vec Ideal S1x18432 .f32) (ix2 0 (i 0))) b n := by
  have e : ∀ a, win0_3.index (ptn n) a = (![_, _] : Fin 2 → Nat) a := congrFun (index0_3 _)
  have hn := n.isLt
  have hr := congrFun (block0 V c (ptn n)) (ix2 b (ln n) : S2x1024.Idx)
  have hf : (dat0 V c).flushed 3 (ptn n) = (cfg0.win 3).cut (grid0.coords (ptn n)) (out0_3 (iblk0 V c 0 (ptn n)) (iblk0 V c 1 (ptn n)) (iblk0 V c 2 (ptn n))) := by
    show (cfg0.win 3).cut (grid0.coords (ptn n)) ((dat0 V c).after 3 (ptn n)) = _
    rw [after0_3]
  rw [hf, out0_eq] at hr
  refine Eq.trans ?_ (hr.trans ?_)
  · rw [View.read_apply]
    refine congrArg ((dat0 V c).arrAt 3 cfg0.N : Vec Ideal S2x18432 .f32) (funext fun a => Fin.ext ?_)
    match a with
    | ⟨0, _⟩ => show b.val = win0_3.index _ 0 * 2 + 1 * b.val; rw [e]; simp
    | ⟨1, _⟩ => show n.val = win0_3.index _ 1 * 1024 + 1 * (n.val % 1024); rw [e]; simp [ptn]; omega
  · refine (Cert.Proof.Ada.pay1_at _ _ _ b (ln n)).trans ?_
    simp only [b0_0, b0_1, b0_2]
    rfl

theorem index1_0 : ∀ t : Fin cfg1.N, win1_0.index t = ![t.val / 64, t.val / 4 % 16, 0] := (by decide +kernel : ∀ t : Fin grid1.N, _)
theorem index1_1 : ∀ t : Fin cfg1.N, win1_1.index t = ![t.val / 64, t.val / 4 % 16, 0] := (by decide +kernel : ∀ t : Fin grid1.N, _)
theorem index1_2 : ∀ t : Fin cfg1.N, win1_2.index t = ![t.val / 64, t.val / 4 % 16, 20 + t.val % 4] := (by decide +kernel : ∀ t : Fin grid1.N, _)
theorem index1_3 : ∀ t : Fin cfg1.N, win1_3.index t = ![t.val / 64, t.val / 4 % 16, 24 + t.val % 4] := (by decide +kernel : ∀ t : Fin grid1.N, _)
theorem index1_4 : ∀ t : Fin cfg1.N, win1_4.index t = ![0, t.val % 4] := (by decide +kernel : ∀ t : Fin grid1.N, _)
theorem index1_5 : ∀ t : Fin cfg1.N, win1_5.index t = ![0, t.val % 4] := (by decide +kernel : ∀ t : Fin grid1.N, _)
theorem index1_6 : ∀ t : Fin cfg1.N, win1_6.index t = ![t.val / 64, t.val / 4 % 16, t.val % 4] := (by decide +kernel : ∀ t : Fin grid1.N, _)
theorem flush1 : ∀ t : Fin cfg1.N, (cfg1.win 6).flush t = true := (by decide +kernel : ∀ t : Fin grid1.N, _)
theorem inj1 : ∀ t t' : Fin cfg1.N, win1_6.index t = win1_6.index t' → t = t' :=
  (by decide +kernel : ∀ t t' : Fin grid1.N, win1_6.index t = win1_6.index t' → t = t')

/-- A block of the result, read back, is what its grid point wrote: no two points write one block. -/
theorem block1 (t : Fin cfg1.N) :
    ((cfg1.win 6).blk t).view.read (Elt Ideal) ((dat1 V c).arrAt 6 cfg1.N) = (dat1 V c).flushed 6 t :=
  (dat1 V c).read_blk_arrAt_eq_flushed 6 (fun t t' _ _ hne => (cfg1.win 6).disjoint_blk fun h => hne (inj1 t t' h))
    cfg1.N t t.isLt (flush1 t)

/-- The grid point whose block an index lies in, and the index within it. -/
def pt1 (b : Fin 2) (s : Fin 16384) (d : Fin 2048) : Fin cfg1.N :=
  ⟨64 * b.val + 4 * (s.val / 1024) + d.val / 512, by
    have := b.isLt; have := s.isLt; have := d.isLt; show _ < 128; omega⟩
def pt2 (b : Fin 2) (s : Fin 16384) (d : Fin 2048) : Fin cfg2.N :=
  ⟨64 * b.val + 4 * (s.val / 1024) + d.val / 512, by
    have := b.isLt; have := s.isLt; have := d.isLt; show _ < 128; omega⟩
def lr (s : Fin 16384) : Fin 1024 := ⟨s.val % 1024, by omega⟩
def lc (d : Fin 2048) : Fin 512 := ⟨d.val % 512, by omega⟩

variable (b : Fin 2) (s : Fin 16384) (d : Fin 2048)

theorem b1_0 (k : Fin 2048) : (iblk1 V c 0 (pt1 b s d) : Vec Ideal S1x1024x2048 .bf16) (ix3 0 (lr s) k) = (V c main_arg3 : Vec Ideal S2x16384x2048 .bf16) (ix3 b s k) := by
  have e : ∀ a, win1_0.index (pt1 b s d) a = (![_, _, _] : Fin 3 → Nat) a := congrFun (index1_0 _)
  have hb := b.isLt; have hs := s.isLt; have hd := d.isLt
  refine congrArg (V c main_arg3 : Vec Ideal S2x16384x2048 .bf16) (funext fun a => Fin.ext ?_)
  match a with
  | ⟨0, _⟩ => show win1_0.index _ 0 * 1 + 1 * 0 = b.val; rw [e]; simp [pt1]; omega
  | ⟨1, _⟩ => show win1_0.index _ 1 * 1024 + 1 * (s.val % 1024) = s.val; rw [e]; simp [pt1]; omega
  | ⟨2, _⟩ => show win1_0.index _ 2 * 2048 + 1 * k.val = k.val; rw [e]; simp

theorem b1_1 (k : Fin 2048) : (iblk1 V c 1 (pt1 b s d) : Vec Ideal S1x1024x2048 .bf16) (ix3 0 (lr s) k) = (V c main_arg4 : Vec Ideal S2x16384x2048 .bf16) (ix3 b s k) := by
  have e : ∀ a, win1_1.index (pt1 b s d) a = (![_, _, _] : Fin 3 → Nat) a := congrFun (index1_1 _)
  have hb := b.isLt; have hs := s.isLt; have hd := d.isLt
  refine congrArg (V c main_arg4 : Vec Ideal S2x16384x2048 .bf16) (funext fun a => Fin.ext ?_)
  match a with
  | ⟨0, _⟩ => show win1_1.index _ 0 * 1 + 1 * 0 = b.val; rw [e]; simp [pt1]; omega
  | ⟨1, _⟩ => show win1_1.index _ 1 * 1024 + 1 * (s.val % 1024) = s.val; rw [e]; simp [pt1]; omega
  | ⟨2, _⟩ => show win1_1.index _ 2 * 2048 + 1 * k.val = k.val; rw [e]; simp

theorem b1_2 : (iblk1 V c 2 (pt1 b s d) : Vec Ideal S1x1024x512 .bf16) (ix3 0 (lr s) (lc d)) = (V c main_arg5 : Vec Ideal S2x16384x14336 .bf16) (ix3 b s (colS d)) := by
  have e : ∀ a, win1_2.index (pt1 b s d) a = (![_, _, _] : Fin 3 → Nat) a := congrFun (index1_2 _)
  have hb := b.isLt; have hs := s.isLt; have hd := d.isLt
  refine congrArg (V c main_arg5 : Vec Ideal S2x16384x14336 .bf16) (funext fun a => Fin.ext ?_)
  match a with
  | ⟨0, _⟩ => show win1_2.index _ 0 * 1 + 1 * 0 = b.val; rw [e]; simp [pt1]; omega
  | ⟨1, _⟩ => show win1_2.index _ 1 * 1024 + 1 * (s.val % 1024) = s.val; rw [e]; simp [pt1]; omega
  | ⟨2, _⟩ => show win1_2.index _ 2 * 512 + 1 * (d.val % 512) = 10240 + d.val; rw [e]; simp [pt1]; omega

theorem b1_3 : (iblk1 V c 3 (pt1 b s d) : Vec Ideal S1x1024x512 .bf16) (ix3 0 (lr s) (lc d)) = (V c main_arg5 : Vec Ideal S2x16384x14336 .bf16) (ix3 b s (colA d)) := by
  have e : ∀ a, win1_3.index (pt1 b s d) a = (![_, _, _] : Fin 3 → Nat) a := congrFun (index1_3 _)
  have hb := b.isLt; have hs := s.isLt; have hd := d.isLt
  refine congrArg (V c main_arg5 : Vec Ideal S2x16384x14336 .bf16) (funext fun a => Fin.ext ?_)
  match a with
  | ⟨0, _⟩ => show win1_3.index _ 0 * 1 + 1 * 0 = b.val; rw [e]; simp [pt1]; omega
  | ⟨1, _⟩ => show win1_3.index _ 1 * 1024 + 1 * (s.val % 1024) = s.val; rw [e]; simp [pt1]; omega
  | ⟨2, _⟩ => show win1_3.index _ 2 * 512 + 1 * (d.val % 512) = 12288 + d.val; rw [e]; simp [pt1]; omega

theorem b1_4 (k : Fin 2048) : (iblk1 V c 4 (pt1 b s d) : Vec Ideal S2048x512 .bf16) (ix2 k (lc d)) = (V c main_v4 : Vec Ideal S2048x2048 .bf16) (ix2 k d) := by
  have e : ∀ a, win1_4.index (pt1 b s d) a = (![_, _] : Fin 2 → Nat) a := congrFun (index1_4 _)
  have hb := b.isLt; have hs := s.isLt; have hd := d.isLt
  refine congrArg (V c main_v4 : Vec Ideal S2048x2048 .bf16) (funext fun a => Fin.ext ?_)
  match a with
  | ⟨0, _⟩ => show win1_4.index _ 0 * 2048 + 1 * k.val = k.val; rw [e]; simp
  | ⟨1, _⟩ => show win1_4.index _ 1 * 512 + 1 * (d.val % 512) = d.val; rw [e]; simp [pt1]; omega

theorem b1_5 (k : Fin 2048) : (iblk1 V c 5 (pt1 b s d) : Vec Ideal S2048x512 .bf16) (ix2 k (lc d)) = (V c main_v5 : Vec Ideal S2048x2048 .bf16) (ix2 k d) := by
  have e : ∀ a, win1_5.index (pt1 b s d) a = (![_, _] : Fin 2 → Nat) a := congrFun (index1_5 _)
  have hb := b.isLt; have hs := s.isLt; have hd := d.isLt
  refine congrArg (V c main_v5 : Vec Ideal S2048x2048 .bf16) (funext fun a => Fin.ext ?_)
  match a with
  | ⟨0, _⟩ => show win1_5.index _ 0 * 2048 + 1 * k.val = k.val; rw [e]; simp
  | ⟨1, _⟩ => show win1_5.index _ 1 * 512 + 1 * (d.val % 512) = d.val; rw [e]; simp [pt1]; omega

/-- The merged array at an index. -/
theorem merge_at : ((dat1 V c).arrAt 6 cfg1.N : Vec Ideal S2x16384x2048 .bf16) (ix3 b s d)
    = mergeAt (V c main_arg3) (V c main_arg4) (V c main_arg5) (V c main_v4) (V c main_v5) b s d := by
  have e : ∀ a, win1_6.index (pt1 b s d) a = (![_, _, _] : Fin 3 → Nat) a := congrFun (index1_6 _)
  have hb := b.isLt; have hs := s.isLt; have hd := d.isLt
  have hr := congrFun (block1 V c (pt1 b s d)) (ix3 0 (lr s) (lc d) : S1x1024x512.Idx)
  have hf : (dat1 V c).flushed 6 (pt1 b s d) = (cfg1.win 6).cut (grid1.coords (pt1 b s d)) (out1_6 (iblk1 V c 0 (pt1 b s d)) (iblk1 V c 1 (pt1 b s d)) (iblk1 V c 2 (pt1 b s d)) (iblk1 V c 3 (pt1 b s d)) (iblk1 V c 4 (pt1 b s d)) (iblk1 V c 5 (pt1 b s d))) := by
    show (cfg1.win 6).cut (grid1.coords (pt1 b s d)) ((dat1 V c).after 6 (pt1 b s d)) = _
    rw [after1_6]
  rw [hf, out1_eq] at hr
  refine Eq.trans ?_ (hr.trans ?_)
  · rw [View.read_apply]
    refine congrArg ((dat1 V c).arrAt 6 cfg1.N : Vec Ideal S2x16384x2048 .bf16) (funext fun a => Fin.ext ?_)
    match a with
    | ⟨0, _⟩ => show b.val = win1_6.index _ 0 * 1 + 1 * 0; rw [e]; simp [pt1]; omega
    | ⟨1, _⟩ => show s.val = win1_6.index _ 1 * 1024 + 1 * (s.val % 1024); rw [e]; simp [pt1]; omega
    | ⟨2, _⟩ => show d.val = win1_6.index _ 2 * 512 + 1 * (d.val % 512); rw [e]; simp [pt1]; omega
  · refine (Cert.Proof.Merge.pay_at _ _ _ _ _ _ (lr s) (lc d)).trans ?_
    simp only [b1_0, b1_1, b1_2, b1_3, b1_4, b1_5]
    rfl

theorem index2_0 : ∀ t : Fin cfg2.N, win2_0.index t = ![t.val / 64, t.val / 4 % 16, 0] := (by decide +kernel : ∀ t : Fin grid2.N, _)
theorem index2_1 : ∀ t : Fin cfg2.N, win2_1.index t = ![t.val / 64, t.val / 4 % 16, t.val % 4] := (by decide +kernel : ∀ t : Fin grid2.N, _)
theorem index2_2 : ∀ t : Fin cfg2.N, win2_2.index t = ![t.val / 64, 0, t.val % 4] := (by decide +kernel : ∀ t : Fin grid2.N, _)
theorem index2_3 : ∀ t : Fin cfg2.N, win2_3.index t = ![0, t.val % 4] := (by decide +kernel : ∀ t : Fin grid2.N, _)
theorem index2_4 : ∀ t : Fin cfg2.N, win2_4.index t = ![t.val / 64, t.val / 4 % 16, t.val % 4] := (by decide +kernel : ∀ t : Fin grid2.N, _)
theorem flush2 : ∀ t : Fin cfg2.N, (cfg2.win 4).flush t = true := (by decide +kernel : ∀ t : Fin grid2.N, _)
theorem inj2 : ∀ t t' : Fin cfg2.N, win2_4.index t = win2_4.index t' → t = t' :=
  (by decide +kernel : ∀ t t' : Fin grid2.N, win2_4.index t = win2_4.index t' → t = t')

/-- A block of the result, read back, is what its grid point wrote: no two points write one block. -/
theorem block2 (t : Fin cfg2.N) :
    ((cfg2.win 4).blk t).view.read (Elt Ideal) ((dat2 V c).arrAt 4 cfg2.N) = (dat2 V c).flushed 4 t :=
  (dat2 V c).read_blk_arrAt_eq_flushed 4 (fun t t' _ _ hne => (cfg2.win 4).disjoint_blk fun h => hne (inj2 t t' h))
    cfg2.N t t.isLt (flush2 t)

theorem b2_0 (k : Fin 2048) : (iblk2 V c 0 (pt2 b s d) : Vec Ideal S1x1024x2048 .bf16) (ix3 0 (lr s) k) = (V c main_v6 : Vec Ideal S2x16384x2048 .bf16) (ix3 b s k) := by
  have e : ∀ a, win2_0.index (pt2 b s d) a = (![_, _, _] : Fin 3 → Nat) a := congrFun (index2_0 _)
  have hb := b.isLt; have hs := s.isLt; have hd := d.isLt
  refine congrArg (V c main_v6 : Vec Ideal S2x16384x2048 .bf16) (funext fun a => Fin.ext ?_)
  match a with
  | ⟨0, _⟩ => show win2_0.index _ 0 * 1 + 1 * 0 = b.val; rw [e]; simp [pt2]; omega
  | ⟨1, _⟩ => show win2_0.index _ 1 * 1024 + 1 * (s.val % 1024) = s.val; rw [e]; simp [pt2]; omega
  | ⟨2, _⟩ => show win2_0.index _ 2 * 2048 + 1 * k.val = k.val; rw [e]; simp

theorem b2_1 : (iblk2 V c 1 (pt2 b s d) : Vec Ideal S1x1024x512 .f32) (ix3 0 (lr s) (lc d)) = (V c main_arg6 : Vec Ideal S2x16384x2048 .f32) (ix3 b s d) := by
  have e : ∀ a, win2_1.index (pt2 b s d) a = (![_, _, _] : Fin 3 → Nat) a := congrFun (index2_1 _)
  have hb := b.isLt; have hs := s.isLt; have hd := d.isLt
  refine congrArg (V c main_arg6 : Vec Ideal S2x16384x2048 .f32) (funext fun a => Fin.ext ?_)
  match a with
  | ⟨0, _⟩ => show win2_1.index _ 0 * 1 + 1 * 0 = b.val; rw [e]; simp [pt2]; omega
  | ⟨1, _⟩ => show win2_1.index _ 1 * 1024 + 1 * (s.val % 1024) = s.val; rw [e]; simp [pt2]; omega
  | ⟨2, _⟩ => show win2_1.index _ 2 * 512 + 1 * (d.val % 512) = d.val; rw [e]; simp [pt2]; omega

theorem b2_2 : (iblk2 V c 2 (pt2 b s d) : Vec Ideal S1x1x512 .f32) (ix3 0 0 (lc d)) = (V c main_v8 : Vec Ideal S2x1x2048 .f32) (ix3 b 0 d) := by
  have e : ∀ a, win2_2.index (pt2 b s d) a = (![_, _, _] : Fin 3 → Nat) a := congrFun (index2_2 _)
  have hb := b.isLt; have hs := s.isLt; have hd := d.isLt
  refine congrArg (V c main_v8 : Vec Ideal S2x1x2048 .f32) (funext fun a => Fin.ext ?_)
  match a with
  | ⟨0, _⟩ => show win2_2.index _ 0 * 1 + 1 * 0 = b.val; rw [e]; simp [pt2]; omega
  | ⟨1, _⟩ => show win2_2.index _ 1 * 1 + 1 * 0 = 0; rw [e]; simp
  | ⟨2, _⟩ => show win2_2.index _ 2 * 512 + 1 * (d.val % 512) = d.val; rw [e]; simp [pt2]; omega

theorem b2_3 (k : Fin 2048) : (iblk2 V c 3 (pt2 b s d) : Vec Ideal S2048x512 .bf16) (ix2 k (lc d)) = (V c main_v9 : Vec Ideal S2048x2048 .bf16) (ix2 k d) := by
  have e : ∀ a, win2_3.index (pt2 b s d) a = (![_, _] : Fin 2 → Nat) a := congrFun (index2_3 _)
  have hb := b.isLt; have hs := s.isLt; have hd := d.isLt
  refine congrArg (V c main_v9 : Vec Ideal S2048x2048 .bf16) (funext fun a => Fin.ext ?_)
  match a with
  | ⟨0, _⟩ => show win2_3.index _ 0 * 2048 + 1 * k.val = k.val; rw [e]; simp
  | ⟨1, _⟩ => show win2_3.index _ 1 * 512 + 1 * (d.val % 512) = d.val; rw [e]; simp [pt2]; omega

/-- The output projection's array at an index. -/
theorem out_at : ((dat2 V c).arrAt 4 cfg2.N : Vec Ideal S2x16384x2048 .f32) (ix3 b s d)
    = outAt (V c main_v6) (V c main_arg6) (fun i => (V c main_v8 : Vec Ideal S2x1x2048 .f32) (ix3 (i 0) 0 (i 1))) (V c main_v9) b s d := by
  have e : ∀ a, win2_4.index (pt2 b s d) a = (![_, _, _] : Fin 3 → Nat) a := congrFun (index2_4 _)
  have hb := b.isLt; have hs := s.isLt; have hd := d.isLt
  have hr := congrFun (block2 V c (pt2 b s d)) (ix3 0 (lr s) (lc d) : S1x1024x512.Idx)
  have hf : (dat2 V c).flushed 4 (pt2 b s d) = (cfg2.win 4).cut (grid2.coords (pt2 b s d)) (out2_4 (iblk2 V c 0 (pt2 b s d)) (iblk2 V c 1 (pt2 b s d)) (iblk2 V c 2 (pt2 b s d)) (iblk2 V c 3 (pt2 b s d))) := by
    show (cfg2.win 4).cut (grid2.coords (pt2 b s d)) ((dat2 V c).after 4 (pt2 b s d)) = _
    rw [after2_4]
  rw [hf, out2_eq] at hr
  refine Eq.trans ?_ (hr.trans ?_)
  · rw [View.read_apply]
    refine congrArg ((dat2 V c).arrAt 4 cfg2.N : Vec Ideal S2x16384x2048 .f32) (funext fun a => Fin.ext ?_)
    match a with
    | ⟨0, _⟩ => show b.val = win2_4.index _ 0 * 1 + 1 * 0; rw [e]; simp [pt2]; omega
    | ⟨1, _⟩ => show s.val = win2_4.index _ 1 * 1024 + 1 * (s.val % 1024); rw [e]; simp [pt2]; omega
    | ⟨2, _⟩ => show d.val = win2_4.index _ 2 * 512 + 1 * (d.val % 512); rw [e]; simp [pt2]; omega
  · refine (Cert.Proof.Out.pay1_at _ _ _ _ (lr s) (lc d)).trans ?_
    simp only [b2_0, b2_1, b2_2, b2_3]
    rfl

end Regions

variable (m : (ℓ : Loc nD τ sig) → Buf (Elt Ideal) ℓ) (ρ : Dev nD → PrngReg)

abbrev a0 (c : Dev nD) : Vec Ideal S2x2048 .f32 := m ((c : Thread nD τ).loc main_arg0)
abbrev a1 (c : Dev nD) : Vec Ideal S2048x18432 .f32 := m ((c : Thread nD τ).loc main_arg1)
abbrev a2 (c : Dev nD) : Vec Ideal S18432 .f32 := m ((c : Thread nD τ).loc main_arg2)
abbrev a3 (c : Dev nD) : Vec Ideal S2x16384x2048 .bf16 := m ((c : Thread nD τ).loc main_arg3)
abbrev a4 (c : Dev nD) : Vec Ideal S2x16384x2048 .bf16 := m ((c : Thread nD τ).loc main_arg4)
abbrev a5 (c : Dev nD) : Vec Ideal S2x16384x14336 .bf16 := m ((c : Thread nD τ).loc main_arg5)
abbrev a6 (c : Dev nD) : Vec Ideal S2x16384x2048 .f32 := m ((c : Thread nD τ).loc main_arg6)
abbrev a7 (c : Dev nD) : Vec Ideal S2048x2048 .f32 := m ((c : Thread nD τ).loc main_arg7)
abbrev a8 (c : Dev nD) : Vec Ideal S2048x2048 .f32 := m ((c : Thread nD τ).loc main_arg8)
abbrev a9 (c : Dev nD) : Vec Ideal S2048x2048 .f32 := m ((c : Thread nD τ).loc main_arg9)

section
variable (c : Dev nD)

theorem arg_at1 (a : Ref sig .tc) (h : a ∈ argRefs) : V1 m ρ c a = m ((c : Thread nD τ).loc a) := W1_args m ρ c a h
theorem arg_at3 (a : Ref sig .tc) (h : a ∈ argRefs) : V3 m ρ c a = m ((c : Thread nD τ).loc a) := W3_args m ρ c a h
theorem arg_at5 (a : Ref sig .tc) (h : a ∈ argRefs) : V5 m ρ c a = m ((c : Thread nD τ).loc a) := W5_args m ρ c a h

/-- The host's arrays, each at an index, from the contents before the host code. -/
theorem v0_at (k : Fin 2048) (b : Fin 2) : (V1 m ρ c main_v0 : Vec Ideal S2048x2 .f32) (ix2 k b) = a0 m c (ix2 b k) := by
  show (W1 m ρ c (Proc.devRef .tc main_v0) : Vec Ideal S2048x2 .f32) (ix2 k b) = _
  unfold W1; after_reads_at
theorem v1_at (n : Fin 18432) : (V1 m ρ c main_v1 : Vec Ideal S1x18432 .f32) (ix2 0 n) = a2 m c (ix1 n) := by
  show (W1 m ρ c (Proc.devRef .tc main_v1) : Vec Ideal S1x18432 .f32) (ix2 0 n) = _
  unfold W1; after_reads_at
theorem v4_at (X : Valuation τ sig (Elt Ideal)) (k d : Fin 2048) :
    (StableHlo.after hostOps1 X (Proc.devRef .tc main_v4) : Vec Ideal S2048x2048 .bf16) (ix2 k d) = (X (Proc.devRef .tc main_arg7) : Vec Ideal S2048x2048 .f32) (ix2 k d) := by
  after_reads_at
theorem v5_at (X : Valuation τ sig (Elt Ideal)) (k d : Fin 2048) :
    (StableHlo.after hostOps1 X (Proc.devRef .tc main_v5) : Vec Ideal S2048x2048 .bf16) (ix2 k d) = (X (Proc.devRef .tc main_arg8) : Vec Ideal S2048x2048 .f32) (ix2 k d) := by
  after_reads_at
theorem v9_at (X : Valuation τ sig (Elt Ideal)) (k d : Fin 2048) :
    (StableHlo.after hostOps2 X (Proc.devRef .tc main_v9) : Vec Ideal S2048x2048 .bf16) (ix2 k d) = (X (Proc.devRef .tc main_arg9) : Vec Ideal S2048x2048 .f32) (ix2 k d) := by
  after_reads_at

/-- The column of the modulation that holds the mixer's gate. -/
def colG (d : Fin 2048) : Fin 18432 := ⟨10240 + d.val, by omega⟩

theorem v3_at (X : Valuation τ sig (Elt Ideal)) (b : Fin 2) (d : Fin 2048) :
    (StableHlo.after hostOps1 X (Proc.devRef .tc main_v3) : Vec Ideal S2x9x1x2048 .f32) (ix4 b 5 0 d) = (X (Proc.devRef .tc main_v2) : Vec Ideal S2x18432 .f32) (ix2 b (colG d)) := by
  after_reads_at
  rfl
theorem v8_at (X : Valuation τ sig (Elt Ideal)) (b : Fin 2) (d : Fin 2048) :
    (StableHlo.after hostOps2 X (Proc.devRef .tc main_v8) : Vec Ideal S2x1x2048 .f32) (ix3 b 0 d) = (X (Proc.devRef .tc main_v3) : Vec Ideal S2x9x1x2048 .f32) (ix4 b 5 0 d) := by
  after_reads_at

/-- The modulation's array after the first call. -/
theorem mod_at (b : Fin 2) (n : Fin 18432) : (W2 m ρ c (Proc.devRef .tc main_v2) : Vec Ideal S2x18432 .f32) (ix2 b n)
    = adaAt (a0 m c) (a1 m c) (a2 m c) b n := by
  refine (congrFun (W2_arr m ρ c 3) (ix2 b n)).trans ((ada_at (V1 m ρ) c b n).trans ?_)
  unfold adaAt
  refine congrArg₂ (· + ·) (Finset.sum_congr rfl fun k _ => congrArg₂ (· * ·) ?_ (congrArg silu (v0_at m ρ c k b))) (v1_at m ρ c n)
  exact congrFun (arg_at1 m ρ c main_arg1 (by decide)) (ix2 k n)

/-- The mixer's gate as the last call reads it. -/
theorem gate_at (b : Fin 2) (d : Fin 2048) : (V5 m ρ c main_v8 : Vec Ideal S2x1x2048 .f32) (ix3 b 0 d)
    = adaAt (a0 m c) (a1 m c) (a2 m c) b (colG d) := by
  refine (v8_at (W4 m ρ c) b d).trans ?_
  refine (congrFun (W4_of m ρ c main_v3 (by decide)) (ix4 b 5 0 d)).trans ?_
  exact (v3_at (W2 m ρ c) b d).trans (mod_at m ρ c b (colG d))

/-- The weights the calls read are the arguments. -/
theorem wS : (V3 m ρ c main_v4 : Vec Ideal S2048x2048 .bf16) = a7 m c := by
  funext i
  obtain ⟨k, d, rfl⟩ : ∃ k d, i = ix2 k d := ⟨i 0, i 1, eq_ix2 i⟩
  exact (v4_at (W2 m ρ c) k d).trans (congrFun (W2_args m ρ c main_arg7 (by decide)) (ix2 k d))
theorem wA : (V3 m ρ c main_v5 : Vec Ideal S2048x2048 .bf16) = a8 m c := by
  funext i
  obtain ⟨k, d, rfl⟩ : ∃ k d, i = ix2 k d := ⟨i 0, i 1, eq_ix2 i⟩
  exact (v5_at (W2 m ρ c) k d).trans (congrFun (W2_args m ρ c main_arg8 (by decide)) (ix2 k d))
theorem wO : (V5 m ρ c main_v9 : Vec Ideal S2048x2048 .bf16) = a9 m c := by
  funext i
  obtain ⟨k, d, rfl⟩ : ∃ k d, i = ix2 k d := ⟨i 0, i 1, eq_ix2 i⟩
  exact (v9_at (W4 m ρ c) k d).trans (congrFun (W4_args m ρ c main_arg9 (by decide)) (ix2 k d))

/-- The merged array as the last call reads it. -/
def merged (ys ya : Vec Ideal S2x16384x2048 .bf16) (u : Vec Ideal S2x16384x14336 .bf16) (ws wa : Vec Ideal S2048x2048 .f32) :
    Vec Ideal S2x16384x2048 .bf16 := fun i => mergeAt ys ya u ws wa (i 0) (i 1) (i 2)
def gates (x : Vec Ideal S2x2048 .f32) (w : Vec Ideal S2048x18432 .f32) (bias : Vec Ideal S18432 .f32) : Vec Ideal S2x2048 .f32 :=
  fun i => adaAt x w bias (i 0) (colG (i 1))

theorem merge_congr {p p' q q' : Vec Ideal S2x16384x2048 .bf16} {u u' : Vec Ideal S2x16384x14336 .bf16} {w w' z z' : Vec Ideal S2048x2048 .f32}
    (h1 : p = p') (h2 : q = q') (h3 : u = u') (h4 : w = w') (h5 : z = z') (b : Fin 2) (s : Fin 16384) (d : Fin 2048) :
    mergeAt p q u w z b s d = mergeAt p' q' u' w' z' b s d := by subst h1 h2 h3 h4 h5; rfl
theorem out_congr {p p' : Vec Ideal S2x16384x2048 .bf16} {q q' : Vec Ideal S2x16384x2048 .f32} {g g' : Vec Ideal S2x2048 .f32} {w w' : Vec Ideal S2048x2048 .f32}
    (h1 : p = p') (h2 : q = q') (h3 : g = g') (h4 : w = w') (b : Fin 2) (s : Fin 16384) (d : Fin 2048) :
    outAt p q g w b s d = outAt p' q' g' w' b s d := by subst h1 h2 h3 h4; rfl

theorem merged_eq : (V5 m ρ c main_v6 : Vec Ideal S2x16384x2048 .bf16) = merged (a3 m c) (a4 m c) (a5 m c) (a7 m c) (a8 m c) := by
  funext i
  obtain ⟨b, s, d, rfl⟩ : ∃ b s d, i = ix3 b s d := ⟨i 0, i 1, i 2, eq_ix3 i⟩
  refine (congrFun (W5_of m ρ c main_v6 (by decide)) (ix3 b s d)).trans ?_
  refine (congrFun (W4_arr m ρ c 6) (ix3 b s d)).trans ((merge_at (V3 m ρ) c b s d).trans ?_)
  have e3 : (V3 m ρ c main_arg3 : Vec Ideal S2x16384x2048 .bf16) = a3 m c := arg_at3 m ρ c main_arg3 (by decide)
  have e4 : (V3 m ρ c main_arg4 : Vec Ideal S2x16384x2048 .bf16) = a4 m c := arg_at3 m ρ c main_arg4 (by decide)
  have e5 : (V3 m ρ c main_arg5 : Vec Ideal S2x16384x14336 .bf16) = a5 m c := arg_at3 m ρ c main_arg5 (by decide)
  exact merge_congr e3 e4 e5 (wS m ρ c) (wA m ρ c) b s d

/-- The result array of the three calls at an index. -/
theorem result_at (b : Fin 2) (s : Fin 16384) (d : Fin 2048) :
    ((dat2 (V5 m ρ) c).arrAt 4 cfg2.N : Vec Ideal S2x16384x2048 .f32) (ix3 b s d)
      = outAt (merged (a3 m c) (a4 m c) (a5 m c) (a7 m c) (a8 m c)) (a6 m c) (gates (a0 m c) (a1 m c) (a2 m c)) (a9 m c) b s d := by
  refine (out_at (V5 m ρ) c b s d).trans ?_
  have e6 : (V5 m ρ c main_arg6 : Vec Ideal S2x16384x2048 .f32) = a6 m c := arg_at5 m ρ c main_arg6 (by decide)
  have eg : (fun i => (V5 m ρ c main_v8 : Vec Ideal S2x1x2048 .f32) (ix3 (i 0) 0 (i 1)) : Vec Ideal S2x2048 .f32)
      = gates (a0 m c) (a1 m c) (a2 m c) := funext fun i => gate_at m ρ c (i 0) (i 1)
  exact out_congr (merged_eq m ρ c) e6 eg (wO m ρ c) b s d
end

/-- The reference's gate, from its own modulation. -/
theorem ref_gate (x : Vec Ideal S2x2048 .f32) (w : Vec Ideal S2048x18432 .f32) (bias : Vec Ideal S18432 .f32)
    (b : Fin 2) (s : Fin 16384) (d : Fin 2048) :
    val_main_v30 (F := Ideal) x w bias (ix3 b s d) = gates x w bias (ix2 b d) := by
  have hb := b.isLt; have hd := d.isLt
  have e : idx_main_v5 (idx_main_v6 (idx_main_v7 (idx_main_v28 (idx_main_v30 (ix3 b s d))))) = ix2 b (colG d) := by
    refine funext fun a => Fin.ext ?_
    match a with
    | ⟨0, _⟩ =>
      show (((b.val * 2048 + d.val) / 2048 * 9 + (5 + 0)) * 2048 + (b.val * 2048 + d.val) % 2048) / 18432 = b.val
      omega
    | ⟨1, _⟩ =>
      show (((b.val * 2048 + d.val) / 2048 * 9 + (5 + 0)) * 2048 + (b.val * 2048 + d.val) % 2048) % 18432 = 10240 + d.val
      omega
  rw [val_main_v30_apply, val_main_v28_apply, val_main_v7_apply, val_main_v6_apply, val_main_v5_apply, e]
  exact Cert.Proof.Ada.ref_at x w bias b (colG d)

/-- The reference's merged rows. -/
theorem ref_merged (ys ya : Vec Ideal S2x16384x2048 .bf16) (u : Vec Ideal S2x16384x14336 .bf16) (ws wa : Vec Ideal S2048x2048 .f32)
    (b : Fin 2) (s : Fin 16384) (k : Fin 2048) :
    val_main_v27 (F := Ideal) ys ya u ws wa (ix3 b s k) = merged ys ya u ws wa (ix3 b s k) :=
  Cert.Proof.Merge.ref_at ys ya u ws wa b s k

/-- The reference's result at an index. -/
theorem ref_at (x : Vec Ideal S2x2048 .f32) (w : Vec Ideal S2048x18432 .f32) (bias : Vec Ideal S18432 .f32)
    (ys ya : Vec Ideal S2x16384x2048 .bf16) (u : Vec Ideal S2x16384x14336 .bf16) (h : Vec Ideal S2x16384x2048 .f32)
    (ws wa wo : Vec Ideal S2048x2048 .f32) (b : Fin 2) (s : Fin 16384) (d : Fin 2048) :
    val_main_v32 (F := Ideal) x w bias ys ya u h ws wa wo (ix3 b s d)
      = outAt (merged ys ya u ws wa) h (gates x w bias) wo b s d := by
  have el : ∀ k, lidx_main_v29 (ix3 b s d) k = ix3 b s k := fun k =>
    funext fun a => by match a with | ⟨0, _⟩ => rfl | ⟨1, _⟩ => rfl | ⟨2, _⟩ => rfl
  have er : ∀ k, ridx_main_v29 (ix3 b s d) k = ix2 k d := fun k =>
    funext fun a => by match a with | ⟨0, _⟩ => rfl | ⟨1, _⟩ => rfl
  rw [val_main_v32_apply, val_main_v31_apply, val_main_v29_apply, ref_gate]
  simp only [el, er, ref_merged]
  rfl

/-- The kernels' result is the reference's of the same arguments. -/
theorem result_eq (c : Dev nD) : ((dat2 (V5 m ρ) c).arrAt 4 cfg2.N : Vec Ideal S2x16384x2048 .f32)
    = val_main_v32 (F := Ideal) (a0 m c) (a1 m c) (a2 m c) (a3 m c) (a4 m c) (a5 m c) (a6 m c) (a7 m c) (a8 m c) (a9 m c) := by
  funext i
  obtain ⟨b, s, d, rfl⟩ : ∃ b s d, i = ix3 b s d := ⟨i 0, i 1, i 2, eq_ix3 i⟩
  exact (result_at m ρ c b s d).trans (ref_at _ _ _ _ _ _ _ _ _ _ b s d).symm

end Cert.Proof.Mix
end
-- ==== Proof.PrepBlock.lean ====
/-
  The preparation kernel's payloads at an index, over the extended reals.

  Each query or key head of a position is divided by the root of its mean square and scaled by its weights; queries are
  then scaled by a constant. Every payload of the body is read at an index in these terms, or as one of the rows the
  kernel appends to them.
-/
module

public import proofs.«01_k».proof.Proof.Gen.PrepIdeal.Frame
public import Idealize.ShloMosaic.Lib.Pointwise
public import Idealize.ShloMosaic.Lib.StableHlo.ReadAt

@[expose] public section
set_option maxRecDepth 16384
noncomputable section
namespace Cert.Proof.Prep

open Cert.PrepIdeal Cert.PrepIdeal.Gen
open Idealize.ShloMosaic Idealize.ShloMosaic.TcCoe Idealize.ShloMosaic.Tactic Idealize.ShloMosaic.Pointwise

/-- A float constant of the programs, as an extended real. -/
abbrev lit (w : BitVec 32) : EReal := Ideal.ofBits .f32 w

/-- One head's features `x` divided by the root of their mean square, times the weights `w`. -/
def headNorm (x w : Fin 128 → EReal) (d : Fin 128) : EReal :=
  x d * Ideal.rsqrt (Ideal.div (∑ k : Fin 128, x k * x k) (lit 0x43000000#32) + lit 0x358637BD#32) * w d

/-- Feature `d` of query head `h` at row `r` of a block. -/
def qAt (x0 : Vec Ideal S1x256x2048 .bf16) (w : Vec Ideal S1x128 .f32) (h : Fin 16) (d : Fin 128) (r : Fin 256) : EReal :=
  headNorm (fun k => x0 (ix3 0 r (⟨128 * h.val + k.val, by omega⟩ : Fin 2048))) (fun k => w (ix2 0 k)) d * lit 0x3E0293EE#32

/-- Feature `d` of key head `h` at row `r` of a block. -/
def kAt (x1 : Vec Ideal S1x256x512 .bf16) (w : Vec Ideal S1x128 .f32) (h : Fin 4) (r : Fin 256) (d : Fin 128) : EReal :=
  headNorm (fun k => x1 (ix3 0 r (⟨128 * h.val + k.val, by omega⟩ : Fin 512))) (fun k => w (ix2 0 k)) d

/-- Feature `d` of value head `h` at row `r` of a block. -/
def vAt (x2 : Vec Ideal S1x256x512 .bf16) (h : Fin 4) (d : Fin 128) (r : Fin 256) : EReal :=
  x2 (ix3 0 r (⟨128 * h.val + d.val, by omega⟩ : Fin 512))

/-- Feature `d` of indexer query head `h`, at row `r` of the `u`-th sixteen rows of a block. -/
def iAt (x3 : Vec Ideal S1x256x1024 .bf16) (u h r : Fin 16) (d : Fin 64) : EReal :=
  x3 (ix3 0 (⟨u.val * 16 + r.val, by omega⟩ : Fin 256) (⟨64 * h.val + d.val, by omega⟩ : Fin 1024))

section
variable (x0 : Vec Ideal S1x256x2048 .bf16) (x1 x2 : Vec Ideal S1x256x512 .bf16) (x3 : Vec Ideal S1x256x1024 .bf16)
  (x4 : Vec Ideal S1x256x128 .f32) (x5 : Vec Ideal S1x256x1 .i32) (w : Vec Ideal S1x128 .f32) (y : Vec Ideal S1x128x1 .f32)

theorem q0_at (d : Fin 128) (r : Fin 256) : k0_pay4 (F := Ideal) x0 w (ix4 0 0 d r) = qAt x0 w 0 d r := by
  pointwise [k0_pay4, k0_pay3, qAt, headNorm]
theorem q1_at (d : Fin 128) (r : Fin 256) : k0_pay7 (F := Ideal) (k0_pay6 x0) w (ix4 0 0 d r) = qAt x0 w 1 d r := by
  pointwise [k0_pay7, k0_pay6, k0_pay3, qAt, headNorm]
theorem q2_at (d : Fin 128) (r : Fin 256) : k0_pay13 (F := Ideal) (k0_pay9 (k0_pay3 x0)) (k0_pay10 w) (k0_pay11 (k0_pay3 x0)) k0_pay12 (ix4 0 0 d r) = qAt x0 w 2 d r := by
  pointwise [k0_pay13, k0_pay9, k0_pay3, k0_pay10, k0_pay11, k0_pay12, qAt, headNorm]
theorem q3_at (d : Fin 128) (r : Fin 256) : k0_pay16 (F := Ideal) (k0_pay15 (k0_pay3 x0) w) (ix4 0 0 d r) = qAt x0 w 3 d r := by
  pointwise [k0_pay16, k0_pay15, k0_pay3, qAt, headNorm]
theorem q4_at (d : Fin 128) (r : Fin 256) : k0_pay18 (F := Ideal) (k0_pay3 x0) w (ix4 0 0 d r) = qAt x0 w 4 d r := by
  pointwise [k0_pay18, k0_pay3, qAt, headNorm]
theorem q5_at (d : Fin 128) (r : Fin 256) : k0_pay20 (F := Ideal) (k0_pay3 x0) w (ix4 0 0 d r) = qAt x0 w 5 d r := by
  pointwise [k0_pay20, k0_pay3, qAt, headNorm]
theorem q6_at (d : Fin 128) (r : Fin 256) : k0_pay23 (F := Ideal) (k0_pay3 x0) w (ix4 0 0 d r) = qAt x0 w 6 d r := by
  pointwise [k0_pay23, k0_pay3, qAt, headNorm]
theorem q7_at (d : Fin 128) (r : Fin 256) : k0_pay28 (F := Ideal) (k0_pay25 (k0_pay3 x0)) (k0_pay26 w) (k0_pay27 (k0_pay3 x0)) (ix4 0 0 d r) = qAt x0 w 7 d r := by
  pointwise [k0_pay28, k0_pay25, k0_pay3, k0_pay26, k0_pay27, qAt, headNorm]
theorem q8_at (d : Fin 128) (r : Fin 256) : k0_pay31 (F := Ideal) (k0_pay30 (k0_pay3 x0) w) (ix4 0 0 d r) = qAt x0 w 8 d r := by
  pointwise [k0_pay31, k0_pay30, k0_pay3, qAt, headNorm]
theorem q9_at (d : Fin 128) (r : Fin 256) : k0_pay34 (F := Ideal) (k0_pay33 (k0_pay3 x0) w) (ix4 0 0 d r) = qAt x0 w 9 d r := by
  pointwise [k0_pay34, k0_pay33, k0_pay3, qAt, headNorm]
theorem q10_at (d : Fin 128) (r : Fin 256) : k0_pay36 (F := Ideal) (k0_pay3 x0) w (ix4 0 0 d r) = qAt x0 w 10 d r := by
  pointwise [k0_pay36, k0_pay3, qAt, headNorm]
theorem q11_at (d : Fin 128) (r : Fin 256) : k0_pay39 (F := Ideal) (k0_pay3 x0) w (ix4 0 0 d r) = qAt x0 w 11 d r := by
  pointwise [k0_pay39, k0_pay3, qAt, headNorm]
theorem q12_at (d : Fin 128) (r : Fin 256) : k0_pay42 (F := Ideal) (k0_pay41 (k0_pay3 x0)) w (ix4 0 0 d r) = qAt x0 w 12 d r := by
  pointwise [k0_pay42, k0_pay41, k0_pay3, qAt, headNorm]
theorem q13_at (d : Fin 128) (r : Fin 256) : k0_pay47 (F := Ideal) (k0_pay44 (k0_pay3 x0)) (k0_pay45 w) (k0_pay46 (k0_pay3 x0)) (ix4 0 0 d r) = qAt x0 w 13 d r := by
  pointwise [k0_pay47, k0_pay44, k0_pay3, k0_pay45, k0_pay46, qAt, headNorm]
theorem q14_at (d : Fin 128) (r : Fin 256) : k0_pay50 (F := Ideal) (k0_pay49 (k0_pay3 x0) w) (ix4 0 0 d r) = qAt x0 w 14 d r := by
  pointwise [k0_pay50, k0_pay49, k0_pay3, qAt, headNorm]
theorem q15_at (d : Fin 128) (r : Fin 256) : k0_pay52 (F := Ideal) (k0_pay3 x0) w (ix4 0 0 d r) = qAt x0 w 15 d r := by
  pointwise [k0_pay52, k0_pay3, qAt, headNorm]
theorem k0_at (r : Fin 256) (d : Fin 128) : k0_pay60 (F := Ideal) (k0_pay57 x1) (k0_pay58 w) (k0_pay59 x1) (ix4 0 0 r d) = kAt x1 w 0 r d := by
  pointwise [k0_pay60, k0_pay57, k0_pay58, k0_pay59, k0_pay55, kAt, headNorm]
theorem k1_at (r : Fin 256) (d : Fin 128) : k0_pay67 (F := Ideal) (k0_pay64 (k0_pay55 x1)) (k0_pay65 w) (k0_pay66 (k0_pay55 x1)) (ix4 0 0 r d) = kAt x1 w 1 r d := by
  pointwise [k0_pay67, k0_pay64, k0_pay55, k0_pay65, k0_pay66, kAt, headNorm]
theorem k2_at (r : Fin 256) (d : Fin 128) : k0_pay75 (F := Ideal) (k0_pay71 (k0_pay55 x1)) (k0_pay72 w) (k0_pay73 (k0_pay55 x1)) k0_pay74 (ix4 0 0 r d) = kAt x1 w 2 r d := by
  pointwise [k0_pay75, k0_pay71, k0_pay55, k0_pay72, k0_pay73, k0_pay74, kAt, headNorm]
theorem k3_at (r : Fin 256) (d : Fin 128) : k0_pay82 (F := Ideal) (k0_pay79 (k0_pay55 x1)) (k0_pay80 w) (k0_pay81 (k0_pay55 x1)) (FloatOps.ofBits FTy.f32 897988541#32) (ix4 0 0 r d) = kAt x1 w 3 r d := by
  pointwise [k0_pay82, k0_pay79, k0_pay55, k0_pay80, k0_pay81, kAt, headNorm]
theorem v0_at (d : Fin 128) (r : Fin 256) : k0_pay62 (F := Ideal) (k0_pay56 x2) (ix4 0 0 d r) = vAt x2 0 d r := by
  pointwise [k0_pay62, k0_pay56, vAt]
theorem v1_at (d : Fin 128) (r : Fin 256) : k0_pay69 (F := Ideal) (k0_pay56 x2) (ix4 0 0 d r) = vAt x2 1 d r := by
  pointwise [k0_pay69, k0_pay56, vAt]
theorem v2_at (d : Fin 128) (r : Fin 256) : k0_pay77 (F := Ideal) (k0_pay56 x2) (ix4 0 0 d r) = vAt x2 2 d r := by
  pointwise [k0_pay77, k0_pay56, vAt]
theorem v3_at (d : Fin 128) (r : Fin 256) : k0_pay84 (F := Ideal) (k0_pay56 x2) (ix4 0 0 d r) = vAt x2 3 d r := by
  pointwise [k0_pay84, k0_pay56, vAt]
theorem i0_at (u r : Fin 16) (d : Fin 64) : k0_pay88 (F := Ideal) (k0_pay87 x3) (ix5 0 u 0 r d) = iAt x3 u 0 r d := by
  pointwise [k0_pay88, k0_pay87, k0_pay86, iAt]
theorem i1_at (u r : Fin 16) (d : Fin 64) : k0_pay89 (F := Ideal) (k0_pay86 x3) (ix5 0 u 0 r d) = iAt x3 u 1 r d := by
  pointwise [k0_pay89, k0_pay86, iAt]
theorem i2_at (u r : Fin 16) (d : Fin 64) : k0_pay90 (F := Ideal) (k0_pay86 x3) (ix5 0 u 0 r d) = iAt x3 u 2 r d := by
  pointwise [k0_pay90, k0_pay86, iAt]
theorem i3_at (u r : Fin 16) (d : Fin 64) : k0_pay91 (F := Ideal) (k0_pay86 x3) (ix5 0 u 0 r d) = iAt x3 u 3 r d := by
  pointwise [k0_pay91, k0_pay86, iAt]
theorem i4_at (u r : Fin 16) (d : Fin 64) : k0_pay92 (F := Ideal) (k0_pay86 x3) (ix5 0 u 0 r d) = iAt x3 u 4 r d := by
  pointwise [k0_pay92, k0_pay86, iAt]
theorem i5_at (u r : Fin 16) (d : Fin 64) : k0_pay94 (F := Ideal) (k0_pay93 (k0_pay86 x3)) (ix5 0 u 0 r d) = iAt x3 u 5 r d := by
  pointwise [k0_pay94, k0_pay93, k0_pay86, iAt]
theorem i6_at (u r : Fin 16) (d : Fin 64) : k0_pay95 (F := Ideal) (k0_pay86 x3) (ix5 0 u 0 r d) = iAt x3 u 6 r d := by
  pointwise [k0_pay95, k0_pay86, iAt]
theorem i7_at (u r : Fin 16) (d : Fin 64) : k0_pay96 (F := Ideal) (k0_pay86 x3) (ix5 0 u 0 r d) = iAt x3 u 7 r d := by
  pointwise [k0_pay96, k0_pay86, iAt]
theorem i8_at (u r : Fin 16) (d : Fin 64) : k0_pay97 (F := Ideal) (k0_pay86 x3) (ix5 0 u 0 r d) = iAt x3 u 8 r d := by
  pointwise [k0_pay97, k0_pay86, iAt]
theorem i9_at (u r : Fin 16) (d : Fin 64) : k0_pay98 (F := Ideal) (k0_pay86 x3) (ix5 0 u 0 r d) = iAt x3 u 9 r d := by
  pointwise [k0_pay98, k0_pay86, iAt]
theorem i10_at (u r : Fin 16) (d : Fin 64) : k0_pay100 (F := Ideal) (k0_pay99 (k0_pay86 x3)) (ix5 0 u 0 r d) = iAt x3 u 10 r d := by
  pointwise [k0_pay100, k0_pay99, k0_pay86, iAt]
theorem i11_at (u r : Fin 16) (d : Fin 64) : k0_pay101 (F := Ideal) (k0_pay86 x3) (ix5 0 u 0 r d) = iAt x3 u 11 r d := by
  pointwise [k0_pay101, k0_pay86, iAt]
theorem i12_at (u r : Fin 16) (d : Fin 64) : k0_pay102 (F := Ideal) (k0_pay86 x3) (ix5 0 u 0 r d) = iAt x3 u 12 r d := by
  pointwise [k0_pay102, k0_pay86, iAt]
theorem i13_at (u r : Fin 16) (d : Fin 64) : k0_pay103 (F := Ideal) (k0_pay86 x3) (ix5 0 u 0 r d) = iAt x3 u 13 r d := by
  pointwise [k0_pay103, k0_pay86, iAt]
theorem i14_at (u r : Fin 16) (d : Fin 64) : k0_pay104 (F := Ideal) (k0_pay86 x3) (ix5 0 u 0 r d) = iAt x3 u 14 r d := by
  pointwise [k0_pay104, k0_pay86, iAt]
theorem i15_at (u r : Fin 16) (d : Fin 64) : k0_pay1 (F := Ideal) (k0_pay105 (k0_pay86 x3)) (ix5 0 u 0 r d) = iAt x3 u 15 r d := by
  pointwise [k0_pay1, k0_pay105, k0_pay86, iAt]
theorem pad_at (d : Fin 128) (r : Fin 256) : k0_pay5 (F := Ideal) y (ix4 0 0 d r) = y (ix3 0 d 0) := by
  pointwise [k0_pay5]
theorem pad1_eq : k0_pay8 (F := Ideal) y = k0_pay5 y := rfl
theorem pad2_eq : k0_pay14 (F := Ideal) y = k0_pay5 y := rfl
theorem pad3_eq : k0_pay17 (F := Ideal) y = k0_pay5 y := rfl
theorem pad4_eq : k0_pay19 (F := Ideal) y = k0_pay5 y := rfl
theorem pad5_eq : k0_pay22 (F := Ideal) (k0_pay21 y) = k0_pay5 y := rfl
theorem pad6_eq : k0_pay24 (F := Ideal) y = k0_pay5 y := rfl
theorem pad7_eq : k0_pay29 (F := Ideal) y = k0_pay5 y := rfl
theorem pad8_eq : k0_pay32 (F := Ideal) y = k0_pay5 y := rfl
theorem pad9_eq : k0_pay35 (F := Ideal) y = k0_pay5 y := rfl
theorem pad10_eq : k0_pay38 (F := Ideal) (k0_pay37 y) = k0_pay5 y := rfl
theorem pad11_eq : k0_pay40 (F := Ideal) y = k0_pay5 y := rfl
theorem pad12_eq : k0_pay43 (F := Ideal) y = k0_pay5 y := rfl
theorem pad13_eq : k0_pay48 (F := Ideal) y = k0_pay5 y := rfl
theorem pad14_eq : k0_pay51 (F := Ideal) y = k0_pay5 y := rfl
theorem pad15_eq : k0_pay53 (F := Ideal) y = k0_pay5 y := rfl
theorem ki_at (d : Fin 64) (r : Fin 256) : k0_pay2 (F := Ideal) x4 (ix4 0 0 d r) = x4 (ix3 0 r (⟨d.val, by omega⟩ : Fin 128)) := by
  pointwise [k0_pay2]
end

end Cert.Proof.Prep
end
-- ==== Proof.PrepPieces.lean ====
/-
  What one grid point of the preparation kernel leaves in each of its five result blocks.

  The body stores a block piece by piece: one piece per head, and one per head of the rows appended to it. Each result
  block is stated as one function of the input blocks, and every piece holds that function at its own place.
-/
module

public import proofs.«01_k».proof.Proof.PrepBlock

@[expose] public section
set_option maxRecDepth 16384
set_option maxHeartbeats 400000
noncomputable section
namespace Cert.Proof.Prep

open Cert.PrepIdeal Cert.PrepIdeal.Gen
open Idealize.ShloMosaic Idealize.ShloMosaic.TcCoe Idealize.ShloMosaic.Tactic Idealize.ShloMosaic.Pointwise

theorem hz2 : (![0, 0] : Fin 2 → Nat) = fun _ => 0 := funext fun a => by fin_cases a <;> rfl
theorem hz3 : (![0, 0, 0] : Fin 3 → Nat) = fun _ => 0 := funext fun a => by fin_cases a <;> rfl

section
variable (x0 : Vec Ideal S1x256x2048 .bf16) (x1 x2 : Vec Ideal S1x256x512 .bf16) (x3 : Vec Ideal S1x256x1024 .bf16)
  (x4 : Vec Ideal S1x256x128 .f32) (x5 : Vec Ideal S1x256x1 .i32) (w : Vec Ideal S1x128 .f32) (x8 : Vec Ideal S16x128x1 .f32)

/-- The query block: two heads side by side, each a column of 128 features over 128 appended rows. -/
def qBlock : Vec Ideal S1x8x256x512 .bf16 := fun z =>
  have h1 : (z 1).val < 8 := (z 1).isLt
  have h2 : (z 2).val < 256 := (z 2).isLt
  have h3 : (z 3).val < 512 := (z 3).isLt
  if h : (z 2).val < 128 then
    qAt x0 w ⟨2 * (z 1).val + (z 3).val / 256, by omega⟩ ⟨(z 2).val, h⟩ ⟨(z 3).val % 256, by omega⟩
  else x8 (ix3 (⟨2 * (z 1).val + (z 3).val / 256, by omega⟩ : Fin 16) (⟨(z 2).val - 128, by omega⟩ : Fin 128) (0 : Fin 1))

theorem qBlock_lo (z : S1x8x256x512.Idx) (h : Fin 16) (d : Fin 128) (r : Fin 256)
    (e1 : 2 * (z 1).val + (z 3).val / 256 = h.val) (e2 : (z 2).val = d.val) (e3 : (z 3).val % 256 = r.val) :
    qBlock x0 w x8 z = qAt x0 w h d r := by
  have hl : (z 2).val < 128 := by omega
  unfold qBlock
  dsimp only
  rw [dif_pos hl]
  congr 1 <;> exact Fin.ext (by assumption)

theorem qBlock_hi (z : S1x8x256x512.Idx) (h : Fin 16) (d : Fin 128)
    (e1 : 2 * (z 1).val + (z 3).val / 256 = h.val) (e2 : (z 2).val = 128 + d.val) :
    qBlock x0 w x8 z = x8 (ix3 h d 0) := by
  have hl : ¬ (z 2).val < 128 := by omega
  unfold qBlock
  dsimp only
  rw [dif_neg hl]
  congr 1
  congr 1 <;> exact Fin.ext (by first | assumption | (dsimp only; omega))

/-- A piece of 128 features of one head holds the block at its place. -/
theorem q_piece {off : Fin 4 → Nat} (inb : ∀ a, off a + (S1x1x128x256.size) a ≤ S1x8x256x512.size a)
    (p : Vec Ideal S1x1x128x256 .bf16) (h : Fin 16) (hp : ∀ d r, p (ix4 0 0 d r) = qAt x0 w h d r)
    (o1 : 2 * off 1 + off 3 / 256 = h.val) (o2 : off 2 = 0) (o3 : off 3 % 256 = 0) (x : S1x1x128x256.Idx) :
    p x = qBlock x0 w x8 ((Rect.unit (s := S1x8x256x512) off S1x1x128x256.size inb).emb x) := by
  have hx : x = ix4 0 0 (x 2) (x 3) := (eq_ix4 x).trans (by congr 1 <;> exact Subsingleton.elim _ _)
  generalize (x 2 : Fin 128) = d, (x 3 : Fin 256) = r at hx
  subst hx
  refine (hp d r).trans (qBlock_lo x0 w x8 _ h d r ?_ ?_ ?_).symm
  · have hr : r.val < 256 := r.isLt
    show 2 * (off 1 + 1 * 0) + (off 3 + 1 * r.val) / 256 = h.val; omega
  · show off 2 + 1 * d.val = d.val; omega
  · have hr : r.val < 256 := r.isLt
    show (off 3 + 1 * r.val) % 256 = r.val; omega

/-- A piece of the appended rows of one head holds the block at its place. -/
theorem pad_piece {off : Fin 4 → Nat} (inb : ∀ a, off a + (S1x1x128x256.size) a ≤ S1x8x256x512.size a)
    (p : Vec Ideal S1x1x128x256 .bf16) (h : Fin 16) (y : Vec Ideal S1x128x1 .f32) (hp : p = k0_pay5 (F := Ideal) y)
    (hy : ∀ d : Fin 128, y (ix3 0 d 0) = x8 (ix3 h d 0))
    (o1 : 2 * off 1 + off 3 / 256 = h.val) (o2 : off 2 = 128) (o3 : off 3 % 256 = 0) (x : S1x1x128x256.Idx) :
    p x = qBlock x0 w x8 ((Rect.unit (s := S1x8x256x512) off S1x1x128x256.size inb).emb x) := by
  have hx : x = ix4 0 0 (x 2) (x 3) := (eq_ix4 x).trans (by congr 1 <;> exact Subsingleton.elim _ _)
  generalize (x 2 : Fin 128) = d, (x 3 : Fin 256) = r at hx
  subst hx
  subst hp
  refine ((pad_at y d r).trans (hy d)).trans (qBlock_hi x0 w x8 _ h d ?_ ?_).symm
  · have hr : r.val < 256 := r.isLt
    show 2 * (off 1 + 1 * 0) + (off 3 + 1 * r.val) / 256 = h.val; omega
  · show off 2 + 1 * d.val = 128 + d.val; omega

theorem ld8 {off : Fin 3 → Nat} (inb : ∀ a, off a + (S1x128x1.size) a ≤ S16x128x1.size a) (h : Fin 16)
    (o0 : off 0 = h.val) (o1 : off 1 = 0) (o2 : off 2 = 0) (d : Fin 128) :
    View.ld x8 (Rect.unit (s := S16x128x1) off S1x128x1.size inb) (ix3 0 d 0) = x8 (ix3 h d 0) := by
  refine congrArg x8 (funext fun a => Fin.ext ?_)
  match a with
  | ⟨0, _⟩ => show off 0 + 1 * 0 = h.val; omega
  | ⟨1, _⟩ => show off 1 + 1 * d.val = d.val; omega
  | ⟨2, _⟩ => show off 2 + 1 * 0 = 0; omega

/-- The key block: per head and row, 128 features and 128 appended columns. -/
def kBlock : Vec Ideal S1x4x256x256 .bf16 := fun z =>
  have h3 : (z 3).val < 256 := (z 3).isLt
  if h : (z 3).val < 128 then kAt x1 w (z 1) (z 2) ⟨(z 3).val, h⟩
  else k0_pay61 (F := Ideal) (k0_pay54 x5) (ix4 0 0 (z 2) (⟨(z 3).val - 128, by omega⟩ : Fin 128))

theorem kBlock_lo (z : S1x4x256x256.Idx) (h : Fin 4) (r : Fin 256) (d : Fin 128)
    (e1 : (z 1).val = h.val) (e2 : (z 2).val = r.val) (e3 : (z 3).val = d.val) : kBlock x1 x5 w z = kAt x1 w h r d := by
  have hl : (z 3).val < 128 := by omega
  unfold kBlock
  dsimp only
  rw [dif_pos hl]
  exact congr (congr (congrArg (kAt x1 w) (Fin.ext e1)) (Fin.ext e2)) (Fin.ext e3)

theorem kBlock_hi (z : S1x4x256x256.Idx) (r : Fin 256) (d : Fin 128)
    (e2 : (z 2).val = r.val) (e3 : (z 3).val = 128 + d.val) :
    kBlock x1 x5 w z = k0_pay61 (F := Ideal) (k0_pay54 x5) (ix4 0 0 r d) := by
  have hl : ¬ (z 3).val < 128 := by omega
  unfold kBlock
  dsimp only
  rw [dif_neg hl]
  refine congrArg (k0_pay61 (F := Ideal) (k0_pay54 x5)) ?_
  have h3 : (z 3).val - 128 = d.val := by omega
  exact congrArg₂ (ix4 (0 : Fin 1) (0 : Fin 1)) (Fin.ext e2) (Fin.ext h3)

theorem k_piece {off : Fin 4 → Nat} (inb : ∀ a, off a + (S1x1x256x128.size) a ≤ S1x4x256x256.size a)
    (p : Vec Ideal S1x1x256x128 .bf16) (h : Fin 4) (hp : ∀ r d, p (ix4 0 0 r d) = kAt x1 w h r d)
    (o1 : off 1 = h.val) (o2 : off 2 = 0) (o3 : off 3 = 0) (x : S1x1x256x128.Idx) :
    p x = kBlock x1 x5 w ((Rect.unit (s := S1x4x256x256) off S1x1x256x128.size inb).emb x) := by
  have hx : x = ix4 0 0 (x 2) (x 3) := (eq_ix4 x).trans (by congr 1 <;> exact Subsingleton.elim _ _)
  generalize (x 2 : Fin 256) = r, (x 3 : Fin 128) = d at hx
  subst hx
  refine (hp r d).trans (kBlock_lo x1 x5 w _ h r d ?_ ?_ ?_).symm
  · show off 1 + 1 * 0 = h.val; omega
  · show off 2 + 1 * r.val = r.val; omega
  · show off 3 + 1 * d.val = d.val; omega

theorem pos_piece {off : Fin 4 → Nat} (inb : ∀ a, off a + (S1x1x256x128.size) a ≤ S1x4x256x256.size a)
    (p : Vec Ideal S1x1x256x128 .bf16) (hp : p = k0_pay61 (F := Ideal) (k0_pay54 x5))
    (o2 : off 2 = 0) (o3 : off 3 = 128) (x : S1x1x256x128.Idx) :
    p x = kBlock x1 x5 w ((Rect.unit (s := S1x4x256x256) off S1x1x256x128.size inb).emb x) := by
  have hx : x = ix4 0 0 (x 2) (x 3) := (eq_ix4 x).trans (by congr 1 <;> exact Subsingleton.elim _ _)
  generalize (x 2 : Fin 256) = r, (x 3 : Fin 128) = d at hx
  subst hx
  subst hp
  refine (kBlock_hi x1 x5 w _ r d ?_ ?_).symm
  · show off 2 + 1 * r.val = r.val; omega
  · show off 3 + 1 * d.val = 128 + d.val; omega

/-- The value block: per head, 128 features over 16 appended rows. -/
def vBlock : Vec Ideal S1x4x144x256 .bf16 := fun z =>
  have h2 : (z 2).val < 144 := (z 2).isLt
  if h : (z 2).val < 128 then vAt x2 (z 1) ⟨(z 2).val, h⟩ (z 3)
  else k0_pay63 (F := Ideal) (ix4 0 0 (⟨(z 2).val - 128, by omega⟩ : Fin 16) (z 3))

theorem vBlock_lo (z : S1x4x144x256.Idx) (h : Fin 4) (d : Fin 128) (r : Fin 256)
    (e1 : (z 1).val = h.val) (e2 : (z 2).val = d.val) (e3 : (z 3).val = r.val) : vBlock x2 z = vAt x2 h d r := by
  have hl : (z 2).val < 128 := by omega
  unfold vBlock
  dsimp only
  rw [dif_pos hl]
  exact congr (congr (congrArg (vAt x2) (Fin.ext e1)) (Fin.ext e2)) (Fin.ext e3)

theorem vBlock_hi (z : S1x4x144x256.Idx) (d : Fin 16) (r : Fin 256)
    (e2 : (z 2).val = 128 + d.val) (e3 : (z 3).val = r.val) :
    vBlock x2 z = k0_pay63 (F := Ideal) (ix4 0 0 d r) := by
  have hl : ¬ (z 2).val < 128 := by omega
  unfold vBlock
  dsimp only
  rw [dif_neg hl]
  refine congrArg (k0_pay63 (F := Ideal)) ?_
  have h2 : (z 2).val - 128 = d.val := by omega
  exact congrArg₂ (ix4 (0 : Fin 1) (0 : Fin 1)) (Fin.ext h2) (Fin.ext e3)

theorem v_piece {off : Fin 4 → Nat} (inb : ∀ a, off a + (S1x1x128x256.size) a ≤ S1x4x144x256.size a)
    (p : Vec Ideal S1x1x128x256 .bf16) (h : Fin 4) (hp : ∀ d r, p (ix4 0 0 d r) = vAt x2 h d r)
    (o1 : off 1 = h.val) (o2 : off 2 = 0) (o3 : off 3 = 0) (x : S1x1x128x256.Idx) :
    p x = vBlock x2 ((Rect.unit (s := S1x4x144x256) off S1x1x128x256.size inb).emb x) := by
  have hx : x = ix4 0 0 (x 2) (x 3) := (eq_ix4 x).trans (by congr 1 <;> exact Subsingleton.elim _ _)
  generalize (x 2 : Fin 128) = d, (x 3 : Fin 256) = r at hx
  subst hx
  refine (hp d r).trans (vBlock_lo x2 _ h d r ?_ ?_ ?_).symm
  · show off 1 + 1 * 0 = h.val; omega
  · show off 2 + 1 * d.val = d.val; omega
  · show off 3 + 1 * r.val = r.val; omega

theorem one_piece {off : Fin 4 → Nat} (inb : ∀ a, off a + (S1x1x16x256.size) a ≤ S1x4x144x256.size a)
    (p : Vec Ideal S1x1x16x256 .bf16) (hp : p = k0_pay63 (F := Ideal))
    (o2 : off 2 = 128) (o3 : off 3 = 0) (x : S1x1x16x256.Idx) :
    p x = vBlock x2 ((Rect.unit (s := S1x4x144x256) off S1x1x16x256.size inb).emb x) := by
  have hx : x = ix4 0 0 (x 2) (x 3) := (eq_ix4 x).trans (by congr 1 <;> exact Subsingleton.elim _ _)
  generalize (x 2 : Fin 16) = d, (x 3 : Fin 256) = r at hx
  subst hx
  subst hp
  refine (vBlock_hi x2 _ d r ?_ ?_).symm
  · show off 2 + 1 * d.val = 128 + d.val; omega
  · show off 3 + 1 * r.val = r.val; omega

/-- The indexer's query block: the positions in runs of sixteen, by head. -/
def iBlock : Vec Ideal S1x16x16x16x64 .bf16 := fun z => iAt x3 (z 1) (z 2) (z 3) (z 4)

theorem i_piece {off : Fin 5 → Nat} (inb : ∀ a, off a + (S1x16x1x16x64.size) a ≤ S1x16x16x16x64.size a)
    (p : Vec Ideal S1x16x1x16x64 .bf16) (h : Fin 16) (hp : ∀ u r d, p (ix5 0 u 0 r d) = iAt x3 u h r d)
    (o1 : off 1 = 0) (o2 : off 2 = h.val) (o3 : off 3 = 0) (o4 : off 4 = 0) (x : S1x16x1x16x64.Idx) :
    p x = iBlock x3 ((Rect.unit (s := S1x16x16x16x64) off S1x16x1x16x64.size inb).emb x) := by
  have hx : x = ix5 0 (x 1) 0 (x 3) (x 4) := (eq_ix5 x).trans (by congr 1 <;> exact Subsingleton.elim _ _)
  generalize (x 1 : Fin 16) = u, (x 3 : Fin 16) = r, (x 4 : Fin 64) = d at hx
  subst hx
  refine (hp u r d).trans ?_
  unfold iBlock
  congr 1
  · exact Fin.ext (by show u.val = off 1 + 1 * u.val; omega)
  · exact Fin.ext (by show h.val = off 2 + 1 * 0; omega)
  · exact Fin.ext (by show r.val = off 3 + 1 * r.val; omega)
  · exact Fin.ext (by show d.val = off 4 + 1 * d.val; omega)

/-- The indexer's key block: the first 64 columns, transposed. -/
def jBlock : Vec Ideal S1x1x64x256 .bf16 := fun z =>
  have h2 : (z 2).val < 64 := (z 2).isLt
  x4 (ix3 0 (z 3) (⟨(z 2).val, by omega⟩ : Fin 128))

theorem j_piece {off : Fin 4 → Nat} (inb : ∀ a, off a + (S1x1x64x256.size) a ≤ S1x1x64x256.size a)
    (o2 : off 2 = 0) (o3 : off 3 = 0) (x : S1x1x64x256.Idx) :
    k0_pay2 (F := Ideal) x4 x = jBlock x4 ((Rect.unit (s := S1x1x64x256) off S1x1x64x256.size inb).emb x) := by
  have hx : x = ix4 0 0 (x 2) (x 3) := (eq_ix4 x).trans (by congr 1 <;> exact Subsingleton.elim _ _)
  generalize (x 2 : Fin 64) = d, (x 3 : Fin 256) = r at hx
  subst hx
  refine (ki_at x4 d r).trans ?_
  unfold jBlock
  dsimp only
  refine congrArg x4 (congr (congrArg (ix3 (0 : Fin 1)) ?_) ?_)
  · exact Fin.ext (by show r.val = off 3 + 1 * r.val; omega)
  · exact Fin.ext (by show d.val = off 2 + 1 * d.val; omega)
end

variable (m : (ℓ : Loc nD τ sig) → Buf (Elt Ideal) ℓ)

/-- The input blocks at a point, at their literal shapes. -/
abbrev b0 (c : Dev nD) (t : Fin cfg0.N) : Vec Ideal S1x256x2048 .bf16 := iblk m c 0 t
abbrev b1 (c : Dev nD) (t : Fin cfg0.N) : Vec Ideal S1x256x512 .bf16 := iblk m c 1 t
abbrev b2 (c : Dev nD) (t : Fin cfg0.N) : Vec Ideal S1x256x512 .bf16 := iblk m c 2 t
abbrev b3 (c : Dev nD) (t : Fin cfg0.N) : Vec Ideal S1x256x1024 .bf16 := iblk m c 3 t
abbrev b4 (c : Dev nD) (t : Fin cfg0.N) : Vec Ideal S1x256x128 .f32 := iblk m c 4 t
abbrev b5 (c : Dev nD) (t : Fin cfg0.N) : Vec Ideal S1x256x1 .i32 := iblk m c 5 t
abbrev b6 (c : Dev nD) (t : Fin cfg0.N) : Vec Ideal S1x128 .f32 := iblk m c 6 t
abbrev b7 (c : Dev nD) (t : Fin cfg0.N) : Vec Ideal S1x128 .f32 := iblk m c 7 t
abbrev b8 (c : Dev nD) (t : Fin cfg0.N) : Vec Ideal S16x128x1 .f32 := iblk m c 8 t

/-- The query block one point leaves. -/
theorem left9 (c : Dev nD) (t : Fin cfg0.N) (y : S1x8x256x512.Idx) :
    (outsAt0 (F := Ideal) m c t).1 y = qBlock (b0 m c t) (b6 m c t) (b8 m c t) y := by
  unfold outsAt0
  dsimp only
  unfold out0_A_9
  refine View.read_writes_apply_of_pieces _ _ (qBlock (b0 m c t) (b6 m c t) (b8 m c t)) _ ?_ y (cover0_A_9 ..)
  unfold kernelRun0_A
  dsimp only
  sl_unfold_words
  have e0 : ∀ h, View.ld (b0 m c t) (Rect.unit (s := S1x256x2048) ![0, 0, 0] ![1, 256, 2048] h) = b0 m c t := fun h => View.ld_unit_zero (S := S1x256x2048) hz3 h _
  have e6 : ∀ h, View.ld (b6 m c t) (Rect.unit (s := S1x128) ![0, 0] ![1, 128] h) = b6 m c t := fun h => View.ld_unit_zero (S := S1x128) hz2 h _
  simp only [View.readAt_eq_ld, (hs0_0 t).read_unread, (hs0_6 t).read_unread, (hs0_8 t).read_unread, e0, e6]
  refine List.forall_mem_cons.mpr ⟨fun x => pad_piece _ _ (b8 m c t) (off := ![0, 7, 128, 256]) inb_S1x8x256x512_S1x1x128x256_0_7_128_256 _ 15 _ (pad15_eq _) (ld8 _ (off := ![15, 0, 0]) inb_S16x128x1_S1x128x1_15_0_0 15 rfl rfl rfl) rfl rfl rfl x, ?_⟩
  refine List.forall_mem_cons.mpr ⟨fun x => q_piece _ _ (b8 m c t) (off := ![0, 7, 0, 256]) inb_S1x8x256x512_S1x1x128x256_0_7_0_256 _ 15 (q15_at _ _) rfl rfl rfl x, ?_⟩
  refine List.forall_mem_cons.mpr ⟨fun x => pad_piece _ _ (b8 m c t) (off := ![0, 7, 128, 0]) inb_S1x8x256x512_S1x1x128x256_0_7_128_0 _ 14 _ (pad14_eq _) (ld8 _ (off := ![14, 0, 0]) inb_S16x128x1_S1x128x1_14_0_0 14 rfl rfl rfl) rfl rfl rfl x, ?_⟩
  refine List.forall_mem_cons.mpr ⟨fun x => q_piece _ _ (b8 m c t) (off := ![0, 7, 0, 0]) inb_S1x8x256x512_S1x1x128x256_0_7_0_0 _ 14 (q14_at _ _) rfl rfl rfl x, ?_⟩
  refine List.forall_mem_cons.mpr ⟨fun x => pad_piece _ _ (b8 m c t) (off := ![0, 6, 128, 256]) inb_S1x8x256x512_S1x1x128x256_0_6_128_256 _ 13 _ (pad13_eq _) (ld8 _ (off := ![13, 0, 0]) inb_S16x128x1_S1x128x1_13_0_0 13 rfl rfl rfl) rfl rfl rfl x, ?_⟩
  refine List.forall_mem_cons.mpr ⟨fun x => q_piece _ _ (b8 m c t) (off := ![0, 6, 0, 256]) inb_S1x8x256x512_S1x1x128x256_0_6_0_256 _ 13 (q13_at _ _) rfl rfl rfl x, ?_⟩
  refine List.forall_mem_cons.mpr ⟨fun x => pad_piece _ _ (b8 m c t) (off := ![0, 6, 128, 0]) inb_S1x8x256x512_S1x1x128x256_0_6_128_0 _ 12 _ (pad12_eq _) (ld8 _ (off := ![12, 0, 0]) inb_S16x128x1_S1x128x1_12_0_0 12 rfl rfl rfl) rfl rfl rfl x, ?_⟩
  refine List.forall_mem_cons.mpr ⟨fun x => q_piece _ _ (b8 m c t) (off := ![0, 6, 0, 0]) inb_S1x8x256x512_S1x1x128x256_0_6_0_0 _ 12 (q12_at _ _) rfl rfl rfl x, ?_⟩
  refine List.forall_mem_cons.mpr ⟨fun x => pad_piece _ _ (b8 m c t) (off := ![0, 5, 128, 256]) inb_S1x8x256x512_S1x1x128x256_0_5_128_256 _ 11 _ (pad11_eq _) (ld8 _ (off := ![11, 0, 0]) inb_S16x128x1_S1x128x1_11_0_0 11 rfl rfl rfl) rfl rfl rfl x, ?_⟩
  refine List.forall_mem_cons.mpr ⟨fun x => q_piece _ _ (b8 m c t) (off := ![0, 5, 0, 256]) inb_S1x8x256x512_S1x1x128x256_0_5_0_256 _ 11 (q11_at _ _) rfl rfl rfl x, ?_⟩
  refine List.forall_mem_cons.mpr ⟨fun x => pad_piece _ _ (b8 m c t) (off := ![0, 5, 128, 0]) inb_S1x8x256x512_S1x1x128x256_0_5_128_0 _ 10 _ (pad10_eq _) (ld8 _ (off := ![10, 0, 0]) inb_S16x128x1_S1x128x1_10_0_0 10 rfl rfl rfl) rfl rfl rfl x, ?_⟩
  refine List.forall_mem_cons.mpr ⟨fun x => q_piece _ _ (b8 m c t) (off := ![0, 5, 0, 0]) inb_S1x8x256x512_S1x1x128x256_0_5_0_0 _ 10 (q10_at _ _) rfl rfl rfl x, ?_⟩
  refine List.forall_mem_cons.mpr ⟨fun x => pad_piece _ _ (b8 m c t) (off := ![0, 4, 128, 256]) inb_S1x8x256x512_S1x1x128x256_0_4_128_256 _ 9 _ (pad9_eq _) (ld8 _ (off := ![9, 0, 0]) inb_S16x128x1_S1x128x1_9_0_0 9 rfl rfl rfl) rfl rfl rfl x, ?_⟩
  refine List.forall_mem_cons.mpr ⟨fun x => q_piece _ _ (b8 m c t) (off := ![0, 4, 0, 256]) inb_S1x8x256x512_S1x1x128x256_0_4_0_256 _ 9 (q9_at _ _) rfl rfl rfl x, ?_⟩
  refine List.forall_mem_cons.mpr ⟨fun x => pad_piece _ _ (b8 m c t) (off := ![0, 4, 128, 0]) inb_S1x8x256x512_S1x1x128x256_0_4_128_0 _ 8 _ (pad8_eq _) (ld8 _ (off := ![8, 0, 0]) inb_S16x128x1_S1x128x1_8_0_0 8 rfl rfl rfl) rfl rfl rfl x, ?_⟩
  refine List.forall_mem_cons.mpr ⟨fun x => q_piece _ _ (b8 m c t) (off := ![0, 4, 0, 0]) inb_S1x8x256x512_S1x1x128x256_0_4_0_0 _ 8 (q8_at _ _) rfl rfl rfl x, ?_⟩
  refine List.forall_mem_cons.mpr ⟨fun x => pad_piece _ _ (b8 m c t) (off := ![0, 3, 128, 256]) inb_S1x8x256x512_S1x1x128x256_0_3_128_256 _ 7 _ (pad7_eq _) (ld8 _ (off := ![7, 0, 0]) inb_S16x128x1_S1x128x1_7_0_0 7 rfl rfl rfl) rfl rfl rfl x, ?_⟩
  refine List.forall_mem_cons.mpr ⟨fun x => q_piece _ _ (b8 m c t) (off := ![0, 3, 0, 256]) inb_S1x8x256x512_S1x1x128x256_0_3_0_256 _ 7 (q7_at _ _) rfl rfl rfl x, ?_⟩
  refine List.forall_mem_cons.mpr ⟨fun x => pad_piece _ _ (b8 m c t) (off := ![0, 3, 128, 0]) inb_S1x8x256x512_S1x1x128x256_0_3_128_0 _ 6 _ (pad6_eq _) (ld8 _ (off := ![6, 0, 0]) inb_S16x128x1_S1x128x1_6_0_0 6 rfl rfl rfl) rfl rfl rfl x, ?_⟩
  refine List.forall_mem_cons.mpr ⟨fun x => q_piece _ _ (b8 m c t) (off := ![0, 3, 0, 0]) inb_S1x8x256x512_S1x1x128x256_0_3_0_0 _ 6 (q6_at _ _) rfl rfl rfl x, ?_⟩
  refine List.forall_mem_cons.mpr ⟨fun x => pad_piece _ _ (b8 m c t) (off := ![0, 2, 128, 256]) inb_S1x8x256x512_S1x1x128x256_0_2_128_256 _ 5 _ (pad5_eq _) (ld8 _ (off := ![5, 0, 0]) inb_S16x128x1_S1x128x1_5_0_0 5 rfl rfl rfl) rfl rfl rfl x, ?_⟩
  refine List.forall_mem_cons.mpr ⟨fun x => q_piece _ _ (b8 m c t) (off := ![0, 2, 0, 256]) inb_S1x8x256x512_S1x1x128x256_0_2_0_256 _ 5 (q5_at _ _) rfl rfl rfl x, ?_⟩
  refine List.forall_mem_cons.mpr ⟨fun x => pad_piece _ _ (b8 m c t) (off := ![0, 2, 128, 0]) inb_S1x8x256x512_S1x1x128x256_0_2_128_0 _ 4 _ (pad4_eq _) (ld8 _ (off := ![4, 0, 0]) inb_S16x128x1_S1x128x1_4_0_0 4 rfl rfl rfl) rfl rfl rfl x, ?_⟩
  refine List.forall_mem_cons.mpr ⟨fun x => q_piece _ _ (b8 m c t) (off := ![0, 2, 0, 0]) inb_S1x8x256x512_S1x1x128x256_0_2_0_0 _ 4 (q4_at _ _) rfl rfl rfl x, ?_⟩
  refine List.forall_mem_cons.mpr ⟨fun x => pad_piece _ _ (b8 m c t) (off := ![0, 1, 128, 256]) inb_S1x8x256x512_S1x1x128x256_0_1_128_256 _ 3 _ (pad3_eq _) (ld8 _ (off := ![3, 0, 0]) inb_S16x128x1_S1x128x1_3_0_0 3 rfl rfl rfl) rfl rfl rfl x, ?_⟩
  refine List.forall_mem_cons.mpr ⟨fun x => q_piece _ _ (b8 m c t) (off := ![0, 1, 0, 256]) inb_S1x8x256x512_S1x1x128x256_0_1_0_256 _ 3 (q3_at _ _) rfl rfl rfl x, ?_⟩
  refine List.forall_mem_cons.mpr ⟨fun x => pad_piece _ _ (b8 m c t) (off := ![0, 1, 128, 0]) inb_S1x8x256x512_S1x1x128x256_0_1_128_0 _ 2 _ (pad2_eq _) (ld8 _ (off := ![2, 0, 0]) inb_S16x128x1_S1x128x1_2_0_0 2 rfl rfl rfl) rfl rfl rfl x, ?_⟩
  refine List.forall_mem_cons.mpr ⟨fun x => q_piece _ _ (b8 m c t) (off := ![0, 1, 0, 0]) inb_S1x8x256x512_S1x1x128x256_0_1_0_0 _ 2 (q2_at _ _) rfl rfl rfl x, ?_⟩
  refine List.forall_mem_cons.mpr ⟨fun x => pad_piece _ _ (b8 m c t) (off := ![0, 0, 128, 256]) inb_S1x8x256x512_S1x1x128x256_0_0_128_256 _ 1 _ (pad1_eq _) (ld8 _ (off := ![1, 0, 0]) inb_S16x128x1_S1x128x1_1_0_0 1 rfl rfl rfl) rfl rfl rfl x, ?_⟩
  refine List.forall_mem_cons.mpr ⟨fun x => q_piece _ _ (b8 m c t) (off := ![0, 0, 0, 256]) inb_S1x8x256x512_S1x1x128x256_0_0_0_256 _ 1 (q1_at _ _) rfl rfl rfl x, ?_⟩
  refine List.forall_mem_cons.mpr ⟨fun x => pad_piece _ _ (b8 m c t) (off := ![0, 0, 128, 0]) inb_S1x8x256x512_S1x1x128x256_0_0_128_0 _ 0 _ rfl (ld8 _ (off := ![0, 0, 0]) inb_S16x128x1_S1x128x1_0_0_0 0 rfl rfl rfl) rfl rfl rfl x, ?_⟩
  refine List.forall_mem_cons.mpr ⟨fun x => q_piece _ _ (b8 m c t) (off := ![0, 0, 0, 0]) inb_S1x8x256x512_S1x1x128x256_0_0_0_0 _ 0 (q0_at _ _) rfl rfl rfl x, ?_⟩
  exact fun _ h => absurd h List.not_mem_nil

/-- The key block one point leaves. -/
theorem left10 (c : Dev nD) (t : Fin cfg0.N) (y : S1x4x256x256.Idx) :
    (outsAt0 (F := Ideal) m c t).2.1 y = kBlock (b1 m c t) (b5 m c t) (b7 m c t) y := by
  unfold outsAt0
  dsimp only
  unfold out0_A_10
  refine View.read_writes_apply_of_pieces _ _ (kBlock (b1 m c t) (b5 m c t) (b7 m c t)) _ ?_ y (cover0_A_10 ..)
  unfold kernelRun0_A
  dsimp only
  sl_unfold_words
  have e1 : ∀ h, View.ld (b1 m c t) (Rect.unit (s := S1x256x512) ![0, 0, 0] ![1, 256, 512] h) = b1 m c t := fun h => View.ld_unit_zero (S := S1x256x512) hz3 h _
  have e5 : ∀ h, View.ld (b5 m c t) (Rect.unit (s := S1x256x1) ![0, 0, 0] ![1, 256, 1] h) = b5 m c t := fun h => View.ld_unit_zero (S := S1x256x1) hz3 h _
  have e7 : ∀ h, View.ld (b7 m c t) (Rect.unit (s := S1x128) ![0, 0] ![1, 128] h) = b7 m c t := fun h => View.ld_unit_zero (S := S1x128) hz2 h _
  simp only [View.readAt_eq_ld, (hs0_1 t).read_unread, (hs0_5 t).read_unread, (hs0_7 t).read_unread, e1, e5, e7]
  refine List.forall_mem_cons.mpr ⟨fun x => pos_piece _ _ _ (off := ![0, 3, 0, 128]) inb_S1x4x256x256_S1x1x256x128_0_3_0_128 _ rfl rfl rfl x, ?_⟩
  refine List.forall_mem_cons.mpr ⟨fun x => k_piece _ _ _ (off := ![0, 3, 0, 0]) inb_S1x4x256x256_S1x1x256x128_0_3_0_0 _ 3 (k3_at _ _) rfl rfl rfl x, ?_⟩
  refine List.forall_mem_cons.mpr ⟨fun x => pos_piece _ _ _ (off := ![0, 2, 0, 128]) inb_S1x4x256x256_S1x1x256x128_0_2_0_128 _ rfl rfl rfl x, ?_⟩
  refine List.forall_mem_cons.mpr ⟨fun x => k_piece _ _ _ (off := ![0, 2, 0, 0]) inb_S1x4x256x256_S1x1x256x128_0_2_0_0 _ 2 (k2_at _ _) rfl rfl rfl x, ?_⟩
  refine List.forall_mem_cons.mpr ⟨fun x => pos_piece _ _ _ (off := ![0, 1, 0, 128]) inb_S1x4x256x256_S1x1x256x128_0_1_0_128 _ rfl rfl rfl x, ?_⟩
  refine List.forall_mem_cons.mpr ⟨fun x => k_piece _ _ _ (off := ![0, 1, 0, 0]) inb_S1x4x256x256_S1x1x256x128_0_1_0_0 _ 1 (k1_at _ _) rfl rfl rfl x, ?_⟩
  refine List.forall_mem_cons.mpr ⟨fun x => pos_piece _ _ _ (off := ![0, 0, 0, 128]) inb_S1x4x256x256_S1x1x256x128_0_0_0_128 _ rfl rfl rfl x, ?_⟩
  refine List.forall_mem_cons.mpr ⟨fun x => k_piece _ _ _ (off := ![0, 0, 0, 0]) inb_S1x4x256x256_S1x1x256x128_0_0_0_0 _ 0 (k0_at _ _) rfl rfl rfl x, ?_⟩
  exact fun _ h => absurd h List.not_mem_nil

/-- The value block one point leaves. -/
theorem left11 (c : Dev nD) (t : Fin cfg0.N) (y : S1x4x144x256.Idx) :
    (outsAt0 (F := Ideal) m c t).2.2.1 y = vBlock (b2 m c t) y := by
  unfold outsAt0
  dsimp only
  unfold out0_A_11
  refine View.read_writes_apply_of_pieces _ _ (vBlock (b2 m c t)) _ ?_ y (cover0_A_11 ..)
  unfold kernelRun0_A
  dsimp only
  sl_unfold_words
  have e2 : ∀ h, View.ld (b2 m c t) (Rect.unit (s := S1x256x512) ![0, 0, 0] ![1, 256, 512] h) = b2 m c t := fun h => View.ld_unit_zero (S := S1x256x512) hz3 h _
  simp only [View.readAt_eq_ld, (hs0_2 t).read_unread, e2]
  refine List.forall_mem_cons.mpr ⟨fun x => one_piece _ (off := ![0, 3, 128, 0]) inb_S1x4x144x256_S1x1x16x256_0_3_128_0 _ rfl rfl rfl x, ?_⟩
  refine List.forall_mem_cons.mpr ⟨fun x => v_piece _ (off := ![0, 3, 0, 0]) inb_S1x4x144x256_S1x1x128x256_0_3_0_0 _ 3 (v3_at _) rfl rfl rfl x, ?_⟩
  refine List.forall_mem_cons.mpr ⟨fun x => one_piece _ (off := ![0, 2, 128, 0]) inb_S1x4x144x256_S1x1x16x256_0_2_128_0 _ rfl rfl rfl x, ?_⟩
  refine List.forall_mem_cons.mpr ⟨fun x => v_piece _ (off := ![0, 2, 0, 0]) inb_S1x4x144x256_S1x1x128x256_0_2_0_0 _ 2 (v2_at _) rfl rfl rfl x, ?_⟩
  refine List.forall_mem_cons.mpr ⟨fun x => one_piece _ (off := ![0, 1, 128, 0]) inb_S1x4x144x256_S1x1x16x256_0_1_128_0 _ rfl rfl rfl x, ?_⟩
  refine List.forall_mem_cons.mpr ⟨fun x => v_piece _ (off := ![0, 1, 0, 0]) inb_S1x4x144x256_S1x1x128x256_0_1_0_0 _ 1 (v1_at _) rfl rfl rfl x, ?_⟩
  refine List.forall_mem_cons.mpr ⟨fun x => one_piece _ (off := ![0, 0, 128, 0]) inb_S1x4x144x256_S1x1x16x256_0_0_128_0 _ rfl rfl rfl x, ?_⟩
  refine List.forall_mem_cons.mpr ⟨fun x => v_piece _ (off := ![0, 0, 0, 0]) inb_S1x4x144x256_S1x1x128x256_0_0_0_0 _ 0 (v0_at _) rfl rfl rfl x, ?_⟩
  exact fun _ h => absurd h List.not_mem_nil

/-- The indexer query block one point leaves. -/
theorem left12 (c : Dev nD) (t : Fin cfg0.N) (y : S1x16x16x16x64.Idx) :
    (outsAt0 (F := Ideal) m c t).2.2.2.1 y = iBlock (b3 m c t) y := by
  unfold outsAt0
  dsimp only
  unfold out0_A_12
  refine View.read_writes_apply_of_pieces _ _ (iBlock (b3 m c t)) _ ?_ y (cover0_A_12 ..)
  unfold kernelRun0_A
  dsimp only
  sl_unfold_words
  have e3 : ∀ h, View.ld (b3 m c t) (Rect.unit (s := S1x256x1024) ![0, 0, 0] ![1, 256, 1024] h) = b3 m c t := fun h => View.ld_unit_zero (S := S1x256x1024) hz3 h _
  simp only [View.readAt_eq_ld, (hs0_3 t).read_unread, e3]
  refine List.forall_mem_cons.mpr ⟨?_, ?_⟩
  · intro x
    have h := i_piece (b3 m c t) (off := ![0, 0, 15, 0, 0]) inb_S1x16x16x16x64_S1x16x1x16x64_0_0_15_0_0 _ 15 (i15_at _) rfl rfl rfl rfl x
    exact h
  refine List.forall_mem_cons.mpr ⟨?_, ?_⟩
  · intro x
    have h := i_piece (b3 m c t) (off := ![0, 0, 14, 0, 0]) inb_S1x16x16x16x64_S1x16x1x16x64_0_0_14_0_0 _ 14 (i14_at _) rfl rfl rfl rfl x
    exact h
  refine List.forall_mem_cons.mpr ⟨?_, ?_⟩
  · intro x
    have h := i_piece (b3 m c t) (off := ![0, 0, 13, 0, 0]) inb_S1x16x16x16x64_S1x16x1x16x64_0_0_13_0_0 _ 13 (i13_at _) rfl rfl rfl rfl x
    exact h
  refine List.forall_mem_cons.mpr ⟨?_, ?_⟩
  · intro x
    have h := i_piece (b3 m c t) (off := ![0, 0, 12, 0, 0]) inb_S1x16x16x16x64_S1x16x1x16x64_0_0_12_0_0 _ 12 (i12_at _) rfl rfl rfl rfl x
    exact h
  refine List.forall_mem_cons.mpr ⟨?_, ?_⟩
  · intro x
    have h := i_piece (b3 m c t) (off := ![0, 0, 11, 0, 0]) inb_S1x16x16x16x64_S1x16x1x16x64_0_0_11_0_0 _ 11 (i11_at _) rfl rfl rfl rfl x
    exact h
  refine List.forall_mem_cons.mpr ⟨?_, ?_⟩
  · intro x
    have h := i_piece (b3 m c t) (off := ![0, 0, 10, 0, 0]) inb_S1x16x16x16x64_S1x16x1x16x64_0_0_10_0_0 _ 10 (i10_at _) rfl rfl rfl rfl x
    exact h
  refine List.forall_mem_cons.mpr ⟨?_, ?_⟩
  · intro x
    have h := i_piece (b3 m c t) (off := ![0, 0, 9, 0, 0]) inb_S1x16x16x16x64_S1x16x1x16x64_0_0_9_0_0 _ 9 (i9_at _) rfl rfl rfl rfl x
    exact h
  refine List.forall_mem_cons.mpr ⟨?_, ?_⟩
  · intro x
    have h := i_piece (b3 m c t) (off := ![0, 0, 8, 0, 0]) inb_S1x16x16x16x64_S1x16x1x16x64_0_0_8_0_0 _ 8 (i8_at _) rfl rfl rfl rfl x
    exact h
  refine List.forall_mem_cons.mpr ⟨?_, ?_⟩
  · intro x
    have h := i_piece (b3 m c t) (off := ![0, 0, 7, 0, 0]) inb_S1x16x16x16x64_S1x16x1x16x64_0_0_7_0_0 _ 7 (i7_at _) rfl rfl rfl rfl x
    exact h
  refine List.forall_mem_cons.mpr ⟨?_, ?_⟩
  · intro x
    have h := i_piece (b3 m c t) (off := ![0, 0, 6, 0, 0]) inb_S1x16x16x16x64_S1x16x1x16x64_0_0_6_0_0 _ 6 (i6_at _) rfl rfl rfl rfl x
    exact h
  refine List.forall_mem_cons.mpr ⟨?_, ?_⟩
  · intro x
    have h := i_piece (b3 m c t) (off := ![0, 0, 5, 0, 0]) inb_S1x16x16x16x64_S1x16x1x16x64_0_0_5_0_0 _ 5 (i5_at _) rfl rfl rfl rfl x
    exact h
  refine List.forall_mem_cons.mpr ⟨?_, ?_⟩
  · intro x
    have h := i_piece (b3 m c t) (off := ![0, 0, 4, 0, 0]) inb_S1x16x16x16x64_S1x16x1x16x64_0_0_4_0_0 _ 4 (i4_at _) rfl rfl rfl rfl x
    exact h
  refine List.forall_mem_cons.mpr ⟨?_, ?_⟩
  · intro x
    have h := i_piece (b3 m c t) (off := ![0, 0, 3, 0, 0]) inb_S1x16x16x16x64_S1x16x1x16x64_0_0_3_0_0 _ 3 (i3_at _) rfl rfl rfl rfl x
    exact h
  refine List.forall_mem_cons.mpr ⟨?_, ?_⟩
  · intro x
    have h := i_piece (b3 m c t) (off := ![0, 0, 2, 0, 0]) inb_S1x16x16x16x64_S1x16x1x16x64_0_0_2_0_0 _ 2 (i2_at _) rfl rfl rfl rfl x
    exact h
  refine List.forall_mem_cons.mpr ⟨?_, ?_⟩
  · intro x
    have h := i_piece (b3 m c t) (off := ![0, 0, 1, 0, 0]) inb_S1x16x16x16x64_S1x16x1x16x64_0_0_1_0_0 _ 1 (i1_at _) rfl rfl rfl rfl x
    exact h
  refine List.forall_mem_cons.mpr ⟨?_, ?_⟩
  · intro x
    have h := i_piece (b3 m c t) (off := ![0, 0, 0, 0, 0]) inb_S1x16x16x16x64_S1x16x1x16x64_0_0_0_0_0 _ 0 (i0_at _) rfl rfl rfl rfl x
    exact h
  exact fun _ h => absurd h List.not_mem_nil

/-- The indexer key block one point leaves. -/
theorem left13 (c : Dev nD) (t : Fin cfg0.N) (y : S1x1x64x256.Idx) :
    (outsAt0 (F := Ideal) m c t).2.2.2.2 y = jBlock (b4 m c t) y := by
  unfold outsAt0
  dsimp only
  unfold out0_A_13
  refine View.read_writes_apply_of_pieces _ _ (jBlock (b4 m c t)) _ ?_ y (cover0_A_13 ..)
  unfold kernelRun0_A
  dsimp only
  sl_unfold_words
  have e4 : ∀ h, View.ld (b4 m c t) (Rect.unit (s := S1x256x128) ![0, 0, 0] ![1, 256, 128] h) = b4 m c t := fun h => View.ld_unit_zero (S := S1x256x128) hz3 h _
  simp only [View.readAt_eq_ld, (hs0_4 t).read_unread, e4]
  refine List.forall_mem_cons.mpr ⟨fun x => j_piece _ (off := ![0, 0, 0, 0]) inb_S1x1x64x256_S1x1x64x256_0_0_0_0 rfl rfl x, ?_⟩
  exact fun _ h => absurd h List.not_mem_nil

end Cert.Proof.Prep
end
-- ==== Proof.PrepRef.lean ====
/-
  The plain preparation at an index: each of the five results in closed form.
-/
module

public import proofs.«01_k».proof.Proof.PrepBlock
public import proofs.«01_k».proof.Proof.Gen.PrepRefIdeal.Read

@[expose] public section
set_option maxRecDepth 16384
noncomputable section
namespace Cert.Proof.Prep

open Cert.PrepRefIdeal Cert.PrepRefIdeal.Read
open Idealize.ShloMosaic Idealize.ShloMosaic.TcCoe Idealize.ShloMosaic.Tactic

/-- Row `r` of the `i`-th run of 256 positions. -/
def pos (i : Fin 64) (r : Fin 256) : Fin 16384 := ⟨256 * i.val + r.val, by omega⟩

variable (u : Vec Ideal S2x16384x14336 .bf16) (sm : Vec Ideal S2x16384x128 .f32) (w : Vec Ideal S128 .f32)

/-- Feature `d` of query head `h` at position `s`. -/
def qSpec (b : Fin 2) (h : Fin 16) (d : Fin 128) (s : Fin 16384) : EReal :=
  headNorm (fun k => u (ix3 b s (⟨6144 + (128 * h.val + k.val), by omega⟩ : Fin 14336))) (fun k => w (ix1 k)) d * lit 0x3E0293EE#32

/-- Feature `d` of key head `h` at position `s`. -/
def kSpec (b : Fin 2) (h : Fin 4) (d : Fin 128) (s : Fin 16384) : EReal :=
  headNorm (fun k => u (ix3 b s (⟨8192 + (128 * h.val + k.val), by omega⟩ : Fin 14336))) (fun k => w (ix1 k)) d

/-- Feature `d` of value head `h` at position `s`. -/
def vSpec (b : Fin 2) (h : Fin 4) (d : Fin 128) (s : Fin 16384) : EReal :=
  u (ix3 b s (⟨8704 + (128 * h.val + d.val), by omega⟩ : Fin 14336))

/-- Feature `d` of indexer query head `h` at position `s`. -/
def iSpec (b : Fin 2) (h : Fin 16) (d : Fin 64) (s : Fin 16384) : EReal :=
  u (ix3 b s (⟨9216 + (64 * h.val + d.val), by omega⟩ : Fin 14336))

/-- Feature `d` of the indexer key at position `s`. -/
def jSpec (b : Fin 2) (d : Fin 64) (s : Fin 16384) : EReal :=
  sm (ix3 b s (⟨d.val, by omega⟩ : Fin 128))

theorem e_q (b : Fin 2) (s : Fin 16384) (h : Fin 16) (d : Fin 128) :
    idx_main_v1 (idx_main_v2 (ix4 b s h d)) = ix3 b s (⟨6144 + (128 * h.val + d.val), by omega⟩ : Fin 14336) := by
  have hb := b.isLt; have hs := s.isLt; have hh := h.isLt; have hd := d.isLt
  refine funext fun a => ?_
  match a with
  | ⟨0, _⟩ => exact Fin.ext (by show (((b.val * 16384 + s.val) * 16 + h.val) * 128 + d.val) / 33554432 = b.val; omega)
  | ⟨1, _⟩ => exact Fin.ext (by show (((b.val * 16384 + s.val) * 16 + h.val) * 128 + d.val) / 2048 % 16384 = s.val; omega)
  | ⟨2, _⟩ => exact Fin.ext (by show 6144 + (((b.val * 16384 + s.val) * 16 + h.val) * 128 + d.val) % 2048 = 6144 + (128 * h.val + d.val); omega)

theorem e_k (b : Fin 2) (s : Fin 16384) (h : Fin 4) (d : Fin 128) :
    idx_main_v18 (idx_main_v19 (ix4 b s h d)) = ix3 b s (⟨8192 + (128 * h.val + d.val), by omega⟩ : Fin 14336) := by
  have hb := b.isLt; have hs := s.isLt; have hh := h.isLt; have hd := d.isLt
  refine funext fun a => ?_
  match a with
  | ⟨0, _⟩ => exact Fin.ext (by show (((b.val * 16384 + s.val) * 4 + h.val) * 128 + d.val) / 8388608 = b.val; omega)
  | ⟨1, _⟩ => exact Fin.ext (by show (((b.val * 16384 + s.val) * 4 + h.val) * 128 + d.val) / 512 % 16384 = s.val; omega)
  | ⟨2, _⟩ => exact Fin.ext (by show 8192 + (((b.val * 16384 + s.val) * 4 + h.val) * 128 + d.val) % 512 = 8192 + (128 * h.val + d.val); omega)

theorem e_v (b : Fin 2) (s : Fin 16384) (h : Fin 4) (d : Fin 128) :
    idx_main_v33 (idx_main_v34 (ix4 b s h d)) = ix3 b s (⟨8704 + (128 * h.val + d.val), by omega⟩ : Fin 14336) := by
  have hb := b.isLt; have hs := s.isLt; have hh := h.isLt; have hd := d.isLt
  refine funext fun a => ?_
  match a with
  | ⟨0, _⟩ => exact Fin.ext (by show (((b.val * 16384 + s.val) * 4 + h.val) * 128 + d.val) / 8388608 = b.val; omega)
  | ⟨1, _⟩ => exact Fin.ext (by show (((b.val * 16384 + s.val) * 4 + h.val) * 128 + d.val) / 512 % 16384 = s.val; omega)
  | ⟨2, _⟩ => exact Fin.ext (by show 8704 + (((b.val * 16384 + s.val) * 4 + h.val) * 128 + d.val) % 512 = 8704 + (128 * h.val + d.val); omega)

theorem ref_q_raw (b : Fin 2) (s : Fin 16384) (h : Fin 16) (d : Fin 128) :
    val_main_v2 (F := Ideal) u (ix4 b s h d) = u (ix3 b s (⟨6144 + (128 * h.val + d.val), by omega⟩ : Fin 14336)) := by
  rw [val_main_v2_apply, val_main_v1_apply, val_main_v0_apply, e_q]
  rfl

theorem ref_q (b : Fin 2) (s : Fin 16384) (h : Fin 16) (d : Fin 128) :
    val_main_v17 (F := Ideal) u w (ix4 b s h d) = qSpec u w b h d s := by
  have e : ∀ k, idx_main_v4 (idx_main_v5 (idx_main_v11 (ix4 b s h d))) k = ix4 b s h k := fun k =>
    funext fun a => by match a with | ⟨0, _⟩ => rfl | ⟨1, _⟩ => rfl | ⟨2, _⟩ => rfl | ⟨3, _⟩ => rfl
  have e1 : idx_main_v13 (idx_main_v14 (ix4 b s h d)) = ix1 d := funext fun a => by match a with | ⟨0, _⟩ => rfl
  rw [val_main_v17_apply, val_main_v16_apply, val_main_cst_2_apply, val_main_v15_apply, val_main_v14_apply, val_main_v13_apply, val_main_v12_apply, val_main_v11_apply, val_main_v10_apply,
    val_main_v9_apply, val_main_v8_apply, val_main_cst_1_apply, val_main_v7_apply, val_main_v6_apply, val_main_cst_0_apply,
    val_main_v5_apply, val_main_v4_apply, val_main_cst_apply]
  simp only [val_main_v3_apply]
  simp only [e, ref_q_raw, e1]
  unfold qSpec headNorm
  show u _ * Ideal.rsqrt (Ideal.div (Ideal.ofBits .f32 0x00000000#32 + ∑ k : Fin 128, u _ * u _) _ + _) * w _ * _ = _
  rw [Ideal.ofBits_zero_f32, zero_add]
  rfl

theorem ref_k_raw (b : Fin 2) (s : Fin 16384) (h : Fin 4) (d : Fin 128) :
    val_main_v19 (F := Ideal) u (ix4 b s h d) = u (ix3 b s (⟨8192 + (128 * h.val + d.val), by omega⟩ : Fin 14336)) := by
  rw [val_main_v19_apply, val_main_v18_apply, val_main_v0_apply, e_k]
  rfl

theorem ref_k (b : Fin 2) (s : Fin 16384) (h : Fin 4) (d : Fin 128) :
    val_main_v32 (F := Ideal) u w (ix4 b s h d) = kSpec u w b h d s := by
  have e : ∀ k, idx_main_v21 (idx_main_v22 (idx_main_v28 (ix4 b s h d))) k = ix4 b s h k := fun k =>
    funext fun a => by match a with | ⟨0, _⟩ => rfl | ⟨1, _⟩ => rfl | ⟨2, _⟩ => rfl | ⟨3, _⟩ => rfl
  have e1 : idx_main_v30 (idx_main_v31 (ix4 b s h d)) = ix1 d := funext fun a => by match a with | ⟨0, _⟩ => rfl
  rw [val_main_v32_apply, val_main_v31_apply, val_main_v30_apply, val_main_v29_apply, val_main_v28_apply, val_main_v27_apply,
    val_main_v26_apply, val_main_v25_apply, val_main_cst_5_apply, val_main_v24_apply, val_main_v23_apply, val_main_cst_4_apply,
    val_main_v22_apply, val_main_v21_apply, val_main_cst_3_apply]
  simp only [val_main_v20_apply]
  simp only [e, ref_k_raw, e1]
  unfold kSpec headNorm
  show u _ * Ideal.rsqrt (Ideal.div (Ideal.ofBits .f32 0x00000000#32 + ∑ k : Fin 128, u _ * u _) _ + _) * w _ = _
  rw [Ideal.ofBits_zero_f32, zero_add]
  rfl

/-- The query result at an index. -/
theorem ref45 (b : Fin 2) (hp : Fin 8) (d : Fin 128) (i : Fin 64) (p : Fin 2) (r : Fin 256) :
    val_main_v45 (F := Ideal) u w (ix4 b hp d (⟨512 * i.val + (256 * p.val + r.val), by omega⟩ : Fin 32768))
      = qSpec u w b ⟨2 * hp.val + p.val, by omega⟩ d (pos i r) := by
  have hb := b.isLt; have hh := hp.isLt; have hd := d.isLt; have hi := i.isLt; have hq := p.isLt; have hr := r.isLt
  have e40 : idx_main_v40 (ix4 b hp d (⟨512 * i.val + (256 * p.val + r.val), by omega⟩ : Fin 32768))
      = ix5 (⟨8 * b.val + hp.val, by omega⟩ : Fin 16) d i p r := by
    refine funext fun a => ?_
    match a with
    | ⟨0, _⟩ => exact Fin.ext (by show (((b.val * 8 + hp.val) * 128 + d.val) * 32768 + (512 * i.val + (256 * p.val + r.val))) / 4194304 = 8 * b.val + hp.val; omega)
    | ⟨1, _⟩ => exact Fin.ext (by show (((b.val * 8 + hp.val) * 128 + d.val) * 32768 + (512 * i.val + (256 * p.val + r.val))) / 32768 % 128 = d.val; omega)
    | ⟨2, _⟩ => exact Fin.ext (by show (((b.val * 8 + hp.val) * 128 + d.val) * 32768 + (512 * i.val + (256 * p.val + r.val))) / 512 % 64 = i.val; omega)
    | ⟨3, _⟩ => exact Fin.ext (by show (((b.val * 8 + hp.val) * 128 + d.val) * 32768 + (512 * i.val + (256 * p.val + r.val))) / 256 % 2 = p.val; omega)
    | ⟨4, _⟩ => exact Fin.ext (by show (((b.val * 8 + hp.val) * 128 + d.val) * 32768 + (512 * i.val + (256 * p.val + r.val))) % 256 = r.val; omega)
  have e39 : idx_main_v39 (ix5 (⟨8 * b.val + hp.val, by omega⟩ : Fin 16) d i p r) = ix5 (⟨8 * b.val + hp.val, by omega⟩ : Fin 16) p d i r :=
    funext fun a => by match a with | ⟨0, _⟩ => rfl | ⟨1, _⟩ => rfl | ⟨2, _⟩ => rfl | ⟨3, _⟩ => rfl | ⟨4, _⟩ => rfl
  have e38 : idx_main_v38 (ix5 (⟨8 * b.val + hp.val, by omega⟩ : Fin 16) p d i r)
      = ix4 b (⟨2 * hp.val + p.val, by omega⟩ : Fin 16) d (pos i r) := by
    refine funext fun a => ?_
    match a with
    | ⟨0, _⟩ => exact Fin.ext (by show (((((8 * b.val + hp.val) * 2 + p.val) * 128 + d.val) * 64 + i.val) * 256 + r.val) / 33554432 = b.val; omega)
    | ⟨1, _⟩ => exact Fin.ext (by show (((((8 * b.val + hp.val) * 2 + p.val) * 128 + d.val) * 64 + i.val) * 256 + r.val) / 2097152 % 16 = 2 * hp.val + p.val; omega)
    | ⟨2, _⟩ => exact Fin.ext (by show (((((8 * b.val + hp.val) * 2 + p.val) * 128 + d.val) * 64 + i.val) * 256 + r.val) / 16384 % 128 = d.val; omega)
    | ⟨3, _⟩ => exact Fin.ext (by show (((((8 * b.val + hp.val) * 2 + p.val) * 128 + d.val) * 64 + i.val) * 256 + r.val) % 16384 = 256 * i.val + r.val; omega)
  have e37 : idx_main_v37 (ix4 b (⟨2 * hp.val + p.val, by omega⟩ : Fin 16) d (pos i r))
      = ix4 b (pos i r) (⟨2 * hp.val + p.val, by omega⟩ : Fin 16) d :=
    funext fun a => by match a with | ⟨0, _⟩ => rfl | ⟨1, _⟩ => rfl | ⟨2, _⟩ => rfl | ⟨3, _⟩ => rfl
  rw [val_main_v45_apply, val_main_v40_apply, e40, val_main_v39_apply, e39, val_main_v38_apply, e38, val_main_v37_apply, e37, ref_q]
  rfl

/-- The key result at an index. -/
theorem ref47 (b : Fin 2) (h : Fin 4) (s : Fin 16384) (d : Fin 128) :
    val_main_v47 (F := Ideal) u w (ix4 b h s d) = kSpec u w b h d s := by
  have e : idx_main_v46 (ix4 b h s d) = ix4 b s h d :=
    funext fun a => by match a with | ⟨0, _⟩ => rfl | ⟨1, _⟩ => rfl | ⟨2, _⟩ => rfl | ⟨3, _⟩ => rfl
  rw [val_main_v47_apply, val_main_v46_apply, e, ref_k]
  rfl

/-- The value result at an index. -/
theorem ref49 (b : Fin 2) (h : Fin 4) (d : Fin 128) (s : Fin 16384) :
    val_main_v49 (F := Ideal) u (ix4 b h d s) = vSpec u b h d s := by
  have e : idx_main_v48 (ix4 b h d s) = ix4 b s h d :=
    funext fun a => by match a with | ⟨0, _⟩ => rfl | ⟨1, _⟩ => rfl | ⟨2, _⟩ => rfl | ⟨3, _⟩ => rfl
  rw [val_main_v49_apply, val_main_v48_apply, e, val_main_v34_apply, val_main_v33_apply, val_main_v0_apply, e_v]
  rfl

/-- The indexer queries' result at an index. -/
theorem ref50 (b : Fin 2) (i : Fin 64) (g h r : Fin 16) (d : Fin 64) :
    val_main_v50 (F := Ideal) u (ix5 b (⟨16 * i.val + g.val, by omega⟩ : Fin 1024) h r d)
      = iSpec u b h d (pos i ⟨g.val * 16 + r.val, by omega⟩) := by
  have hb := b.isLt; have hi := i.isLt; have hg := g.isLt; have hh := h.isLt; have hr := r.isLt; have hd := d.isLt
  have e42 : idx_main_v42 (ix5 b (⟨16 * i.val + g.val, by omega⟩ : Fin 1024) h r d)
      = ix5 b (⟨16 * i.val + g.val, by omega⟩ : Fin 1024) r h d :=
    funext fun a => by match a with | ⟨0, _⟩ => rfl | ⟨1, _⟩ => rfl | ⟨2, _⟩ => rfl | ⟨3, _⟩ => rfl | ⟨4, _⟩ => rfl
  have e : idx_main_v35 (idx_main_v41 (ix5 b (⟨16 * i.val + g.val, by omega⟩ : Fin 1024) r h d))
      = ix3 b (pos i ⟨g.val * 16 + r.val, by omega⟩) (⟨9216 + (64 * h.val + d.val), by omega⟩ : Fin 14336) := by
    refine funext fun a => ?_
    match a with
    | ⟨0, _⟩ => exact Fin.ext (by show ((((b.val * 1024 + (16 * i.val + g.val)) * 16 + r.val) * 16 + h.val) * 64 + d.val) / 16777216 = b.val; omega)
    | ⟨1, _⟩ => exact Fin.ext (by show ((((b.val * 1024 + (16 * i.val + g.val)) * 16 + r.val) * 16 + h.val) * 64 + d.val) / 1024 % 16384 = 256 * i.val + (g.val * 16 + r.val); omega)
    | ⟨2, _⟩ => exact Fin.ext (by show 9216 + ((((b.val * 1024 + (16 * i.val + g.val)) * 16 + r.val) * 16 + h.val) * 64 + d.val) % 1024 = 9216 + (64 * h.val + d.val); omega)
  rw [val_main_v50_apply, val_main_v42_apply, e42, val_main_v41_apply, val_main_v35_apply, val_main_v0_apply, e]
  rfl

/-- The indexer keys' result at an index. -/
theorem ref51 (b : Fin 2) (i : Fin 64) (d : Fin 64) (r : Fin 256) :
    val_main_v51 (F := Ideal) sm (ix4 b i d r) = jSpec sm b d (pos i r) := by
  have hb := b.isLt; have hi := i.isLt; have hr := r.isLt; have hd := d.isLt
  have e44 : idx_main_v44 (ix4 b i d r) = ix4 b i r d :=
    funext fun a => by match a with | ⟨0, _⟩ => rfl | ⟨1, _⟩ => rfl | ⟨2, _⟩ => rfl | ⟨3, _⟩ => rfl
  have e : idx_main_v36 (idx_main_v43 (ix4 b i r d)) = ix3 b (pos i r) (⟨d.val, by omega⟩ : Fin 128) := by
    refine funext fun a => ?_
    match a with
    | ⟨0, _⟩ => exact Fin.ext (by show (((b.val * 64 + i.val) * 256 + r.val) * 64 + d.val) / 1048576 = b.val; omega)
    | ⟨1, _⟩ => exact Fin.ext (by show (((b.val * 64 + i.val) * 256 + r.val) * 64 + d.val) / 64 % 16384 = 256 * i.val + r.val; omega)
    | ⟨2, _⟩ => exact Fin.ext (by show (((b.val * 64 + i.val) * 256 + r.val) * 64 + d.val) % 64 = d.val; omega)
  rw [val_main_v51_apply, val_main_v44_apply, e44, val_main_v43_apply, val_main_v36_apply, e]
  rfl

end Cert.Proof.Prep
end
-- ==== Proof.PrepValue.lean ====
/-
  The preparation kernel's results over the extended reals: each result array, and what the slices after the kernel take of
  it, at an index, equal to the plain preparation's.
-/
module

public import proofs.«01_k».proof.Proof.PrepPieces
public import proofs.«01_k».proof.Proof.PrepRef
public import Idealize.ShloMosaic.Lib.Pipeline.Value

@[expose] public section
set_option maxRecDepth 16384
noncomputable section
namespace Cert.Proof.Prep

open Cert.PrepIdeal Cert.PrepIdeal.Gen Cert.PrepRefIdeal.Read
open Idealize.ShloMosaic Idealize.ShloMosaic.TcCoe Idealize.ShloMosaic.Tactic Idealize.ShloMosaic.Pointwise
open Idealize.SL.Sem

variable (m : (ℓ : Loc nD τ sig) → Buf (Elt Ideal) ℓ) (ρ : Dev nD → PrngReg)

/-- The arguments' contents: the projected rows, their small columns, and the two heads' weights. -/
abbrev a0 (c : Dev nD) : Vec Ideal S2x16384x14336 .bf16 := m ((c : Thread nD τ).loc main_arg0)
abbrev a1 (c : Dev nD) : Vec Ideal S2x16384x128 .f32 := m ((c : Thread nD τ).loc main_arg1)
abbrev a3 (c : Dev nD) : Vec Ideal S128 .f32 := m ((c : Thread nD τ).loc main_arg3)
abbrev a4 (c : Dev nD) : Vec Ideal S128 .f32 := m ((c : Thread nD τ).loc main_arg4)

/-- The grid point of a row's `i`-th run of 256 positions. -/
def pt (b : Fin 2) (i : Fin 64) : Fin cfg0.N := ⟨64 * b.val + i.val, by
  have : cfg0.N = 128 := by decide +kernel
  omega⟩

theorem index0 : ∀ t : Fin cfg0.N, win0_0.index t = ![t.val / 64, t.val % 64, 3] :=
  (by decide +kernel : ∀ t : Fin grid0.N, win0_0.index t = ![t.val / 64, t.val % 64, 3])
theorem index1 : ∀ t : Fin cfg0.N, win0_1.index t = ![t.val / 64, t.val % 64, 16] :=
  (by decide +kernel : ∀ t : Fin grid0.N, win0_1.index t = ![t.val / 64, t.val % 64, 16])
theorem index2 : ∀ t : Fin cfg0.N, win0_2.index t = ![t.val / 64, t.val % 64, 17] :=
  (by decide +kernel : ∀ t : Fin grid0.N, win0_2.index t = ![t.val / 64, t.val % 64, 17])
theorem index3 : ∀ t : Fin cfg0.N, win0_3.index t = ![t.val / 64, t.val % 64, 9] :=
  (by decide +kernel : ∀ t : Fin grid0.N, win0_3.index t = ![t.val / 64, t.val % 64, 9])
theorem index4 : ∀ t : Fin cfg0.N, win0_4.index t = ![t.val / 64, t.val % 64, 0] :=
  (by decide +kernel : ∀ t : Fin grid0.N, win0_4.index t = ![t.val / 64, t.val % 64, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index9 : ∀ t : Fin cfg0.N, win0_9.index t = ![t.val / 64, 0, 0, t.val % 64] :=
  (by decide +kernel : ∀ t : Fin grid0.N, win0_9.index t = ![t.val / 64, 0, 0, t.val % 64])
theorem index10 : ∀ t : Fin cfg0.N, win0_10.index t = ![t.val / 64, 0, t.val % 64, 0] :=
  (by decide +kernel : ∀ t : Fin grid0.N, win0_10.index t = ![t.val / 64, 0, t.val % 64, 0])
theorem index11 : ∀ t : Fin cfg0.N, win0_11.index t = ![t.val / 64, 0, 0, t.val % 64] :=
  (by decide +kernel : ∀ t : Fin grid0.N, win0_11.index t = ![t.val / 64, 0, 0, t.val % 64])
theorem index12 : ∀ t : Fin cfg0.N, win0_12.index t = ![t.val / 64, t.val % 64, 0, 0, 0] :=
  (by decide +kernel : ∀ t : Fin grid0.N, win0_12.index t = ![t.val / 64, t.val % 64, 0, 0, 0])
theorem index13 : ∀ t : Fin cfg0.N, win0_13.index t = ![t.val / 64, t.val % 64, 0, 0] :=
  (by decide +kernel : ∀ t : Fin grid0.N, win0_13.index t = ![t.val / 64, t.val % 64, 0, 0])

theorem flush9 : ∀ t : Fin cfg0.N, (cfg0.win 9).flush t = true :=
  (by decide +kernel : ∀ t : Fin grid0.N, (cfg0.win 9).flush t = true)
theorem apart9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne
    ((by decide +kernel : ∀ t t' : Fin grid0.N, win0_9.index t = win0_9.index t' → t = t') t t' h)
theorem wrote9 (c : Dev nD) (t : Fin cfg0.N) :
    (dats m 0 c).flushed 9 t = (cfg0.win 9).cut (grid0.coords t) ((outsAt0 m c t).1) := by
  show (cfg0.win 9).cut (grid0.coords t) ((dats m 0 c).after 9 t) = _
  rw [after0_9]

theorem flush10 : ∀ t : Fin cfg0.N, (cfg0.win 10).flush t = true :=
  (by decide +kernel : ∀ t : Fin grid0.N, (cfg0.win 10).flush t = true)
theorem apart10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne
    ((by decide +kernel : ∀ t t' : Fin grid0.N, win0_10.index t = win0_10.index t' → t = t') t t' h)
theorem wrote10 (c : Dev nD) (t : Fin cfg0.N) :
    (dats m 0 c).flushed 10 t = (cfg0.win 10).cut (grid0.coords t) ((outsAt0 m c t).2.1) := by
  show (cfg0.win 10).cut (grid0.coords t) ((dats m 0 c).after 10 t) = _
  rw [after0_10]

theorem flush11 : ∀ t : Fin cfg0.N, (cfg0.win 11).flush t = true :=
  (by decide +kernel : ∀ t : Fin grid0.N, (cfg0.win 11).flush t = true)
theorem apart11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne
    ((by decide +kernel : ∀ t t' : Fin grid0.N, win0_11.index t = win0_11.index t' → t = t') t t' h)
theorem wrote11 (c : Dev nD) (t : Fin cfg0.N) :
    (dats m 0 c).flushed 11 t = (cfg0.win 11).cut (grid0.coords t) ((outsAt0 m c t).2.2.1) := by
  show (cfg0.win 11).cut (grid0.coords t) ((dats m 0 c).after 11 t) = _
  rw [after0_11]

theorem flush12 : ∀ t : Fin cfg0.N, (cfg0.win 12).flush t = true :=
  (by decide +kernel : ∀ t : Fin grid0.N, (cfg0.win 12).flush t = true)
theorem apart12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne
    ((by decide +kernel : ∀ t t' : Fin grid0.N, win0_12.index t = win0_12.index t' → t = t') t t' h)
theorem wrote12 (c : Dev nD) (t : Fin cfg0.N) :
    (dats m 0 c).flushed 12 t = (cfg0.win 12).cut (grid0.coords t) ((outsAt0 m c t).2.2.2.1) := by
  show (cfg0.win 12).cut (grid0.coords t) ((dats m 0 c).after 12 t) = _
  rw [after0_12]

theorem flush13 : ∀ t : Fin cfg0.N, (cfg0.win 13).flush t = true :=
  (by decide +kernel : ∀ t : Fin grid0.N, (cfg0.win 13).flush t = true)
theorem apart13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne
    ((by decide +kernel : ∀ t t' : Fin grid0.N, win0_13.index t = win0_13.index t' → t = t') t t' h)
theorem wrote13 (c : Dev nD) (t : Fin cfg0.N) :
    (dats m 0 c).flushed 13 t = (cfg0.win 13).cut (grid0.coords t) ((outsAt0 m c t).2.2.2.2) := by
  show (cfg0.win 13).cut (grid0.coords t) ((dats m 0 c).after 13 t) = _
  rw [after0_13]

theorem w1_at (c : Dev nD) (k : Fin 128) : (V m c main_v1 : Vec Ideal S1x128 .f32) (ix2 0 k) = a3 m c (ix1 k) := by
  unfold V
  after_reads_at
theorem w2_at (c : Dev nD) (k : Fin 128) : (V m c main_v2 : Vec Ideal S1x128 .f32) (ix2 0 k) = a4 m c (ix1 k) := by
  unfold V
  after_reads_at

section
variable (c : Dev nD) (b : Fin 2) (i : Fin 64)

theorem b0_at (r : Fin 256) (k : Fin 2048) : b0 m c (pt b i) (ix3 0 r k) = a0 m c (ix3 b (pos i r) (⟨6144 + k.val, by omega⟩ : Fin 14336)) := by
  have e : ∀ a, win0_0.index (pt b i) a = (![_, _, _] : Fin 3 → Nat) a := congrFun (index0 _)
  have hb := b.isLt; have hi := i.isLt
  refine Eq.trans ?_ (congrFun (V_main_arg0 m c) (ix3 b (pos i r) (⟨6144 + k.val, by omega⟩ : Fin 14336)))
  refine congrArg (V m c main_arg0 : Vec Ideal S2x16384x14336 .bf16) (funext fun a => Fin.ext ?_)
  match a with
  | ⟨0, _⟩ => show win0_0.index _ 0 * 1 + 1 * 0 = b.val; rw [e]; simp [pt]; omega
  | ⟨1, _⟩ => show win0_0.index _ 1 * 256 + 1 * r.val = 256 * i.val + r.val; rw [e]; simp [pt]; omega
  | ⟨2, _⟩ => show win0_0.index _ 2 * 2048 + 1 * k.val = 6144 + k.val; rw [e]; simp

theorem b1_at (r : Fin 256) (k : Fin 512) : b1 m c (pt b i) (ix3 0 r k) = a0 m c (ix3 b (pos i r) (⟨8192 + k.val, by omega⟩ : Fin 14336)) := by
  have e : ∀ a, win0_1.index (pt b i) a = (![_, _, _] : Fin 3 → Nat) a := congrFun (index1 _)
  have hb := b.isLt; have hi := i.isLt
  refine Eq.trans ?_ (congrFun (V_main_arg0 m c) (ix3 b (pos i r) (⟨8192 + k.val, by omega⟩ : Fin 14336)))
  refine congrArg (V m c main_arg0 : Vec Ideal S2x16384x14336 .bf16) (funext fun a => Fin.ext ?_)
  match a with
  | ⟨0, _⟩ => show win0_1.index _ 0 * 1 + 1 * 0 = b.val; rw [e]; simp [pt]; omega
  | ⟨1, _⟩ => show win0_1.index _ 1 * 256 + 1 * r.val = 256 * i.val + r.val; rw [e]; simp [pt]; omega
  | ⟨2, _⟩ => show win0_1.index _ 2 * 512 + 1 * k.val = 8192 + k.val; rw [e]; simp

theorem b2_at (r : Fin 256) (k : Fin 512) : b2 m c (pt b i) (ix3 0 r k) = a0 m c (ix3 b (pos i r) (⟨8704 + k.val, by omega⟩ : Fin 14336)) := by
  have e : ∀ a, win0_2.index (pt b i) a = (![_, _, _] : Fin 3 → Nat) a := congrFun (index2 _)
  have hb := b.isLt; have hi := i.isLt
  refine Eq.trans ?_ (congrFun (V_main_arg0 m c) (ix3 b (pos i r) (⟨8704 + k.val, by omega⟩ : Fin 14336)))
  refine congrArg (V m c main_arg0 : Vec Ideal S2x16384x14336 .bf16) (funext fun a => Fin.ext ?_)
  match a with
  | ⟨0, _⟩ => show win0_2.index _ 0 * 1 + 1 * 0 = b.val; rw [e]; simp [pt]; omega
  | ⟨1, _⟩ => show win0_2.index _ 1 * 256 + 1 * r.val = 256 * i.val + r.val; rw [e]; simp [pt]; omega
  | ⟨2, _⟩ => show win0_2.index _ 2 * 512 + 1 * k.val = 8704 + k.val; rw [e]; simp

theorem b3_at (r : Fin 256) (k : Fin 1024) : b3 m c (pt b i) (ix3 0 r k) = a0 m c (ix3 b (pos i r) (⟨9216 + k.val, by omega⟩ : Fin 14336)) := by
  have e : ∀ a, win0_3.index (pt b i) a = (![_, _, _] : Fin 3 → Nat) a := congrFun (index3 _)
  have hb := b.isLt; have hi := i.isLt
  refine Eq.trans ?_ (congrFun (V_main_arg0 m c) (ix3 b (pos i r) (⟨9216 + k.val, by omega⟩ : Fin 14336)))
  refine congrArg (V m c main_arg0 : Vec Ideal S2x16384x14336 .bf16) (funext fun a => Fin.ext ?_)
  match a with
  | ⟨0, _⟩ => show win0_3.index _ 0 * 1 + 1 * 0 = b.val; rw [e]; simp [pt]; omega
  | ⟨1, _⟩ => show win0_3.index _ 1 * 256 + 1 * r.val = 256 * i.val + r.val; rw [e]; simp [pt]; omega
  | ⟨2, _⟩ => show win0_3.index _ 2 * 1024 + 1 * k.val = 9216 + k.val; rw [e]; simp

theorem b4_at (r : Fin 256) (k : Fin 128) : b4 m c (pt b i) (ix3 0 r k) = a1 m c (ix3 b (pos i r) k) := by
  have e : ∀ a, win0_4.index (pt b i) a = (![_, _, _] : Fin 3 → Nat) a := congrFun (index4 _)
  have hb := b.isLt; have hi := i.isLt
  refine Eq.trans ?_ (congrFun (V_main_arg1 m c) (ix3 b (pos i r) k))
  refine congrArg (V m c main_arg1 : Vec Ideal S2x16384x128 .f32) (funext fun a => Fin.ext ?_)
  match a with
  | ⟨0, _⟩ => show win0_4.index _ 0 * 1 + 1 * 0 = b.val; rw [e]; simp [pt]; omega
  | ⟨1, _⟩ => show win0_4.index _ 1 * 256 + 1 * r.val = 256 * i.val + r.val; rw [e]; simp [pt]; omega
  | ⟨2, _⟩ => show win0_4.index _ 2 * 128 + 1 * k.val = k.val; rw [e]; simp

theorem b6_at (k : Fin 128) : b6 m c (pt b i) (ix2 0 k) = a3 m c (ix1 k) := by
  have e : ∀ a, win0_6.index (pt b i) a = (![_, _] : Fin 2 → Nat) a := congrFun (index6 _)
  refine Eq.trans ?_ (w1_at m c k)
  refine congrArg (V m c main_v1 : Vec Ideal S1x128 .f32) (funext fun a => Fin.ext ?_)
  match a with
  | ⟨0, _⟩ => show win0_6.index _ 0 * 1 + 1 * 0 = 0; rw [e]; simp
  | ⟨1, _⟩ => show win0_6.index _ 1 * 128 + 1 * k.val = k.val; rw [e]; simp

theorem b7_at (k : Fin 128) : b7 m c (pt b i) (ix2 0 k) = a4 m c (ix1 k) := by
  have e : ∀ a, win0_7.index (pt b i) a = (![_, _] : Fin 2 → Nat) a := congrFun (index7 _)
  refine Eq.trans ?_ (w2_at m c k)
  refine congrArg (V m c main_v2 : Vec Ideal S1x128 .f32) (funext fun a => Fin.ext ?_)
  match a with
  | ⟨0, _⟩ => show win0_7.index _ 0 * 1 + 1 * 0 = 0; rw [e]; simp
  | ⟨1, _⟩ => show win0_7.index _ 1 * 128 + 1 * k.val = k.val; rw [e]; simp

/-- The query array at an index of its first 128 rows. -/
theorem arr9_at (hp : Fin 8) (d : Fin 128) (p : Fin 2) (r : Fin 256) :
    ((dats m 0 c).arrAt 9 cfg0.N : Vec Ideal S2x8x256x32768 .bf16) (ix4 b hp (⟨d.val, by omega⟩ : Fin 256) (⟨512 * i.val + (256 * p.val + r.val), by omega⟩ : Fin 32768))
      = qSpec (a0 m c) (a3 m c) b ⟨2 * hp.val + p.val, by omega⟩ d (pos i r) := by
  have e : ∀ a, win0_9.index (pt b i) a = (![_, _, _, _] : Fin 4 → Nat) a := congrFun (index9 _)
  have lb := b.isLt; have li := i.isLt; have lhp := hp.isLt; have ld := d.isLt; have lp := p.isLt; have lr := r.isLt
  have hr := congrFun ((dats m 0 c).read_blk_arrAt_eq_flushed 9 apart9 cfg0.N (pt b i) (pt b i).isLt (flush9 _)) (ix4 0 hp (⟨d.val, by omega⟩ : Fin 256) (⟨256 * p.val + r.val, by omega⟩ : Fin 512) : S1x8x256x512.Idx)
  rw [wrote9] at hr
  refine Eq.trans ?_ (hr.trans ?_)
  · rw [View.read_apply]
    refine congrArg ((dats m 0 c).arrAt 9 cfg0.N : Vec Ideal S2x8x256x32768 .bf16) (funext fun a => Fin.ext ?_)
    match a with
    | ⟨0, _⟩ => show b.val = win0_9.index _ 0 * 1 + 1 * 0; rw [e]; simp [pt]; omega
    | ⟨1, _⟩ => show hp.val = win0_9.index _ 1 * 8 + 1 * hp.val; rw [e]; simp [pt]
    | ⟨2, _⟩ => show d.val = win0_9.index _ 2 * 256 + 1 * d.val; rw [e]; simp [pt]
    | ⟨3, _⟩ => show 512 * i.val + (256 * p.val + r.val) = win0_9.index _ 3 * 512 + 1 * (256 * p.val + r.val); rw [e]; simp [pt]; omega
  · refine (left9 m c (pt b i) (ix4 0 hp (⟨d.val, by omega⟩ : Fin 256) (⟨256 * p.val + r.val, by omega⟩ : Fin 512))).trans ?_
    refine (qBlock_lo _ _ _ _ ⟨2 * hp.val + p.val, by omega⟩ d r ?_ ?_ ?_).trans ?_
    · show 2 * hp.val + (256 * p.val + r.val) / 256 = 2 * hp.val + p.val; omega
    · rfl
    · show (256 * p.val + r.val) % 256 = r.val; omega
    · unfold qAt qSpec
      simp only [b0_at, b6_at]

/-- The key array at an index of its first 128 columns. -/
theorem arr10_at (h : Fin 4) (d : Fin 128) (r : Fin 256) :
    ((dats m 0 c).arrAt 10 cfg0.N : Vec Ideal S2x4x16384x256 .bf16) (ix4 b h (pos i r) (⟨d.val, by omega⟩ : Fin 256))
      = kSpec (a0 m c) (a4 m c) b h d (pos i r) := by
  have e : ∀ a, win0_10.index (pt b i) a = (![_, _, _, _] : Fin 4 → Nat) a := congrFun (index10 _)
  have lb := b.isLt; have li := i.isLt; have lh := h.isLt; have ld := d.isLt; have lr := r.isLt
  have hr := congrFun ((dats m 0 c).read_blk_arrAt_eq_flushed 10 apart10 cfg0.N (pt b i) (pt b i).isLt (flush10 _)) (ix4 0 h r (⟨d.val, by omega⟩ : Fin 256) : S1x4x256x256.Idx)
  rw [wrote10] at hr
  refine Eq.trans ?_ (hr.trans ?_)
  · rw [View.read_apply]
    refine congrArg ((dats m 0 c).arrAt 10 cfg0.N : Vec Ideal S2x4x16384x256 .bf16) (funext fun a => Fin.ext ?_)
    match a with
    | ⟨0, _⟩ => show b.val = win0_10.index _ 0 * 1 + 1 * 0; rw [e]; simp [pt]; omega
    | ⟨1, _⟩ => show h.val = win0_10.index _ 1 * 4 + 1 * h.val; rw [e]; simp [pt]
    | ⟨2, _⟩ => show 256 * i.val + r.val = win0_10.index _ 2 * 256 + 1 * r.val; rw [e]; simp [pt]; omega
    | ⟨3, _⟩ => show d.val = win0_10.index _ 3 * 256 + 1 * d.val; rw [e]; simp [pt]
  · refine (left10 m c (pt b i) (ix4 0 h r (⟨d.val, by omega⟩ : Fin 256))).trans ?_
    refine (kBlock_lo _ _ _ _ h r d rfl rfl rfl).trans ?_
    unfold kAt kSpec
    simp only [b1_at, b7_at]

/-- The value array at an index of its first 128 rows. -/
theorem arr11_at (h : Fin 4) (d : Fin 128) (r : Fin 256) :
    ((dats m 0 c).arrAt 11 cfg0.N : Vec Ideal S2x4x144x16384 .bf16) (ix4 b h (⟨d.val, by omega⟩ : Fin 144) (pos i r))
      = vSpec (a0 m c) b h d (pos i r) := by
  have e : ∀ a, win0_11.index (pt b i) a = (![_, _, _, _] : Fin 4 → Nat) a := congrFun (index11 _)
  have lb := b.isLt; have li := i.isLt; have lh := h.isLt; have ld := d.isLt; have lr := r.isLt
  have hr := congrFun ((dats m 0 c).read_blk_arrAt_eq_flushed 11 apart11 cfg0.N (pt b i) (pt b i).isLt (flush11 _)) (ix4 0 h (⟨d.val, by omega⟩ : Fin 144) r : S1x4x144x256.Idx)
  rw [wrote11] at hr
  refine Eq.trans ?_ (hr.trans ?_)
  · rw [View.read_apply]
    refine congrArg ((dats m 0 c).arrAt 11 cfg0.N : Vec Ideal S2x4x144x16384 .bf16) (funext fun a => Fin.ext ?_)
    match a with
    | ⟨0, _⟩ => show b.val = win0_11.index _ 0 * 1 + 1 * 0; rw [e]; simp [pt]; omega
    | ⟨1, _⟩ => show h.val = win0_11.index _ 1 * 4 + 1 * h.val; rw [e]; simp [pt]
    | ⟨2, _⟩ => show d.val = win0_11.index _ 2 * 144 + 1 * d.val; rw [e]; simp [pt]
    | ⟨3, _⟩ => show 256 * i.val + r.val = win0_11.index _ 3 * 256 + 1 * r.val; rw [e]; simp [pt]; omega
  · refine (left11 m c (pt b i) (ix4 0 h (⟨d.val, by omega⟩ : Fin 144) r)).trans ?_
    refine (vBlock_lo _ _ h d r rfl rfl rfl).trans ?_
    unfold vAt vSpec
    exact b2_at m c b i r _

/-- The indexer queries at an index. -/
theorem arr12_at (g h r : Fin 16) (d : Fin 64) :
    ((dats m 0 c).arrAt 12 cfg0.N : Vec Ideal S2x1024x16x16x64 .bf16) (ix5 b (⟨16 * i.val + g.val, by omega⟩ : Fin 1024) h r d)
      = iSpec (a0 m c) b h d (pos i ⟨g.val * 16 + r.val, by omega⟩) := by
  have e : ∀ a, win0_12.index (pt b i) a = (![_, _, _, _, _] : Fin 5 → Nat) a := congrFun (index12 _)
  have lb := b.isLt; have li := i.isLt; have lg := g.isLt; have lh := h.isLt; have lr := r.isLt; have ld := d.isLt
  have hr := congrFun ((dats m 0 c).read_blk_arrAt_eq_flushed 12 apart12 cfg0.N (pt b i) (pt b i).isLt (flush12 _)) (ix5 0 g h r d : S1x16x16x16x64.Idx)
  rw [wrote12] at hr
  refine Eq.trans ?_ (hr.trans ?_)
  · rw [View.read_apply]
    refine congrArg ((dats m 0 c).arrAt 12 cfg0.N : Vec Ideal S2x1024x16x16x64 .bf16) (funext fun a => Fin.ext ?_)
    match a with
    | ⟨0, _⟩ => show b.val = win0_12.index _ 0 * 1 + 1 * 0; rw [e]; simp [pt]; omega
    | ⟨1, _⟩ => show 16 * i.val + g.val = win0_12.index _ 1 * 16 + 1 * g.val; rw [e]; simp [pt]; omega
    | ⟨2, _⟩ => show h.val = win0_12.index _ 2 * 16 + 1 * h.val; rw [e]; simp [pt]
    | ⟨3, _⟩ => show r.val = win0_12.index _ 3 * 16 + 1 * r.val; rw [e]; simp [pt]
    | ⟨4, _⟩ => show d.val = win0_12.index _ 4 * 64 + 1 * d.val; rw [e]; simp [pt]
  · refine (left12 m c (pt b i) (ix5 0 g h r d)).trans ?_
    exact b3_at m c b i (⟨g.val * 16 + r.val, by omega⟩ : Fin 256) (⟨64 * h.val + d.val, by omega⟩ : Fin 1024)

/-- The indexer keys at an index. -/
theorem arr13_at (d : Fin 64) (r : Fin 256) :
    ((dats m 0 c).arrAt 13 cfg0.N : Vec Ideal S2x64x64x256 .bf16) (ix4 b i d r)
      = jSpec (a1 m c) b d (pos i r) := by
  have e : ∀ a, win0_13.index (pt b i) a = (![_, _, _, _] : Fin 4 → Nat) a := congrFun (index13 _)
  have lb := b.isLt; have li := i.isLt; have ld := d.isLt; have lr := r.isLt
  have hr := congrFun ((dats m 0 c).read_blk_arrAt_eq_flushed 13 apart13 cfg0.N (pt b i) (pt b i).isLt (flush13 _)) (ix4 0 0 d r : S1x1x64x256.Idx)
  rw [wrote13] at hr
  refine Eq.trans ?_ (hr.trans ?_)
  · rw [View.read_apply]
    refine congrArg ((dats m 0 c).arrAt 13 cfg0.N : Vec Ideal S2x64x64x256 .bf16) (funext fun a => Fin.ext ?_)
    match a with
    | ⟨0, _⟩ => show b.val = win0_13.index _ 0 * 1 + 1 * 0; rw [e]; simp [pt]; omega
    | ⟨1, _⟩ => show i.val = win0_13.index _ 1 * 1 + 1 * 0; rw [e]; simp [pt]; omega
    | ⟨2, _⟩ => show d.val = win0_13.index _ 2 * 64 + 1 * d.val; rw [e]; simp [pt]
    | ⟨3, _⟩ => show r.val = win0_13.index _ 3 * 256 + 1 * r.val; rw [e]; simp [pt]
  · refine (left13 m c (pt b i) (ix4 0 0 d r)).trans ?_
    exact b4_at m c b i r (⟨d.val, by omega⟩ : Fin 128)
end

/-- The slice of array 9 after the kernel, at an index. -/
theorem tail4_at (c : Dev nD) (b : Fin 2) (h : Fin 8) (d : Fin 128) (s : Fin 32768) :
    (Pipeline.afterTail₀ cfgs (dats m) 0 (V0 m) [hostOps1] c main_v4 : Vec Ideal S2x8x128x32768 .bf16) (ix4 b h d s)
      = ((dats m 0 c).arrAt 9 cfg0.N : Vec Ideal S2x8x256x32768 .bf16) (ix4 b h (⟨d.val, by omega⟩ : Fin 256) s) := by
  have hw := (dats m 0 c).withArrays_arrAt sharedIn0 (V0 m c) (A_eq m c) 9
  unfold Pipeline.afterTail₀
  generalize (Pipeline.withArrays _ c (V0 m c) _ : Valuation τ sig (Elt Ideal)) = W at hw ⊢
  rw [← hw]
  after_reads_at

/-- The slice of array 10 after the kernel, at an index. -/
theorem tail5_at (c : Dev nD) (b : Fin 2) (h : Fin 4) (s : Fin 16384) (d : Fin 128) :
    (Pipeline.afterTail₀ cfgs (dats m) 0 (V0 m) [hostOps1] c main_v5 : Vec Ideal S2x4x16384x128 .bf16) (ix4 b h s d)
      = ((dats m 0 c).arrAt 10 cfg0.N : Vec Ideal S2x4x16384x256 .bf16) (ix4 b h s (⟨d.val, by omega⟩ : Fin 256)) := by
  have hw := (dats m 0 c).withArrays_arrAt sharedIn0 (V0 m c) (A_eq m c) 10
  unfold Pipeline.afterTail₀
  generalize (Pipeline.withArrays _ c (V0 m c) _ : Valuation τ sig (Elt Ideal)) = W at hw ⊢
  rw [← hw]
  after_reads_at

/-- The slice of array 11 after the kernel, at an index. -/
theorem tail6_at (c : Dev nD) (b : Fin 2) (h : Fin 4) (d : Fin 128) (s : Fin 16384) :
    (Pipeline.afterTail₀ cfgs (dats m) 0 (V0 m) [hostOps1] c main_v6 : Vec Ideal S2x4x128x16384 .bf16) (ix4 b h d s)
      = ((dats m 0 c).arrAt 11 cfg0.N : Vec Ideal S2x4x144x16384 .bf16) (ix4 b h (⟨d.val, by omega⟩ : Fin 144) s) := by
  have hw := (dats m 0 c).withArrays_arrAt sharedIn0 (V0 m c) (A_eq m c) 11
  unfold Pipeline.afterTail₀
  generalize (Pipeline.withArrays _ c (V0 m c) _ : Valuation τ sig (Elt Ideal)) = W at hw ⊢
  rw [← hw]
  after_reads_at

/-- A position and its run of 256. -/
theorem pos_split (s : Fin 16384) : ∃ i r, s = pos i r :=
  ⟨⟨s.val / 256, by omega⟩, ⟨s.val % 256, by omega⟩, Fin.ext (by show s.val = 256 * (s.val / 256) + s.val % 256; omega)⟩

theorem q_eq (c : Dev nD) : (Pipeline.afterTail₀ cfgs (dats m) 0 (V0 m) [hostOps1] c main_v4 : Vec Ideal S2x8x128x32768 .bf16)
    = val_main_v45 (F := Ideal) (a0 m c) (a3 m c) := by
  funext z
  obtain ⟨b, hp, d, s, rfl⟩ : ∃ b hp d s, z = ix4 b hp d s := ⟨z 0, z 1, z 2, z 3, eq_ix4 z⟩
  obtain ⟨i, p, r, rfl⟩ : ∃ (i : Fin 64) (p : Fin 2) (r : Fin 256), s = (⟨512 * i.val + (256 * p.val + r.val), by omega⟩ : Fin 32768) :=
    ⟨⟨s.val / 512, by omega⟩, ⟨s.val / 256 % 2, by omega⟩, ⟨s.val % 256, by omega⟩, Fin.ext (by
      show s.val = 512 * (s.val / 512) + (256 * (s.val / 256 % 2) + s.val % 256); omega)⟩
  exact (tail4_at m c b hp d _).trans ((arr9_at m c b i hp d p r).trans (ref45 _ _ b hp d i p r).symm)

theorem k_eq (c : Dev nD) : (Pipeline.afterTail₀ cfgs (dats m) 0 (V0 m) [hostOps1] c main_v5 : Vec Ideal S2x4x16384x128 .bf16)
    = val_main_v47 (F := Ideal) (a0 m c) (a4 m c) := by
  funext z
  obtain ⟨b, h, s, d, rfl⟩ : ∃ b h s d, z = ix4 b h s d := ⟨z 0, z 1, z 2, z 3, eq_ix4 z⟩
  obtain ⟨i, r, rfl⟩ := pos_split s
  exact (tail5_at m c b h _ d).trans ((arr10_at m c b i h d r).trans (ref47 _ _ b h _ d).symm)

theorem v_eq (c : Dev nD) : (Pipeline.afterTail₀ cfgs (dats m) 0 (V0 m) [hostOps1] c main_v6 : Vec Ideal S2x4x128x16384 .bf16)
    = val_main_v49 (F := Ideal) (a0 m c) := by
  funext z
  obtain ⟨b, h, d, s, rfl⟩ : ∃ b h d s, z = ix4 b h d s := ⟨z 0, z 1, z 2, z 3, eq_ix4 z⟩
  obtain ⟨i, r, rfl⟩ := pos_split s
  exact (tail6_at m c b h d _).trans ((arr11_at m c b i h d r).trans (ref49 _ b h d _).symm)

theorem qi_eq (c : Dev nD) : ((dats m 0 c).arrAt 12 cfg0.N : Vec Ideal S2x1024x16x16x64 .bf16)
    = val_main_v50 (F := Ideal) (a0 m c) := by
  funext z
  obtain ⟨b, s, h, r, d, rfl⟩ : ∃ b s h r d, z = ix5 b s h r d := ⟨z 0, z 1, z 2, z 3, z 4, eq_ix5 z⟩
  obtain ⟨i, g, rfl⟩ : ∃ (i : Fin 64) (g : Fin 16), s = (⟨16 * i.val + g.val, by omega⟩ : Fin 1024) :=
    ⟨⟨s.val / 16, by omega⟩, ⟨s.val % 16, by omega⟩, Fin.ext (by show s.val = 16 * (s.val / 16) + s.val % 16; omega)⟩
  exact (arr12_at m c b i g h r d).trans (ref50 _ b i g h r d).symm

theorem ki_eq (c : Dev nD) : ((dats m 0 c).arrAt 13 cfg0.N : Vec Ideal S2x64x64x256 .bf16)
    = val_main_v51 (F := Ideal) (a1 m c) := by
  funext z
  obtain ⟨b, i, d, r, rfl⟩ : ∃ b i d r, z = ix4 b i d r := ⟨z 0, z 1, z 2, z 3, eq_ix4 z⟩
  exact (arr13_at m c b i d r).trans (ref51 _ b i d r).symm

/-- The kernel's run: its five results, and its arguments as they were. -/
theorem run_results : θ_run defs (onTc (τ := τ) (main (F := Ideal))) ⟨m, fun _ => 0, ρ⟩ fun r => ∀ c : Dev nD,
      r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_v3_3) = (dats m 0 c).arrAt 12 cfg0.N
      ∧ r.2.mem ((c.tc : Thread nD τ).loc main_v3_4) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h.1 c).2 main_v4 (Pipeline.mem_restRefs_of main_v4 (by decide) (by decide)),
       (h.1 c).2 main_v5 (Pipeline.mem_restRefs_of main_v5 (by decide) (by decide)),
       (h.1 c).2 main_v6 (Pipeline.mem_restRefs_of main_v6 (by decide) (by decide)),
       (h.1 c).1 12, (h.1 c).1 13, h.2 c⟩)
    (θ_run_and (run_main m ρ) (unchanged m ρ))

end Cert.Proof.Prep
end
-- ==== Proof.lean ====
/-
Both programs run to their end without a fault, leave their argument arrays as they were, and leave every semaphore at
zero.
-/
module

public import proofs.«01_k».proof.Defs
public import proofs.«01_k».proof.Proof.KernelFrame
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.In.Skeleton
public import proofs.«01_k».proof.Proof.Gen.InIdeal.Skeleton
public import proofs.«01_k».proof.Proof.Gen.In.Loops
public import proofs.«01_k».proof.Proof.Gen.InIdeal.Loops
public import proofs.«01_k».proof.Proof.Gen.InRefIdeal.Run
public import proofs.«01_k».proof.Proof.Gen.InRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal.Run
public import proofs.«01_k».proof.Proof.Gen.MixRefIdeal.Read
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepRefIdeal.Run
public import proofs.«01_k».proof.Proof.Gen.PrepRefIdeal.Read
public import proofs.«01_k».proof.Proof.AdaValue
public import proofs.«01_k».proof.Proof.FfnRefValue
public import proofs.«01_k».proof.Proof.InBitsRun
public import proofs.«01_k».proof.Proof.InValue
public import proofs.«01_k».proof.Proof.MergeValue
public import proofs.«01_k».proof.Proof.MixRun
public import proofs.«01_k».proof.Proof.MixValue
public import proofs.«01_k».proof.Proof.OutValue
public import Idealize.ShloMosaic.Lib.Quiescent
public import proofs.«01_k».proof.Proof.PrepValue

@[expose] public section

noncomputable section

namespace Cert.Proof

open Idealize.ShloMosaic Idealize.SL.Sem

/-- The plain feed-forward block uses no semaphore, and leaves its arguments as they were. -/
theorem ffnRef_frame [Cert.FfnRefIdeal.Facts] : Cert.quiescent_FfnRefIdeal := fun m ρ _ =>
  (θ_run _ _ _).mono (fun r h => ⟨fun c => (h c).2, sem_eq_zero_of_no_sems (by decide) r.2⟩)
    (Cert.FfnRefIdeal.Value.run (F := Ideal) m ρ)

/-- The feed-forward kernel and the plain block end with equal results. -/
theorem ffn_equal : Cert.algebraic_FfnIdeal_FfnRefIdeal := fun m ρ m' ρ' _ hargs =>
  ⟨Cert.FfnIdeal.Value.G8 m, Cert.FfnIdeal.Value.run m ρ,
    (θ_run _ _ _).mono (fun _ h c => ⟨(h c).1.trans (by
        obtain ⟨e0, e1, e2, e3, e4, e5, e6, e7⟩ := hargs c
        rw [Cert.FfnRefIdeal.Read.val_main_v31_eq, e0, e1, e2, e3, e4, e5, e6, e7]
        exact (Cert.Proof.Ffn.G8_eq_ref m c).symm), (h c).2⟩)
      (Cert.FfnRefIdeal.Value.run (F := Ideal) m' ρ')⟩

/-- The plain input projection uses no semaphore, and leaves its arguments as they were. -/
theorem inRef_frame [Cert.InRefIdeal.Facts] : Cert.quiescent_InRefIdeal := fun m ρ _ =>
  (θ_run _ _ _).mono (fun r h => ⟨fun c => (h c).2.2, sem_eq_zero_of_no_sems (by decide) r.2⟩)
    (Cert.InRefIdeal.Value.run (F := Ideal) m ρ)

/-- The input projection's kernel and the plain projection end with equal results. -/
theorem in_equal : Cert.algebraic_InIdeal_InRefIdeal := fun m ρ m' ρ' _ hargs =>
  ⟨_, _, Cert.Proof.In.run_results m ρ,
    (θ_run _ _ _).mono (fun _ h c => ⟨(h c).1.trans (by
        obtain ⟨e0, e1, e2, e3, e4⟩ := hargs c
        rw [Cert.InRefIdeal.Read.val_main_v30_eq, e0, e1, e2, e3, e4]
        exact (Cert.Proof.In.main_eq m c).symm), (h c).2.1.trans (by
        obtain ⟨e0, e1, e2, e3, e4⟩ := hargs c
        rw [Cert.InRefIdeal.Read.val_main_v29_eq, e0, e1, e2, e3, e4]
        exact (Cert.Proof.In.small_eq m c).symm), (h c).2.2⟩)
      (Cert.InRefIdeal.Value.run (F := Ideal) m' ρ')⟩

/-- The plain merge uses no semaphore, and leaves its arguments as they were. -/
theorem mergeRef_frame [Cert.MergeRefIdeal.Facts] : Cert.quiescent_MergeRefIdeal := fun m ρ _ =>
  (θ_run _ _ _).mono (fun r h => ⟨fun c => (h c).2, sem_eq_zero_of_no_sems (by decide) r.2⟩)
    (Cert.MergeRefIdeal.Value.run (F := Ideal) m ρ)

/-- The merge kernel and the plain merge end with equal results. -/
theorem merge_equal : Cert.algebraic_MergeIdeal_MergeRefIdeal := fun m ρ m' ρ' _ hargs =>
  ⟨_, Cert.MergeIdeal.Value.run_blocks m ρ,
    (θ_run _ _ _).mono (fun _ h c => ⟨(h c).1.trans (by
        obtain ⟨e0, e1, e2, e3, e4⟩ := hargs c
        rw [Cert.MergeRefIdeal.Read.val_main_v20_eq, e0, e1, e2, e3, e4]
        exact (Cert.Proof.Merge.result_eq m c).symm), (h c).2⟩)
      (Cert.MergeRefIdeal.Value.run (F := Ideal) m' ρ')⟩

/-- The plain output projection uses no semaphore, and leaves its arguments as they were. -/
theorem outRef_frame [Cert.OutRefIdeal.Facts] : Cert.quiescent_OutRefIdeal := fun m ρ _ =>
  (θ_run _ _ _).mono (fun r h => ⟨fun c => (h c).2, sem_eq_zero_of_no_sems (by decide) r.2⟩)
    (Cert.OutRefIdeal.Value.run (F := Ideal) m ρ)

/-- The output projection's kernel and the plain projection end with equal results. -/
theorem out_equal : Cert.algebraic_OutIdeal_OutRefIdeal := fun m ρ m' ρ' _ hargs =>
  ⟨_, Cert.OutIdeal.Value.run_blocks m ρ,
    (θ_run _ _ _).mono (fun _ h c => ⟨(h c).1.trans (by
        obtain ⟨e0, e1, e2, e3⟩ := hargs c
        rw [Cert.OutRefIdeal.Read.val_main_v5_eq, e0, e1, e2, e3]
        exact (Cert.Proof.Out.result_eq m c).symm), (h c).2⟩)
      (Cert.OutRefIdeal.Value.run (F := Ideal) m' ρ')⟩

/-- The plain projection of the conditioning uses no semaphore, and leaves its arguments as they were. -/
theorem adaRef_frame [Cert.AdaRefIdeal.Facts] : Cert.quiescent_AdaRefIdeal := fun m ρ _ =>
  (θ_run _ _ _).mono (fun r h => ⟨fun c => (h c).2, sem_eq_zero_of_no_sems (by decide) r.2⟩)
    (Cert.AdaRefIdeal.Value.run (F := Ideal) m ρ)

/-- The kernel that projects the conditioning and the plain projection end with equal results. -/
theorem ada_equal : Cert.algebraic_AdaIdeal_AdaRefIdeal := fun m ρ m' ρ' _ hargs =>
  ⟨_, Cert.AdaIdeal.Value.run_blocks m ρ,
    (θ_run _ _ _).mono (fun _ h c => ⟨(h c).1.trans (by
        obtain ⟨e0, e1, e2⟩ := hargs c
        rw [Cert.AdaRefIdeal.Read.val_main_v4_eq, e0, e1, e2]
        exact (Cert.Proof.Ada.result_eq m c).symm), (h c).2⟩)
      (Cert.AdaRefIdeal.Value.run (F := Ideal) m' ρ')⟩

/-- The plain end of the mixer uses no semaphore, and leaves its arguments as they were. -/
theorem mixRef_frame [Cert.MixRefIdeal.Facts] : Cert.quiescent_MixRefIdeal := fun m ρ _ =>
  (θ_run _ _ _).mono (fun r h => ⟨fun c => (h c).2, sem_eq_zero_of_no_sems (by decide) r.2⟩)
    (Cert.MixRefIdeal.Value.run (F := Ideal) m ρ)

/-- The three calls at the mixer's end, one after another, and the plain text end with equal results. -/
theorem mix_equal : Cert.algebraic_MixIdeal_MixRefIdeal := fun m ρ m' ρ' _ hargs =>
  ⟨_, Cert.Proof.Mix.run_result m ρ,
    (θ_run _ _ _).mono (fun _ h c => ⟨(h c).1.trans (by
        obtain ⟨e0, e1, e2, e3, e4, e5, e6, e7, e8, e9⟩ := hargs c
        rw [Cert.MixRefIdeal.Read.val_main_v32_eq, e0, e1, e2, e3, e4, e5, e6, e7, e8, e9]
        exact (Cert.Proof.Mix.result_eq m ρ c).symm), (h c).2⟩)
      (Cert.MixRefIdeal.Value.run (F := Ideal) m' ρ')⟩

/-- The plain preparation uses no semaphore, and leaves its arguments as they were. -/
theorem prepRef_frame [Cert.PrepRefIdeal.Facts] : Cert.quiescent_PrepRefIdeal := fun m ρ _ =>
  (θ_run _ _ _).mono (fun r h => ⟨fun c => (h c).2.2.2.2.2, sem_eq_zero_of_no_sems (by decide) r.2⟩)
    (Cert.PrepRefIdeal.Value.run (F := Ideal) m ρ)

/-- The attention's preparation kernel and the plain preparation end with equal results. -/
theorem prep_equal : Cert.algebraic_PrepIdeal_PrepRefIdeal := fun m ρ m' ρ' _ hargs =>
  ⟨_, _, _, _, _, Cert.Proof.Prep.run_results m ρ,
    (θ_run _ _ _).mono (fun _ h c => ⟨(h c).1.trans (by
        obtain ⟨e0, e1, e2, e3, e4⟩ := hargs c
        rw [Cert.PrepRefIdeal.Read.val_main_v45_eq, e0, e3]
        exact (Cert.Proof.Prep.q_eq m c).symm), (h c).2.1.trans (by
        obtain ⟨e0, e1, e2, e3, e4⟩ := hargs c
        rw [Cert.PrepRefIdeal.Read.val_main_v47_eq, e0, e4]
        exact (Cert.Proof.Prep.k_eq m c).symm), (h c).2.2.1.trans (by
        obtain ⟨e0, e1, e2, e3, e4⟩ := hargs c
        rw [Cert.PrepRefIdeal.Read.val_main_v49_eq, e0]
        exact (Cert.Proof.Prep.v_eq m c).symm), (h c).2.2.2.1.trans (by
        obtain ⟨e0, e1, e2, e3, e4⟩ := hargs c
        rw [Cert.PrepRefIdeal.Read.val_main_v50_eq, e0]
        exact (Cert.Proof.Prep.qi_eq m c).symm), (h c).2.2.2.2.1.trans (by
        obtain ⟨e0, e1, e2, e3, e4⟩ := hargs c
        rw [Cert.PrepRefIdeal.Read.val_main_v51_eq, e1]
        exact (Cert.Proof.Prep.ki_eq m c).symm), (h c).2.2.2.2.2⟩)
      (Cert.PrepRefIdeal.Value.run (F := Ideal) m' ρ')⟩

/-- The indexer's kernel and the plain selection both run and leave their arguments as they were, and the kernels of the
    feed-forward block, the input projection, the merge, the output projection and the conditioning's
    projection, the last three of them one after another, and the attention's preparation, end with the plain results. -/
theorem claim : Cert.Claim :=
  ⟨Cert.Kernel.Gen.facts, Cert.Reference.Gen.facts, Cert.Ffn.Gen.facts, Cert.FfnIdeal.Gen.facts, Cert.FfnRefIdeal.Gen.facts,
    Cert.In.Gen.facts, Cert.InIdeal.Gen.facts, Cert.InRefIdeal.Gen.facts,
    Cert.Merge.Gen.facts, Cert.MergeIdeal.Gen.facts, Cert.MergeRefIdeal.Gen.facts,
    Cert.Out.Gen.facts, Cert.OutIdeal.Gen.facts, Cert.OutRefIdeal.Gen.facts,
    Cert.Ada.Gen.facts, Cert.AdaIdeal.Gen.facts, Cert.AdaRefIdeal.Gen.facts,
    Cert.Mix.Gen.facts, Cert.MixIdeal.Gen.facts, Cert.MixRefIdeal.Gen.facts,
    Cert.Prep.Gen.facts, Cert.PrepIdeal.Gen.facts, Cert.PrepRefIdeal.Gen.facts,
    fun m ρ _ => Cert.Proof.Kernel.frame m ρ, fun m ρ _ => Cert.Reference.Gen.frame m ρ,
    fun m ρ _ => Cert.Ffn.Gen.frame m ρ, fun m ρ _ => Cert.FfnIdeal.Gen.frame m ρ, ffnRef_frame,
    fun m ρ _ => Cert.Proof.InBits.frame m ρ, fun m ρ _ => Cert.Proof.In.frame m ρ, inRef_frame,
    fun m ρ _ => Cert.Merge.Gen.frame m ρ, fun m ρ _ => Cert.MergeIdeal.Gen.frame m ρ, mergeRef_frame,
    fun m ρ _ => Cert.Out.Gen.frame m ρ, fun m ρ _ => Cert.OutIdeal.Gen.frame m ρ, outRef_frame,
    fun m ρ _ => Cert.Ada.Gen.frame m ρ, fun m ρ _ => Cert.AdaIdeal.Gen.frame m ρ, adaRef_frame,
    fun m ρ _ => Cert.Mix.Gen.frame m ρ, fun m ρ _ => Cert.MixIdeal.Gen.frame m ρ, mixRef_frame,
    fun m ρ _ => Cert.Prep.Gen.frame m ρ, fun m ρ _ => Cert.PrepIdeal.Gen.frame m ρ, prepRef_frame,
    trivial, ffn_equal, trivial, in_equal, trivial, merge_equal, trivial, out_equal, trivial, ada_equal, trivial, mix_equal,
    trivial, prep_equal⟩

end Cert.Proof

end
